-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "c11" .f32 0x3F8CCCCD#32 ((147639501 / 134217728 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x3x32x32 : Shape := ⟨4, ![256, 3, 32, 32]⟩
abbrev S32x3x3x3 : Shape := ⟨4, ![32, 3, 3, 3]⟩
abbrev S32 : Shape := ⟨1, ![32]⟩
abbrev S64x32x3x3 : Shape := ⟨4, ![64, 32, 3, 3]⟩
abbrev S64 : Shape := ⟨1, ![64]⟩
abbrev S64x32x4x4 : Shape := ⟨4, ![64, 32, 4, 4]⟩
abbrev S32x3x4x4 : Shape := ⟨4, ![32, 3, 4, 4]⟩
abbrev S3 : Shape := ⟨1, ![3]⟩
abbrev S64x64 : Shape := ⟨2, ![64, 64]⟩
abbrev S_ : Shape := ⟨0, ![]⟩

class Facts : Prop where
  bcast_S_S256x3x32x32 : S_.BroadcastsInDim S256x3x32x32 (![] : Fin 0 → Fin S256x3x32x32.rank)
  bcast_S_S32x3x3x3 : S_.BroadcastsInDim S32x3x3x3 (![] : Fin 0 → Fin S32x3x3x3.rank)
  bcast_S_S32 : S_.BroadcastsInDim S32 (![] : Fin 0 → Fin S32.rank)
  bcast_S_S64x32x3x3 : S_.BroadcastsInDim S64x32x3x3 (![] : Fin 0 → Fin S64x32x3x3.rank)
  bcast_S_S64 : S_.BroadcastsInDim S64 (![] : Fin 0 → Fin S64.rank)
  bcast_S_S64x64 : S_.BroadcastsInDim S64x64 (![] : Fin 0 → Fin S64x64.rank)

variable [Facts]

def fn {F : FTy → Type} [FloatOps F] (main_arg0 : FVec F S256x3x32x32 .f32) (main_arg1 : FVec F S32x3x3x3 .f32) (main_arg2 : FVec F S32 .f32) (main_arg3 : FVec F S64x32x3x3 .f32) (main_arg4 : FVec F S64 .f32) (main_arg5 : FVec F S64x32x4x4 .f32) (main_arg6 : FVec F S32 .f32) (main_arg7 : FVec F S32x3x4x4 .f32) (main_arg8 : FVec F S3 .f32) (main_arg9 : FVec F S64x64 .f32) : IVec S256x3x32x32 1 × IVec S32x3x3x3 1 × IVec S32 1 × IVec S64x32x3x3 1 × IVec S64 1 × IVec S64x64 1 :=
  let main_v0 : FVec F S256x3x32x32 .f32 := Host.absf main_arg0
  let main_cst : FVec F S_ .f32 := constant S_ .f32 0x7F800000#32
  let main_v1 : FVec F S256x3x32x32 .f32 := broadcastInDim S256x3x32x32 ![] bcast_S_S256x3x32x32 main_cst
  let main_v2 : IVec S256x3x32x32 1 := cmpf .olt main_v0 main_v1
  let main_v3 : FVec F S32x3x3x3 .f32 := Host.absf main_arg1
  let main_cst_0 : FVec F S_ .f32 := constant S_ .f32 0x7F800000#32
  let main_v4 : FVec F S32x3x3x3 .f32 := broadcastInDim S32x3x3x3 ![] bcast_S_S32x3x3x3 main_cst_0
  let main_v5 : IVec S32x3x3x3 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S64x32x3x3 .f32 := Host.absf main_arg3
  let main_cst_2 : FVec F S_ .f32 := constant S_ .f32 0x7F800000#32
  let main_v10 : FVec F S64x32x3x3 .f32 := broadcastInDim S64x32x3x3 ![] bcast_S_S64x32x3x3 main_cst_2
  let main_v11 : IVec S64x32x3x3 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64x64 .f32 := Host.absf main_arg9
  let main_cst_4 : FVec F S_ .f32 := constant S_ .f32 0x7F800000#32
  let main_v16 : FVec F S64x64 .f32 := broadcastInDim S64x64 ![] bcast_S_S64x64 main_cst_4
  let main_v17 : IVec S64x64 1 := cmpf .olt main_v15 main_v16
  (main_v2, main_v5, main_v8, main_v11, main_v14, main_v17)
-- ==== Kernel.lean ====
abbrev S256x3x32x32 : Shape := ⟨4, ![256, 3, 32, 32]⟩
abbrev S32x3x3x3 : Shape := ⟨4, ![32, 3, 3, 3]⟩
abbrev S32 : Shape := ⟨1, ![32]⟩
abbrev S64x32x3x3 : Shape := ⟨4, ![64, 32, 3, 3]⟩
abbrev S64 : Shape := ⟨1, ![64]⟩
abbrev S64x32x4x4 : Shape := ⟨4, ![64, 32, 4, 4]⟩
abbrev S32x3x4x4 : Shape := ⟨4, ![32, 3, 4, 4]⟩
abbrev S3 : Shape := ⟨1, ![3]⟩
abbrev S64x64 : Shape := ⟨2, ![64, 64]⟩
abbrev S3x32x32x256 : Shape := ⟨4, ![3, 32, 32, 256]⟩
abbrev S_ : Shape := ⟨0, ![]⟩
abbrev S3x34x34x256 : Shape := ⟨4, ![3, 34, 34, 256]⟩
abbrev S3x3x32x3 : Shape := ⟨4, ![3, 3, 32, 3]⟩
abbrev S288x3 : Shape := ⟨2, ![288, 3]⟩
abbrev S3x3x64x32 : Shape := ⟨4, ![3, 3, 64, 32]⟩
abbrev S576x32 : Shape := ⟨2, ![576, 32]⟩
abbrev S64x32x1x1 : Shape := ⟨4, ![64, 32, 1, 1]⟩
abbrev S64x32 : Shape := ⟨2, ![64, 32]⟩
abbrev S32x64 : Shape := ⟨2, ![32, 64]⟩
abbrev S512x64 : Shape := ⟨2, ![512, 64]⟩
abbrev S32x3x1x1 : Shape := ⟨4, ![32, 3, 1, 1]⟩
abbrev S32x3 : Shape := ⟨2, ![32, 3]⟩
abbrev S3x32 : Shape := ⟨2, ![3, 32]⟩
abbrev S48x32 : Shape := ⟨2, ![48, 32]⟩
abbrev S32x1 : Shape := ⟨2, ![32, 1]⟩
abbrev S64x1 : Shape := ⟨2, ![64, 1]⟩
abbrev S3x1 : Shape := ⟨2, ![3, 1]⟩
abbrev S1x1 : Shape := ⟨2, ![1, 1]⟩
abbrev S3x34x34x128 : Shape := ⟨4, ![3, 34, 34, 128]⟩
abbrev S32x32768 : Shape := ⟨2, ![32, 32768]⟩
abbrev S3x32x32x128 : Shape := ⟨4, ![3, 32, 32, 128]⟩
abbrev S3x16x2x32x128 : Shape := ⟨5, ![3, 16, 2, 32, 128]⟩
abbrev S3x16x1x32x128 : Shape := ⟨5, ![3, 16, 1, 32, 128]⟩
abbrev S3x16x32x128 : Shape := ⟨4, ![3, 16, 32, 128]⟩
abbrev S3x16x16x2x128 : Shape := ⟨5, ![3, 16, 16, 2, 128]⟩
abbrev S3x16x16x1x128 : Shape := ⟨5, ![3, 16, 16, 1, 128]⟩
abbrev S3x16x16x128 : Shape := ⟨4, ![3, 16, 16, 128]⟩
abbrev S3x32768 : Shape := ⟨2, ![3, 32768]⟩
abbrev S32x16x16x128 : Shape := ⟨4, ![32, 16, 16, 128]⟩
abbrev S32x16x1x128 : Shape := ⟨4, ![32, 16, 1, 128]⟩
abbrev S32x16x18x128 : Shape := ⟨4, ![32, 16, 18, 128]⟩
abbrev S32x1x18x128 : Shape := ⟨4, ![32, 1, 18, 128]⟩
abbrev S32x18x18x128 : Shape := ⟨4, ![32, 18, 18, 128]⟩
abbrev S64x8192 : Shape := ⟨2, ![64, 8192]⟩
abbrev S32x8x2x16x128 : Shape := ⟨5, ![32, 8, 2, 16, 128]⟩
abbrev S32x8x1x16x128 : Shape := ⟨5, ![32, 8, 1, 16, 128]⟩
abbrev S32x8x16x128 : Shape := ⟨4, ![32, 8, 16, 128]⟩
abbrev S32x8x8x2x128 : Shape := ⟨5, ![32, 8, 8, 2, 128]⟩
abbrev S32x8x8x1x128 : Shape := ⟨5, ![32, 8, 8, 1, 128]⟩
abbrev S32x8x8x128 : Shape := ⟨4, ![32, 8, 8, 128]⟩
abbrev S32x8192 : Shape := ⟨2, ![32, 8192]⟩
abbrev S8192 : Shape := ⟨1, ![8192]⟩
abbrev S1x8192 : Shape := ⟨2, ![1, 8192]⟩
abbrev S1x1x8192 : Shape := ⟨3, ![1, 1, 8192]⟩
abbrev S1 : Shape := ⟨1, ![1]⟩
abbrev S1x1x1 : Shape := ⟨3, ![1, 1, 1]⟩
abbrev S64x8x8x128 : Shape := ⟨4, ![64, 8, 8, 128]⟩
abbrev S64x8x1x128 : Shape := ⟨4, ![64, 8, 1, 128]⟩
abbrev S64x8x10x128 : Shape := ⟨4, ![64, 8, 10, 128]⟩
abbrev S64x1x10x128 : Shape := ⟨4, ![64, 1, 10, 128]⟩
abbrev S64x10x10x128 : Shape := ⟨4, ![64, 10, 10, 128]⟩
abbrev S1x3x32768 : Shape := ⟨3, ![1, 3, 32768]⟩

abbrev nBuf : Space → Nat
  | .hbm => 122
  | .vmem => 13
  | .smem => 0
  | _ => 0

abbrev bufTy : (tb : Table) → Fin (tcTables nBuf tb) → BufTy
  | .hbm, ⟨0, _⟩ => ⟨S256x3x32x32, .f32⟩
  | .hbm, ⟨1, _⟩ => ⟨S32x3x3x3, .f32⟩
  | .hbm, ⟨2, _⟩ => ⟨S32, .f32⟩
  | .hbm, ⟨3, _⟩ => ⟨S64x32x3x3, .f32⟩
  | .hbm, ⟨4, _⟩ => ⟨S64, .f32⟩
  | .hbm, ⟨5, _⟩ => ⟨S64x32x4x4, .f32⟩
  | .hbm, ⟨6, _⟩ => ⟨S32, .f32⟩
  | .hbm, ⟨7, _⟩ => ⟨S32x3x4x4, .f32⟩
  | .hbm, ⟨8, _⟩ => ⟨S3, .f32⟩
  | .hbm, ⟨9, _⟩ => ⟨S64x64, .f32⟩
  | .hbm, ⟨10, _⟩ => ⟨S3x32x32x256, .f32⟩
  | .hbm, ⟨11, _⟩ => ⟨S_, .i32⟩
  | .hbm, ⟨12, _⟩ => ⟨S_, .f32⟩
  | .hbm, ⟨13, _⟩ => ⟨S3x34x34x256, .f32⟩
  | .hbm, ⟨14, _⟩ => ⟨S3x3x32x3, .f32⟩
  | .hbm, ⟨15, _⟩ => ⟨S288x3, .f32⟩
  | .hbm, ⟨16, _⟩ => ⟨S3x3x64x32, .f32⟩
  | .hbm, ⟨17, _⟩ => ⟨S576x32, .f32⟩
  | .hbm, ⟨18, _⟩ => ⟨S64x32x1x1, .f32⟩
  | .hbm, ⟨19, _⟩ => ⟨S64x32, .f32⟩
  | .hbm, ⟨20, _⟩ => ⟨S32x64, .f32⟩
  | .hbm, ⟨21, _⟩ => ⟨S64x32x1x1, .f32⟩
  | .hbm, ⟨22, _⟩ => ⟨S64x32, .f32⟩
  | .hbm, ⟨23, _⟩ => ⟨S32x64, .f32⟩
  | .hbm, ⟨24, _⟩ => ⟨S64x32x1x1, .f32⟩
  | .hbm, ⟨25, _⟩ => ⟨S64x32, .f32⟩
  | .hbm, ⟨26, _⟩ => ⟨S32x64, .f32⟩
  | .hbm, ⟨27, _⟩ => ⟨S64x32x1x1, .f32⟩
  | .hbm, ⟨28, _⟩ => ⟨S64x32, .f32⟩
  | .hbm, ⟨29, _⟩ => ⟨S32x64, .f32⟩
  | .hbm, ⟨30, _⟩ => ⟨S64x32x1x1, .f32⟩
  | .hbm, ⟨31, _⟩ => ⟨S64x32, .f32⟩
  | .hbm, ⟨32, _⟩ => ⟨S32x64, .f32⟩
  | .hbm, ⟨33, _⟩ => ⟨S64x32x1x1, .f32⟩
  | .hbm, ⟨34, _⟩ => ⟨S64x32, .f32⟩
  | .hbm, ⟨35, _⟩ => ⟨S32x64, .f32⟩
  | .hbm, ⟨36, _⟩ => ⟨S64x32x1x1, .f32⟩
  | .hbm, ⟨37, _⟩ => ⟨S64x32, .f32⟩
  | .hbm, ⟨38, _⟩ => ⟨S32x64, .f32⟩
  | .hbm, ⟨39, _⟩ => ⟨S64x32x1x1, .f32⟩
  | .hbm, ⟨40, _⟩ => ⟨S64x32, .f32⟩
  | .hbm, ⟨41, _⟩ => ⟨S32x64, .f32⟩
  | .hbm, ⟨42, _⟩ => ⟨S64x32x1x1, .f32⟩
  | .hbm, ⟨43, _⟩ => ⟨S64x32, .f32⟩
  | .hbm, ⟨44, _⟩ => ⟨S32x64, .f32⟩
  | .hbm, ⟨45, _⟩ => ⟨S64x32x1x1, .f32⟩
  | .hbm, ⟨46, _⟩ => ⟨S64x32, .f32⟩
  | .hbm, ⟨47, _⟩ => ⟨S32x64, .f32⟩
  | .hbm, ⟨48, _⟩ => ⟨S64x32x1x1, .f32⟩
  | .hbm, ⟨49, _⟩ => ⟨S64x32, .f32⟩
  | .hbm, ⟨50, _⟩ => ⟨S32x64, .f32⟩
  | .hbm, ⟨51, _⟩ => ⟨S64x32x1x1, .f32⟩
  | .hbm, ⟨52, _⟩ => ⟨S64x32, .f32⟩
  | .hbm, ⟨53, _⟩ => ⟨S32x64, .f32⟩
  | .hbm, ⟨54, _⟩ => ⟨S64x32x1x1, .f32⟩
  | .hbm, ⟨55, _⟩ => ⟨S64x32, .f32⟩
  | .hbm, ⟨56, _⟩ => ⟨S32x64, .f32⟩
  | .hbm, ⟨57, _⟩ => ⟨S64x32x1x1, .f32⟩
  | .hbm, ⟨58, _⟩ => ⟨S64x32, .f32⟩
  | .hbm, ⟨59, _⟩ => ⟨S32x64, .f32⟩
  | .hbm, ⟨60, _⟩ => ⟨S64x32x1x1, .f32⟩
  | .hbm, ⟨61, _⟩ => ⟨S64x32, .f32⟩
  | .hbm, ⟨62, _⟩ => ⟨S32x64, .f32⟩
  | .hbm, ⟨63, _⟩ => ⟨S64x32x1x1, .f32⟩
  | .hbm, ⟨64, _⟩ => ⟨S64x32, .f32⟩
  | .hbm, ⟨65, _⟩ => ⟨S32x64, .f32⟩
  | .hbm, ⟨66, _⟩ => ⟨S512x64, .f32⟩
  | .hbm, ⟨67, _⟩ => ⟨S32x3x1x1, .f32⟩
  | .hbm, ⟨68, _⟩ => ⟨S32x3, .f32⟩
  | .hbm, ⟨69, _⟩ => ⟨S3x32, .f32⟩
  | .hbm, ⟨70, _⟩ => ⟨S32x3x1x1, .f32⟩
  | .hbm, ⟨71, _⟩ => ⟨S32x3, .f32⟩
  | .hbm, ⟨72, _⟩ => ⟨S3x32, .f32⟩
  | .hbm, ⟨73, _⟩ => ⟨S32x3x1x1, .f32⟩
  | .hbm, ⟨74, _⟩ => ⟨S32x3, .f32⟩
  | .hbm, ⟨75, _⟩ => ⟨S3x32, .f32⟩
  | .hbm, ⟨76, _⟩ => ⟨S32x3x1x1, .f32⟩
  | .hbm, ⟨77, _⟩ => ⟨S32x3, .f32⟩
  | .hbm, ⟨78, _⟩ => ⟨S3x32, .f32⟩
  | .hbm, ⟨79, _⟩ => ⟨S32x3x1x1, .f32⟩
  | .hbm, ⟨80, _⟩ => ⟨S32x3, .f32⟩
  | .hbm, ⟨81, _⟩ => ⟨S3x32, .f32⟩
  | .hbm, ⟨82, _⟩ => ⟨S32x3x1x1, .f32⟩
  | .hbm, ⟨83, _⟩ => ⟨S32x3, .f32⟩
  | .hbm, ⟨84, _⟩ => ⟨S3x32, .f32⟩
  | .hbm, ⟨85, _⟩ => ⟨S32x3x1x1, .f32⟩
  | .hbm, ⟨86, _⟩ => ⟨S32x3, .f32⟩
  | .hbm, ⟨87, _⟩ => ⟨S3x32, .f32⟩
  | .hbm, ⟨88, _⟩ => ⟨S32x3x1x1, .f32⟩
  | .hbm, ⟨89, _⟩ => ⟨S32x3, .f32⟩
  | .hbm, ⟨90, _⟩ => ⟨S3x32, .f32⟩
  | .hbm, ⟨91, _⟩ => ⟨S32x3x1x1, .f32⟩
  | .hbm, ⟨92, _⟩ => ⟨S32x3, .f32⟩
  | .hbm, ⟨93, _⟩ => ⟨S3x32, .f32⟩
  | .hbm, ⟨94, _⟩ => ⟨S32x3x1x1, .f32⟩
  | .hbm, ⟨95, _⟩ => ⟨S32x3, .f32⟩
  | .hbm, ⟨96, _⟩ => ⟨S3x32, .f32⟩
  | .hbm, ⟨97, _⟩ => ⟨S32x3x1x1, .f32⟩
  | .hbm, ⟨98, _⟩ => ⟨S32x3, .f32⟩
  | .hbm, ⟨99, _⟩ => ⟨S3x32, .f32⟩
  | .hbm, ⟨100, _⟩ => ⟨S32x3x1x1, .f32⟩
  | .hbm, ⟨101, _⟩ => ⟨S32x3, .f32⟩
  | .hbm, ⟨102, _⟩ => ⟨S3x32, .f32⟩
  | .hbm, ⟨103, _⟩ => ⟨S32x3x1x1, .f32⟩
  | .hbm, ⟨104, _⟩ => ⟨S32x3, .f32⟩
  | .hbm, ⟨105, _⟩ => ⟨S3x32, .f32⟩
  | .hbm, ⟨106, _⟩ => ⟨S32x3x1x1, .f32⟩
  | .hbm, ⟨107, _⟩ => ⟨S32x3, .f32⟩
  | .hbm, ⟨108, _⟩ => ⟨S3x32, .f32⟩
  | .hbm, ⟨109, _⟩ => ⟨S32x3x1x1, .f32⟩
  | .hbm, ⟨110, _⟩ => ⟨S32x3, .f32⟩
  | .hbm, ⟨111, _⟩ => ⟨S3x32, .f32⟩
  | .hbm, ⟨112, _⟩ => ⟨S32x3x1x1, .f32⟩
  | .hbm, ⟨113, _⟩ => ⟨S32x3, .f32⟩
  | .hbm, ⟨114, _⟩ => ⟨S3x32, .f32⟩
  | .hbm, ⟨115, _⟩ => ⟨S48x32, .f32⟩
  | .hbm, ⟨116, _⟩ => ⟨S32x1, .f32⟩
  | .hbm, ⟨117, _⟩ => ⟨S64x1, .f32⟩
  | .hbm, ⟨118, _⟩ => ⟨S32x1, .f32⟩
  | .hbm, ⟨119, _⟩ => ⟨S3x1, .f32⟩
  | .hbm, ⟨120, _⟩ => ⟨S64x64, .f32⟩
  | .hbm, ⟨121, _⟩ => ⟨S1x1, .f32⟩
  | .local _ .vmem, ⟨0, _⟩ => ⟨S3x34x34x128, .f32⟩
  | .local _ .vmem, ⟨1, _⟩ => ⟨S3x34x34x128, .f32⟩
  | .local _ .vmem, ⟨2, _⟩ => ⟨S288x3, .f32⟩
  | .local _ .vmem, ⟨3, _⟩ => ⟨S576x32, .f32⟩
  | .local _ .vmem, ⟨4, _⟩ => ⟨S512x64, .f32⟩
  | .local _ .vmem, ⟨5, _⟩ => ⟨S48x32, .f32⟩
  | .local _ .vmem, ⟨6, _⟩ => ⟨S32x1, .f32⟩
  | .local _ .vmem, ⟨7, _⟩ => ⟨S64x1, .f32⟩
  | .local _ .vmem, ⟨8, _⟩ => ⟨S32x1, .f32⟩
  | .local _ .vmem, ⟨9, _⟩ => ⟨S3x1, .f32⟩
  | .local _ .vmem, ⟨10, _⟩ => ⟨S64x64, .f32⟩
  | .local _ .vmem, ⟨11, _⟩ => ⟨S64x64, .f32⟩
  | .local _ .vmem, ⟨12, _⟩ => ⟨S1x1, .f32⟩
  | _, _ => ⟨S256x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x34x34x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S576x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "c11" => some ((147639501 / 134217728 : ℝ) : EReal)
  | _ => none
-- ==== ReferenceIdeal.lean ====
abbrev S256x3x32x32 : Shape := ⟨4, ![256, 3, 32, 32]⟩
abbrev S32x3x3x3 : Shape := ⟨4, ![32, 3, 3, 3]⟩
abbrev S32 : Shape := ⟨1, ![32]⟩
abbrev S64x32x3x3 : Shape := ⟨4, ![64, 32, 3, 3]⟩
abbrev S64 : Shape := ⟨1, ![64]⟩
abbrev S64x32x4x4 : Shape := ⟨4, ![64, 32, 4, 4]⟩
abbrev S32x3x4x4 : Shape := ⟨4, ![32, 3, 4, 4]⟩
abbrev S3 : Shape := ⟨1, ![3]⟩
abbrev S64x64 : Shape := ⟨2, ![64, 64]⟩
abbrev S_ : Shape := ⟨0, ![]⟩
abbrev S256x3x34x34 : Shape := ⟨4, ![256, 3, 34, 34]⟩
abbrev S256x3x16x34 : Shape := ⟨4, ![256, 3, 16, 34]⟩
abbrev S256x3x1x16x34 : Shape := ⟨5, ![256, 3, 1, 16, 34]⟩
abbrev S256x3x3x16x34 : Shape := ⟨5, ![256, 3, 3, 16, 34]⟩
abbrev S256x3x3x16x16 : Shape := ⟨5, ![256, 3, 3, 16, 16]⟩
abbrev S256x3x3x16x1x16 : Shape := ⟨6, ![256, 3, 3, 16, 1, 16]⟩
abbrev S256x3x3x16x3x16 : Shape := ⟨6, ![256, 3, 3, 16, 3, 16]⟩
abbrev S32x256x16x16 : Shape := ⟨4, ![32, 256, 16, 16]⟩
abbrev S256x32x16x16 : Shape := ⟨4, ![256, 32, 16, 16]⟩
abbrev S1x32x1x1 : Shape := ⟨4, ![1, 32, 1, 1]⟩
abbrev S256x32x18x18 : Shape := ⟨4, ![256, 32, 18, 18]⟩
abbrev S256x32x8x18 : Shape := ⟨4, ![256, 32, 8, 18]⟩
abbrev S256x32x1x8x18 : Shape := ⟨5, ![256, 32, 1, 8, 18]⟩
abbrev S256x32x3x8x18 : Shape := ⟨5, ![256, 32, 3, 8, 18]⟩
abbrev S256x32x3x8x8 : Shape := ⟨5, ![256, 32, 3, 8, 8]⟩
abbrev S256x32x3x8x1x8 : Shape := ⟨6, ![256, 32, 3, 8, 1, 8]⟩
abbrev S256x32x3x8x3x8 : Shape := ⟨6, ![256, 32, 3, 8, 3, 8]⟩
abbrev S64x256x8x8 : Shape := ⟨4, ![64, 256, 8, 8]⟩
abbrev S256x64x8x8 : Shape := ⟨4, ![256, 64, 8, 8]⟩
abbrev S1x64x1x1 : Shape := ⟨4, ![1, 64, 1, 1]⟩
abbrev S256x8x8x64 : Shape := ⟨4, ![256, 8, 8, 64]⟩
abbrev S256x64x64 : Shape := ⟨3, ![256, 64, 64]⟩
abbrev S256x64x1x64 : Shape := ⟨4, ![256, 64, 1, 64]⟩
abbrev S1x1x64x64 : Shape := ⟨4, ![1, 1, 64, 64]⟩
abbrev S256x64x64x64 : Shape := ⟨4, ![256, 64, 64, 64]⟩
abbrev S256x64 : Shape := ⟨2, ![256, 64]⟩
abbrev S256x64x1 : Shape := ⟨3, ![256, 64, 1]⟩
abbrev S32x64x4x4 : Shape := ⟨4, ![32, 64, 4, 4]⟩
abbrev S256x64x19x19 : Shape := ⟨4, ![256, 64, 19, 19]⟩
abbrev S256x64x16x19 : Shape := ⟨4, ![256, 64, 16, 19]⟩
abbrev S256x64x1x16x19 : Shape := ⟨5, ![256, 64, 1, 16, 19]⟩
abbrev S256x64x4x16x19 : Shape := ⟨5, ![256, 64, 4, 16, 19]⟩
abbrev S256x64x4x16x16 : Shape := ⟨5, ![256, 64, 4, 16, 16]⟩
abbrev S256x64x4x16x1x16 : Shape := ⟨6, ![256, 64, 4, 16, 1, 16]⟩
abbrev S256x64x4x16x4x16 : Shape := ⟨6, ![256, 64, 4, 16, 4, 16]⟩
abbrev S3x32x4x4 : Shape := ⟨4, ![3, 32, 4, 4]⟩
abbrev S256x32x35x35 : Shape := ⟨4, ![256, 32, 35, 35]⟩
abbrev S256x32x32x35 : Shape := ⟨4, ![256, 32, 32, 35]⟩
abbrev S256x32x1x32x35 : Shape := ⟨5, ![256, 32, 1, 32, 35]⟩
abbrev S256x32x4x32x35 : Shape := ⟨5, ![256, 32, 4, 32, 35]⟩
abbrev S256x32x4x32x32 : Shape := ⟨5, ![256, 32, 4, 32, 32]⟩
abbrev S256x32x4x32x1x32 : Shape := ⟨6, ![256, 32, 4, 32, 1, 32]⟩
abbrev S256x32x4x32x4x32 : Shape := ⟨6, ![256, 32, 4, 32, 4, 32]⟩
abbrev S3x256x32x32 : Shape := ⟨4, ![3, 256, 32, 32]⟩
abbrev S1x3x1x1 : Shape := ⟨4, ![1, 3, 1, 1]⟩
abbrev S256x3072 : Shape := ⟨2, ![256, 3072]⟩
abbrev S256 : Shape := ⟨1, ![256]⟩
abbrev S1x1 : Shape := ⟨2, ![1, 1]⟩

abbrev nBuf : Space → Nat
  | .hbm => 169
  | .vmem => 0
  | .smem => 0
  | _ => 0

abbrev hbmTy0_0 (i : Nat) : BufTy := match i % 128 with
  | 0 => ⟨S256x3x32x32, .f32⟩
  | 1 => ⟨S32x3x3x3, .f32⟩
  | 2 => ⟨S32, .f32⟩
  | 3 => ⟨S64x32x3x3, .f32⟩
  | 4 => ⟨S64, .f32⟩
  | 5 => ⟨S64x32x4x4, .f32⟩
  | 6 => ⟨S32, .f32⟩
  | 7 => ⟨S32x3x4x4, .f32⟩
  | 8 => ⟨S3, .f32⟩
  | 9 => ⟨S64x64, .f32⟩
  | 10 => ⟨S_, .i32⟩
  | 11 => ⟨S_, .f32⟩
  | 12 => ⟨S256x3x34x34, .f32⟩
  | 13 => ⟨S256x3x16x34, .f32⟩
  | 14 => ⟨S256x3x16x34, .f32⟩
  | 15 => ⟨S256x3x16x34, .f32⟩
  | 16 => ⟨S256x3x1x16x34, .f32⟩
  | 17 => ⟨S256x3x1x16x34, .f32⟩
  | 18 => ⟨S256x3x1x16x34, .f32⟩
  | 19 => ⟨S256x3x3x16x34, .f32⟩
  | 20 => ⟨S256x3x3x16x16, .f32⟩
  | 21 => ⟨S256x3x3x16x16, .f32⟩
  | 22 => ⟨S256x3x3x16x16, .f32⟩
  | 23 => ⟨S256x3x3x16x1x16, .f32⟩
  | 24 => ⟨S256x3x3x16x1x16, .f32⟩
  | 25 => ⟨S256x3x3x16x1x16, .f32⟩
  | 26 => ⟨S256x3x3x16x3x16, .f32⟩
  | 27 => ⟨S32x256x16x16, .f32⟩
  | 28 => ⟨S256x32x16x16, .f32⟩
  | 29 => ⟨S1x32x1x1, .f32⟩
  | 30 => ⟨S256x32x16x16, .f32⟩
  | 31 => ⟨S256x32x16x16, .f32⟩
  | 32 => ⟨S_, .f32⟩
  | 33 => ⟨S256x32x16x16, .f32⟩
  | 34 => ⟨S256x32x16x16, .f32⟩
  | 35 => ⟨S_, .i32⟩
  | 36 => ⟨S_, .f32⟩
  | 37 => ⟨S256x32x18x18, .f32⟩
  | 38 => ⟨S256x32x8x18, .f32⟩
  | 39 => ⟨S256x32x8x18, .f32⟩
  | 40 => ⟨S256x32x8x18, .f32⟩
  | 41 => ⟨S256x32x1x8x18, .f32⟩
  | 42 => ⟨S256x32x1x8x18, .f32⟩
  | 43 => ⟨S256x32x1x8x18, .f32⟩
  | 44 => ⟨S256x32x3x8x18, .f32⟩
  | 45 => ⟨S256x32x3x8x8, .f32⟩
  | 46 => ⟨S256x32x3x8x8, .f32⟩
  | 47 => ⟨S256x32x3x8x8, .f32⟩
  | 48 => ⟨S256x32x3x8x1x8, .f32⟩
  | 49 => ⟨S256x32x3x8x1x8, .f32⟩
  | 50 => ⟨S256x32x3x8x1x8, .f32⟩
  | 51 => ⟨S256x32x3x8x3x8, .f32⟩
  | 52 => ⟨S64x256x8x8, .f32⟩
  | 53 => ⟨S256x64x8x8, .f32⟩
  | 54 => ⟨S1x64x1x1, .f32⟩
  | 55 => ⟨S256x64x8x8, .f32⟩
  | 56 => ⟨S256x64x8x8, .f32⟩
  | 57 => ⟨S256x8x8x64, .f32⟩
  | 58 => ⟨S256x64x64, .f32⟩
  | 59 => ⟨S256x64x1x64, .f32⟩
  | 60 => ⟨S1x1x64x64, .f32⟩
  | 61 => ⟨S256x64x64x64, .f32⟩
  | 62 => ⟨S256x64x64x64, .f32⟩
  | 63 => ⟨S256x64x64x64, .f32⟩
  | 64 => ⟨S256x64x64x64, .f32⟩
  | 65 => ⟨S_, .f32⟩
  | 66 => ⟨S256x64x64, .f32⟩
  | 67 => ⟨S256x64x64, .f32⟩
  | 68 => ⟨S256x64x64, .i32⟩
  | 69 => ⟨S_, .f32⟩
  | 70 => ⟨S_, .i32⟩
  | 71 => ⟨S256x64, .f32⟩
  | 72 => ⟨S256x64, .i32⟩
  | 73 => ⟨S_, .i32⟩
  | 74 => ⟨S256x64, .i32⟩
  | 75 => ⟨S256x64, .i1⟩
  | 76 => ⟨S_, .i32⟩
  | 77 => ⟨S256x64, .i32⟩
  | 78 => ⟨S256x64, .i32⟩
  | 79 => ⟨S256x64, .i32⟩
  | 80 => ⟨S256x64x1, .i32⟩
  | 81 => ⟨S256x64x64, .f32⟩
  | 82 => ⟨S256x8x8x64, .f32⟩
  | 83 => ⟨S256x64x8x8, .f32⟩
  | 84 => ⟨S64x32x4x4, .f32⟩
  | 85 => ⟨S32x64x4x4, .f32⟩
  | 86 => ⟨S_, .f32⟩
  | 87 => ⟨S256x64x19x19, .f32⟩
  | 88 => ⟨S256x64x16x19, .f32⟩
  | 89 => ⟨S256x64x16x19, .f32⟩
  | 90 => ⟨S256x64x16x19, .f32⟩
  | 91 => ⟨S256x64x16x19, .f32⟩
  | 92 => ⟨S256x64x1x16x19, .f32⟩
  | 93 => ⟨S256x64x1x16x19, .f32⟩
  | 94 => ⟨S256x64x1x16x19, .f32⟩
  | 95 => ⟨S256x64x1x16x19, .f32⟩
  | 96 => ⟨S256x64x4x16x19, .f32⟩
  | 97 => ⟨S256x64x4x16x16, .f32⟩
  | 98 => ⟨S256x64x4x16x16, .f32⟩
  | 99 => ⟨S256x64x4x16x16, .f32⟩
  | 100 => ⟨S256x64x4x16x16, .f32⟩
  | 101 => ⟨S256x64x4x16x1x16, .f32⟩
  | 102 => ⟨S256x64x4x16x1x16, .f32⟩
  | 103 => ⟨S256x64x4x16x1x16, .f32⟩
  | 104 => ⟨S256x64x4x16x1x16, .f32⟩
  | 105 => ⟨S256x64x4x16x4x16, .f32⟩
  | 106 => ⟨S32x256x16x16, .f32⟩
  | 107 => ⟨S256x32x16x16, .f32⟩
  | 108 => ⟨S1x32x1x1, .f32⟩
  | 109 => ⟨S256x32x16x16, .f32⟩
  | 110 => ⟨S256x32x16x16, .f32⟩
  | 111 => ⟨S_, .f32⟩
  | 112 => ⟨S256x32x16x16, .f32⟩
  | 113 => ⟨S256x32x16x16, .f32⟩
  | 114 => ⟨S32x3x4x4, .f32⟩
  | 115 => ⟨S3x32x4x4, .f32⟩
  | 116 => ⟨S_, .f32⟩
  | 117 => ⟨S256x32x35x35, .f32⟩
  | 118 => ⟨S256x32x32x35, .f32⟩
  | 119 => ⟨S256x32x32x35, .f32⟩
  | 120 => ⟨S256x32x32x35, .f32⟩
  | 121 => ⟨S256x32x32x35, .f32⟩
  | 122 => ⟨S256x32x1x32x35, .f32⟩
  | 123 => ⟨S256x32x1x32x35, .f32⟩
  | 124 => ⟨S256x32x1x32x35, .f32⟩
  | 125 => ⟨S256x32x1x32x35, .f32⟩
  | 126 => ⟨S256x32x4x32x35, .f32⟩
  | 127 => ⟨S256x32x4x32x32, .f32⟩
  | _ => ⟨S256x3x32x32, .f32⟩

abbrev hbmTy0_1 (i : Nat) : BufTy := match i % 128 with
  | 0 => ⟨S256x32x4x32x32, .f32⟩
  | 1 => ⟨S256x32x4x32x32, .f32⟩
  | 2 => ⟨S256x32x4x32x32, .f32⟩
  | 3 => ⟨S256x32x4x32x1x32, .f32⟩
  | 4 => ⟨S256x32x4x32x1x32, .f32⟩
  | 5 => ⟨S256x32x4x32x1x32, .f32⟩
  | 6 => ⟨S256x32x4x32x1x32, .f32⟩
  | 7 => ⟨S256x32x4x32x4x32, .f32⟩
  | 8 => ⟨S3x256x32x32, .f32⟩
  | 9 => ⟨S256x3x32x32, .f32⟩
  | 10 => ⟨S1x3x1x1, .f32⟩
  | 11 => ⟨S256x3x32x32, .f32⟩
  | 12 => ⟨S256x3x32x32, .f32⟩
  | 13 => ⟨S256x3x32x32, .f32⟩
  | 14 => ⟨S256x3x32x32, .f32⟩
  | 15 => ⟨S_, .f32⟩
  | 16 => ⟨S256x3x32x32, .f32⟩
  | 17 => ⟨S256x3x32x32, .f32⟩
  | 18 => ⟨S256x3072, .f32⟩
  | 19 => ⟨S_, .f32⟩
  | 20 => ⟨S256, .f32⟩
  | 21 => ⟨S_, .f32⟩
  | 22 => ⟨S_, .f32⟩
  | 23 => ⟨S_, .f32⟩
  | 24 => ⟨S_, .f32⟩
  | 25 => ⟨S256x64x64, .f32⟩
  | 26 => ⟨S256x64x64, .f32⟩
  | 27 => ⟨S_, .f32⟩
  | 28 => ⟨S256x64, .f32⟩
  | 29 => ⟨S256x64, .f32⟩
  | 30 => ⟨S_, .f32⟩
  | 31 => ⟨S256, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S1x1, .f32⟩
  | _ => ⟨S256x3x32x32, .f32⟩

abbrev hbmTy (i : Nat) : BufTy := match i / 128 with
  | 0 => hbmTy0_0 i
  | 1 => hbmTy0_1 i
  | _ => ⟨S256x3x32x32, .f32⟩

abbrev bufTy : (tb : Table) → Fin (tcTables nBuf tb) → BufTy
  | .hbm, ⟨i, _⟩ => hbmTy i
  | _, _ => ⟨S256x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_call1_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_1 : Ref sig .tc := ⟨.hbm, 65, rfl⟩
abbrev main_v50 : Ref sig .tc := ⟨.hbm, 66, rfl⟩
abbrev main_v51 : Ref sig .tc := ⟨.hbm, 67, rfl⟩
abbrev main_call2_v0 : Ref sig .tc := ⟨.hbm, 68, rfl⟩
abbrev main_call2_cst : Ref sig .tc := ⟨.hbm, 69, rfl⟩
abbrev main_call2_c : Ref sig .tc := ⟨.hbm, 70, rfl⟩
abbrev main_call2_v1_0 : Ref sig .tc := ⟨.hbm, 71, rfl⟩
abbrev main_v52 : Ref sig .tc := ⟨.hbm, 72, rfl⟩
abbrev main_c_2 : Ref sig .tc := ⟨.hbm, 73, rfl⟩
abbrev main_v53 : Ref sig .tc := ⟨.hbm, 74, rfl⟩
abbrev main_v54 : Ref sig .tc := ⟨.hbm, 75, rfl⟩
abbrev main_c_3 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_4 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_5 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_6 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_7 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_8 : Ref sig .tc := ⟨.hbm, 147, rfl⟩
abbrev main_v121 : Ref sig .tc := ⟨.hbm, 148, rfl⟩
abbrev main_cst_9 : Ref sig .tc := ⟨.hbm, 149, rfl⟩
abbrev main_v122 : Ref sig .tc := ⟨.hbm, 150, rfl⟩
abbrev main_cst_10 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_11 : Ref sig .tc := ⟨.hbm, 155, rfl⟩
abbrev main_v126 : Ref sig .tc := ⟨.hbm, 156, rfl⟩
abbrev main_v127 : Ref sig .tc := ⟨.hbm, 157, rfl⟩
abbrev main_cst_12 : Ref sig .tc := ⟨.hbm, 158, rfl⟩
abbrev main_v128 : Ref sig .tc := ⟨.hbm, 159, rfl⟩
abbrev main_cst_13 : Ref sig .tc := ⟨.hbm, 160, rfl⟩
abbrev main_v129 : Ref sig .tc := ⟨.hbm, 161, rfl⟩
abbrev main_cst_14 : Ref sig .tc := ⟨.hbm, 162, rfl⟩
abbrev main_v130 : Ref sig .tc := ⟨.hbm, 163, rfl⟩
abbrev main_v131 : Ref sig .tc := ⟨.hbm, 164, rfl⟩
abbrev main_cst_15 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩

abbrev nD : Nat := 1
abbrev τ : Topo := Topo.v7x

variable {F : FTy → Type} [FloatOps F]
-- ==== Proof.Taps.lean ====
/-
  How the kernel's arrays read, entry by entry: an array of images holds channel, row, column and image (the lane); a
  flattened one holds channel against (row, column, image).
-/
module

public import Idealize.ShloMosaic.Lib.MatmulPlain
public import Idealize.ShloMosaic.Lib.Pipeline.Value
public import Idealize.ShloMosaic.Lib.ValueIdx
public import Idealize.ShloMosaic.PureOps.Ideal

@[expose] public section

noncomputable section

namespace Cert.Vq

open Idealize.ShloMosaic Idealize.ShloMosaic.ValueIdx

/-! ## Flat positions -/

/-- The flat position of row `y`, column `x`, image `n` in a plane `h` wide. -/
def fl {h N : ℕ} (hN : N = h * h * 128) (y x : Fin h) (n : Fin 128) : Fin N :=
  ⟨(y.val * h + x.val) * 128 + n.val, by
    subst hN
    have h1 : y.val * h + x.val + 1 ≤ h * h := by nlinarith [y.isLt, x.isLt]
    have := n.isLt; nlinarith⟩

/-- Rows, columns and images run through the flat positions once. -/
def flEquiv {h N : ℕ} (hN : N = h * h * 128) : (Fin h × Fin h) × Fin 128 ≃ Fin N :=
  ((Equiv.prodCongr finProdFinEquiv (Equiv.refl _)).trans finProdFinEquiv).trans (finCongr hN.symm)

theorem flEquiv_apply {h N : ℕ} (hN : N = h * h * 128) (y x : Fin h) (n : Fin 128) :
    flEquiv hN ((y, x), n) = fl hN y x n := by
  apply Fin.ext
  simp [flEquiv, fl, finProdFinEquiv]
  ring

/-- A sum over the flat positions is the sum over images, rows and columns. -/
theorem sum_fl {h N : ℕ} (hN : N = h * h * 128) (f : Fin N → EReal) :
    ∑ j, f j = ∑ n : Fin 128, ∑ y : Fin h, ∑ x : Fin h, f (fl hN y x n) := by
  rw [← (flEquiv hN).sum_comp f, Fintype.sum_prod_type, Finset.sum_comm]
  refine Finset.sum_congr rfl fun n _ => ?_
  rw [Fintype.sum_prod_type]
  simp only [flEquiv_apply]

/-- Every flat position is one. -/
theorem exists_fl {h N : ℕ} (hN : N = h * h * 128) (j : Fin N) : ∃ y x n, j = fl hN y x n := by
  obtain ⟨⟨⟨y, x⟩, n⟩, rfl⟩ := (flEquiv hN).surjective j
  exact ⟨y, x, n, flEquiv_apply hN y x n⟩

/-! ## Sizes and pieces -/

theorem numel2 (a b : ℕ) : (⟨2, ![a, b]⟩ : Shape).numel = a * b := by
  show ∏ i, (![a, b] : Fin 2 → ℕ) i = _
  simp [Fin.prod_univ_succ]

theorem numel4 (a b c d : ℕ) : (⟨4, ![a, b, c, d]⟩ : Shape).numel = a * b * c * d := by
  show ∏ i, (![a, b, c, d] : Fin 4 → ℕ) i = _
  simp [Fin.prod_univ_succ]; ring

theorem numel5 (a b c d e : ℕ) : (⟨5, ![a, b, c, d, e]⟩ : Shape).numel = a * b * c * d * e := by
  show ∏ i, (![a, b, c, d, e] : Fin 5 → ℕ) i = _
  simp [Fin.prod_univ_succ]; ring

/-- Same number of elements: rank 4 to rank 2. -/
theorem casts42 {a b c d e f : ℕ} (h : a * b * c * d = e * f) : (⟨4, ![a, b, c, d]⟩ : Shape).ShapeCasts ⟨2, ![e, f]⟩ := by
  show Shape.numel _ = Shape.numel _
  rw [numel2, numel4, h]

/-- Same number of elements: rank 2 to rank 4. -/
theorem casts24 {a b c d e f : ℕ} (h : a * b * c * d = e * f) : (⟨2, ![e, f]⟩ : Shape).ShapeCasts ⟨4, ![a, b, c, d]⟩ := by
  show Shape.numel _ = Shape.numel _
  rw [numel2, numel4, h]

/-- Same number of elements: rank 4 to rank 5. -/
theorem casts45 {a b c d a' b' c' d' e' : ℕ} (h : a * b * c * d = a' * b' * c' * d' * e') :
    (⟨4, ![a, b, c, d]⟩ : Shape).ShapeCasts ⟨5, ![a', b', c', d', e']⟩ := by
  show Shape.numel _ = Shape.numel _
  rw [numel4, numel5, h]

/-- Same number of elements: rank 5 to rank 4. -/
theorem casts54 {a b c d a' b' c' d' e' : ℕ} (h : a * b * c * d = a' * b' * c' * d' * e') :
    (⟨5, ![a', b', c', d', e']⟩ : Shape).ShapeCasts ⟨4, ![a, b, c, d]⟩ := by
  show Shape.numel _ = Shape.numel _
  rw [numel4, numel5, h]

section cat
variable {α : Type} {t s₁ s₂ s₃ : Shape} (a : Fin t.rank) (x₁ : s₁.Idx → α) (x₂ : s₂.Idx → α) (x₃ : s₃.Idx → α)
  (h : Shape.Concatenates [s₁, s₂, s₃] t a) (j : t.Idx)

/-- A three-piece concatenation inside its first piece. -/
theorem cat3_fst (hr : s₁.rank = t.rank) (i : s₁.Idx) (hi : ∀ b : Fin s₁.rank, b.cast hr ≠ a → (i b).val = (j (b.cast hr)).val)
    (ha : (i (a.cast hr.symm)).val = (j a).val) : concatenate t a [⟨s₁, x₁⟩, ⟨s₂, x₂⟩, ⟨s₃, x₃⟩] h j = x₁ i :=
  concatenate_apply_piece a [⟨s₁, x₁⟩, ⟨s₂, x₂⟩, ⟨s₃, x₃⟩] h j 0 (by simp) s₁ x₁ rfl hr 0 (by simp) i hi (by omega)

/-- A three-piece concatenation inside its second piece, the first `p` long. -/
theorem cat3_snd (hr₁ : s₁.rank = t.rank) (p : ℕ) (hp : s₁.size (a.cast hr₁.symm) = p) (hr : s₂.rank = t.rank) (i : s₂.Idx)
    (hi : ∀ b : Fin s₂.rank, b.cast hr ≠ a → (i b).val = (j (b.cast hr)).val) (ha : p + (i (a.cast hr.symm)).val = (j a).val) :
    concatenate t a [⟨s₁, x₁⟩, ⟨s₂, x₂⟩, ⟨s₃, x₃⟩] h j = x₂ i :=
  concatenate_apply_piece a [⟨s₁, x₁⟩, ⟨s₂, x₂⟩, ⟨s₃, x₃⟩] h j 1 (by simp) s₂ x₂ rfl hr p (by simp [hr₁, hp]) i hi ha

/-- A three-piece concatenation inside its third piece, the first two `p` and `q` long. -/
theorem cat3_trd (hr₁ : s₁.rank = t.rank) (p : ℕ) (hp : s₁.size (a.cast hr₁.symm) = p) (hr₂ : s₂.rank = t.rank) (q : ℕ)
    (hq : s₂.size (a.cast hr₂.symm) = q) (hr : s₃.rank = t.rank) (i : s₃.Idx)
    (hi : ∀ b : Fin s₃.rank, b.cast hr ≠ a → (i b).val = (j (b.cast hr)).val) (ha : p + q + (i (a.cast hr.symm)).val = (j a).val) :
    concatenate t a [⟨s₁, x₁⟩, ⟨s₂, x₂⟩, ⟨s₃, x₃⟩] h j = x₃ i :=
  concatenate_apply_piece a [⟨s₁, x₁⟩, ⟨s₂, x₂⟩, ⟨s₃, x₃⟩] h j 2 (by simp) s₃ x₃ rfl hr (p + q) (by simp [hr₁, hp, hr₂, hq]) i hi ha

end cat

/-- Two unit pieces side by side, at piece `p`. -/
theorem cat2_apply {α : Type} {t s : Shape} (a : Fin t.rank) (x₁ x₂ : s.Idx → α) (h : Shape.Concatenates [s, s] t a) (j : t.Idx)
    (hr : s.rank = t.rank) (h1 : s.size (a.cast hr.symm) = 1) (p : Fin 2) (i : s.Idx)
    (hi : ∀ b : Fin s.rank, b.cast hr ≠ a → (i b).val = (j (b.cast hr)).val) (ha : p.val = (j a).val) :
    concatenate t a [⟨s, x₁⟩, ⟨s, x₂⟩] h j = if p = 0 then x₁ i else x₂ i := by
  have h0 : (i (a.cast hr.symm)).val = 0 := by have := (i (a.cast hr.symm)).isLt; omega
  match p with
  | 0 => exact concatenate_apply_piece a [⟨s, x₁⟩, ⟨s, x₂⟩] h j 0 (by simp) s x₁ rfl hr 0 (by simp) i hi (by rw [h0]; exact ha)
  | 1 => exact concatenate_apply_piece a [⟨s, x₁⟩, ⟨s, x₂⟩] h j 1 (by simp) s x₂ rfl hr 1 (by simp [hr, h1]) i hi (by rw [h0]; exact ha)

/-! ## Layouts -/

variable {α : Type}

/-- The images of `c` channels, `H` rows and columns, 128 to a block. -/
abbrev imgs (c H : ℕ) : Shape := ⟨4, ![c, H, H, 128]⟩

/-- An image array flattened. -/
def flat (c h N : ℕ) (hN : N = h * h * 128) (x : (imgs c h).Idx → α) : (⟨2, ![c, N]⟩ : Shape).Idx → α :=
  shapeCast ⟨2, ![c, N]⟩ x (casts42 (by subst hN; ring))

theorem flat_apply {c h N : ℕ} (hN : N = h * h * 128) (x : (imgs c h).Idx → α) (o : Fin c) (y z : Fin h) (n : Fin 128) :
    flat c h N hN x (ix2 o (fl hN y z n)) = x (ix4 o y z n) := by
  refine shapeCast_apply x _ _ _ ?_
  rw [Shape.rowMajor_val_four, Shape.rowMajor_val_two]
  show ((o.val * h + y.val) * h + z.val) * 128 + n.val = o.val * N + ((y.val * h + z.val) * 128 + n.val)
  rw [hN]; ring

/-- A flat array laid out as images. -/
def unflat (c h N : ℕ) (hN : N = h * h * 128) (x : (⟨2, ![c, N]⟩ : Shape).Idx → α) : (imgs c h).Idx → α :=
  shapeCast (imgs c h) x (casts24 (by subst hN; ring))

theorem unflat_apply {c h N : ℕ} (hN : N = h * h * 128) (x : (⟨2, ![c, N]⟩ : Shape).Idx → α) (o : Fin c) (y z : Fin h) (n : Fin 128) :
    unflat c h N hN x (ix4 o y z n) = x (ix2 o (fl hN y z n)) := by
  refine shapeCast_apply x _ _ _ ?_
  rw [Shape.rowMajor_val_four, Shape.rowMajor_val_two]
  show o.val * N + ((y.val * h + z.val) * 128 + n.val) = ((o.val * h + y.val) * h + z.val) * 128 + n.val
  rw [hN]; ring

/-- Every second row and column from (`oy`, `ox`), flattened. -/
def pick (c ho H N oy ox : ℕ) (hy : oy < 2) (hx : ox < 2) (hH : H = 2 * ho) (hN : N = ho * ho * 128) (X : (imgs c H).Idx → α) :
    (⟨2, ![c, N]⟩ : Shape).Idx → α :=
  shapeCast ⟨2, ![c, N]⟩
    (shapeCast ⟨4, ![c, ho, ho, 128]⟩
      (extractStridedSlice ⟨5, ![c, ho, ho, 1, 128]⟩ ![0, 0, 0, ox, 0]
        (shapeCast ⟨5, ![c, ho, ho, 2, 128]⟩
          (shapeCast ⟨4, ![c, ho, H, 128]⟩
            (extractStridedSlice ⟨5, ![c, ho, 1, H, 128]⟩ ![0, 0, oy, 0, 0]
              (shapeCast ⟨5, ![c, ho, 2, H, 128]⟩ X (casts45 (by subst hH; ring)))
              ⟨rfl, fun a => by match a with | 0 => simp | 1 => simp | 2 => simp; omega | 3 => simp | 4 => simp⟩)
            (casts54 (by ring)))
          (casts45 (by subst hH; ring)))
        ⟨rfl, fun a => by match a with | 0 => simp | 1 => simp | 2 => simp | 3 => simp; omega | 4 => simp⟩)
      (casts54 (by ring)))
    (casts42 (by subst hN; ring))

theorem pick_apply {c ho H N oy ox : ℕ} (hy : oy < 2) (hx : ox < 2) (hH : H = 2 * ho) (hN : N = ho * ho * 128) (X : (imgs c H).Idx → α)
    (o : Fin c) (y z : Fin ho) (n : Fin 128) :
    pick c ho H N oy ox hy hx hH hN X (ix2 o (fl hN y z n))
      = X (ix4 o ⟨2 * y.val + oy, by have := y.isLt; omega⟩ ⟨2 * z.val + ox, by have := z.isLt; omega⟩ n) := by
  have hz : 2 * z.val + ox < H := by have := z.isLt; omega
  unfold pick
  refine (shapeCast_apply _ _ _ (ix4 o y z n) ?_).trans ((shapeCast_apply _ _ _ (ix5 o y z (0 : Fin 1) n) ?_).trans
    ((extractStridedSlice_apply _ _ _ _ (ix5 o y z (⟨ox, hx⟩ : Fin 2) n) ?_).trans
      ((shapeCast_apply _ _ _ (ix4 o y (⟨2 * z.val + ox, hz⟩ : Fin H) n) ?_).trans
        ((shapeCast_apply _ _ _ (ix5 o y (0 : Fin 1) (⟨2 * z.val + ox, hz⟩ : Fin H) n) ?_).trans
          ((extractStridedSlice_apply _ _ _ _ (ix5 o y (⟨oy, hy⟩ : Fin 2) (⟨2 * z.val + ox, hz⟩ : Fin H) n) ?_).trans
            (shapeCast_apply _ _ _ _ ?_))))))
  · rw [Shape.rowMajor_val_four, Shape.rowMajor_val_two]
    show ((o.val * ho + y.val) * ho + z.val) * 128 + n.val = o.val * N + ((y.val * ho + z.val) * 128 + n.val)
    rw [hN]; ring
  · rw [Shape.rowMajor_val_four, Shape.rowMajor_val_five]
    show (((o.val * ho + y.val) * ho + z.val) * 1 + 0) * 128 + n.val = ((o.val * ho + y.val) * ho + z.val) * 128 + n.val
    ring
  · intro a; match a with
    | 0 => exact (Nat.zero_add _).symm
    | 1 => exact (Nat.zero_add _).symm
    | 2 => exact (Nat.zero_add _).symm
    | 3 => rfl
    | 4 => exact (Nat.zero_add _).symm
  · rw [Shape.rowMajor_val_four, Shape.rowMajor_val_five]
    show ((o.val * ho + y.val) * H + (2 * z.val + ox)) * 128 + n.val = (((o.val * ho + y.val) * ho + z.val) * 2 + ox) * 128 + n.val
    subst hH; ring
  · rw [Shape.rowMajor_val_four, Shape.rowMajor_val_five]
    show (((o.val * ho + y.val) * 1 + 0) * H + (2 * z.val + ox)) * 128 + n.val = ((o.val * ho + y.val) * H + (2 * z.val + ox)) * 128 + n.val
    ring
  · intro a; match a with
    | 0 => exact (Nat.zero_add _).symm
    | 1 => exact (Nat.zero_add _).symm
    | 2 => rfl
    | 3 => exact (Nat.zero_add _).symm
    | 4 => exact (Nat.zero_add _).symm
  · rw [Shape.rowMajor_val_four, Shape.rowMajor_val_five]
    show ((o.val * H + (2 * y.val + oy)) * H + (2 * z.val + ox)) * 128 + n.val = (((o.val * ho + y.val) * 2 + oy) * H + (2 * z.val + ox)) * 128 + n.val
    subst hH; ring

/-- The `H` rows and columns from (`i`, `j`) on. -/
def win (c P H i j : ℕ) (hi : i + H ≤ P) (hj : j + H ≤ P) (X : (imgs c P).Idx → α) : (imgs c H).Idx → α :=
  extractStridedSlice (imgs c H) ![0, i, j, 0] X
    ⟨rfl, fun a => by match a with | 0 => simp | 1 => simpa using hi | 2 => simpa using hj | 3 => simp⟩

theorem win_apply {c P H i j : ℕ} (hi : i + H ≤ P) (hj : j + H ≤ P) (X : (imgs c P).Idx → α) (o : Fin c) (y x : Fin H) (n : Fin 128) :
    win c P H i j hi hj X (ix4 o y x n)
      = X (ix4 o ⟨i + y.val, by have := y.isLt; omega⟩ ⟨j + x.val, by have := x.isLt; omega⟩ n) := by
  refine extractStridedSlice_apply _ _ _ _ _ fun a => ?_
  match a with
  | 0 => exact (Nat.zero_add _).symm
  | 1 => rfl
  | 2 => rfl
  | 3 => exact (Nat.zero_add _).symm

/-! ## A border of zeros -/

/-- A column of zeros on either side, then a row on either side. -/
def border (c H P : ℕ) (hP : P = H + 2) (z : α) (X : (imgs c H).Idx → α) : (imgs c P).Idx → α :=
  concatenate (imgs c P) 1
    [⟨⟨4, ![c, 1, P, 128]⟩, broadcast ⟨4, ![c, 1, P, 128]⟩ z⟩,
     ⟨⟨4, ![c, H, P, 128]⟩, concatenate ⟨4, ![c, H, P, 128]⟩ 2
        [⟨⟨4, ![c, H, 1, 128]⟩, broadcast ⟨4, ![c, H, 1, 128]⟩ z⟩, ⟨imgs c H, X⟩, ⟨⟨4, ![c, H, 1, 128]⟩, broadcast ⟨4, ![c, H, 1, 128]⟩ z⟩]
        (by
          refine ⟨by simp, ?_, by simp [hP]; omega⟩
          intro s hs; simp only [List.map, List.mem_cons, List.not_mem_nil, or_false] at hs
          rcases hs with rfl | rfl | rfl <;> refine ⟨rfl, fun b hb => ?_⟩ <;>
            (match b with | 0 => rfl | 1 => rfl | 2 => exact absurd rfl hb | 3 => rfl))⟩,
     ⟨⟨4, ![c, 1, P, 128]⟩, broadcast ⟨4, ![c, 1, P, 128]⟩ z⟩]
    (by
      refine ⟨by simp, ?_, by simp [hP]; omega⟩
      intro s hs; simp only [List.map, List.mem_cons, List.not_mem_nil, or_false] at hs
      rcases hs with rfl | rfl | rfl <;> refine ⟨rfl, fun b hb => ?_⟩ <;>
        (match b with | 0 => rfl | 1 => exact absurd rfl hb | 2 => rfl | 3 => rfl))

theorem border_apply {c H P : ℕ} (hP : P = H + 2) (z : α) (X : (imgs c H).Idx → α) (o : Fin c) (y x : Fin P) (n : Fin 128) :
    border c H P hP z X (ix4 o y x n)
      = if h : (1 ≤ y.val ∧ y.val ≤ H) ∧ (1 ≤ x.val ∧ x.val ≤ H) then X (ix4 o ⟨y.val - 1, by omega⟩ ⟨x.val - 1, by omega⟩ n) else z := by
  have hyl := y.isLt
  have hxl := x.isLt
  unfold border
  by_cases hy : 1 ≤ y.val ∧ y.val ≤ H
  · refine (cat3_snd (t := imgs c P) (s₁ := ⟨4, ![c, 1, P, 128]⟩) (s₂ := ⟨4, ![c, H, P, 128]⟩) (s₃ := ⟨4, ![c, 1, P, 128]⟩) (1 : Fin 4) _ _ _ _ (ix4 o y x n) rfl 1 rfl rfl (ix4 o (⟨y.val - 1, by omega⟩ : Fin H) x n)
      (fun b hb => by match b with | 0 => rfl | 1 => exact absurd rfl hb | 2 => rfl | 3 => rfl)
      (by show 1 + (y.val - 1) = y.val; omega)).trans ?_
    by_cases hx : 1 ≤ x.val ∧ x.val ≤ H
    · rw [dif_pos ⟨hy, hx⟩]
      exact cat3_snd (t := ⟨4, ![c, H, P, 128]⟩) (s₁ := ⟨4, ![c, H, 1, 128]⟩) (s₂ := imgs c H) (s₃ := ⟨4, ![c, H, 1, 128]⟩) (2 : Fin 4) _ _ _ _ (ix4 o (⟨y.val - 1, by omega⟩ : Fin H) x n) rfl 1 rfl rfl (ix4 o (⟨y.val - 1, by omega⟩ : Fin H) (⟨x.val - 1, by omega⟩ : Fin H) n)
        (fun b hb => by match b with | 0 => rfl | 1 => rfl | 2 => exact absurd rfl hb | 3 => rfl)
        (by show 1 + (x.val - 1) = x.val; omega)
    · rw [dif_neg (fun h => hx h.2)]
      by_cases h0 : x.val = 0
      · exact cat3_fst (t := ⟨4, ![c, H, P, 128]⟩) (s₁ := ⟨4, ![c, H, 1, 128]⟩) (s₂ := imgs c H) (s₃ := ⟨4, ![c, H, 1, 128]⟩) (2 : Fin 4) _ _ _ _ (ix4 o (⟨y.val - 1, by omega⟩ : Fin H) x n) rfl (ix4 o (⟨y.val - 1, by omega⟩ : Fin H) (0 : Fin 1) n)
          (fun b hb => by match b with | 0 => rfl | 1 => rfl | 2 => exact absurd rfl hb | 3 => rfl)
          (by show 0 = x.val; omega)
      · exact cat3_trd (t := ⟨4, ![c, H, P, 128]⟩) (s₁ := ⟨4, ![c, H, 1, 128]⟩) (s₂ := imgs c H) (s₃ := ⟨4, ![c, H, 1, 128]⟩) (2 : Fin 4) _ _ _ _ (ix4 o (⟨y.val - 1, by omega⟩ : Fin H) x n) rfl 1 rfl rfl H rfl rfl (ix4 o (⟨y.val - 1, by omega⟩ : Fin H) (0 : Fin 1) n)
          (fun b hb => by match b with | 0 => rfl | 1 => rfl | 2 => exact absurd rfl hb | 3 => rfl)
          (by show 1 + H + 0 = x.val; omega)
  · rw [dif_neg (fun h => hy h.1)]
    by_cases h0 : y.val = 0
    · exact cat3_fst (t := imgs c P) (s₁ := ⟨4, ![c, 1, P, 128]⟩) (s₂ := ⟨4, ![c, H, P, 128]⟩) (s₃ := ⟨4, ![c, 1, P, 128]⟩) (1 : Fin 4) _ _ _ _ (ix4 o y x n) rfl (ix4 o (0 : Fin 1) x n)
        (fun b hb => by match b with | 0 => rfl | 1 => exact absurd rfl hb | 2 => rfl | 3 => rfl)
        (by show 0 = y.val; omega)
    · exact cat3_trd (t := imgs c P) (s₁ := ⟨4, ![c, 1, P, 128]⟩) (s₂ := ⟨4, ![c, H, P, 128]⟩) (s₃ := ⟨4, ![c, 1, P, 128]⟩) (1 : Fin 4) _ _ _ _ (ix4 o y x n) rfl 1 rfl rfl H rfl rfl (ix4 o (0 : Fin 1) x n)
        (fun b hb => by match b with | 0 => rfl | 1 => exact absurd rfl hb | 2 => rfl | 3 => rfl)
        (by show 1 + H + 0 = y.val; omega)

/-! ## Interleaving four phases -/

/-- Two arrays of columns interleaved. -/
def weaveX (c h H : ℕ) (hH : H = 2 * h) (A B : (imgs c h).Idx → α) : (⟨4, ![c, h, H, 128]⟩ : Shape).Idx → α :=
  shapeCast ⟨4, ![c, h, H, 128]⟩
    (concatenate ⟨5, ![c, h, h, 2, 128]⟩ 3
      [⟨⟨5, ![c, h, h, 1, 128]⟩, shapeCast ⟨5, ![c, h, h, 1, 128]⟩ A (casts45 (by ring))⟩,
       ⟨⟨5, ![c, h, h, 1, 128]⟩, shapeCast ⟨5, ![c, h, h, 1, 128]⟩ B (casts45 (by ring))⟩]
      (by
        refine ⟨by simp, ?_, by simp⟩
        intro s hs; simp only [List.map, List.mem_cons, List.not_mem_nil, or_false, or_self] at hs
        subst hs; refine ⟨rfl, fun b hb => ?_⟩
        match b with | 0 => rfl | 1 => rfl | 2 => rfl | 3 => exact absurd rfl hb | 4 => rfl))
    (casts54 (by subst hH; ring))

theorem weaveX_apply {c h H : ℕ} (hH : H = 2 * h) (A B : (imgs c h).Idx → α) (o : Fin c) (y z : Fin h) (p : Fin 2) (n : Fin 128) :
    weaveX c h H hH A B (ix4 o y ⟨2 * z.val + p.val, by have := z.isLt; have := p.isLt; omega⟩ n)
      = if p = 0 then A (ix4 o y z n) else B (ix4 o y z n) := by
  unfold weaveX
  rw [shapeCast_apply _ _ _ (ix5 o y z p n)]
  refine (cat2_apply (t := ⟨5, ![c, h, h, 2, 128]⟩) (s := ⟨5, ![c, h, h, 1, 128]⟩) (3 : Fin 5) _ _ _ (ix5 o y z p n) rfl rfl p (ix5 o y z (0 : Fin 1) n)
    (fun b hb => by match b with | 0 => rfl | 1 => rfl | 2 => rfl | 3 => exact absurd rfl hb | 4 => rfl) rfl).trans ?_
  rw [shapeCast_apply A _ _ (ix4 o y z n), shapeCast_apply B _ _ (ix4 o y z n)]
  · rw [Shape.rowMajor_val_four, Shape.rowMajor_val_five]
    show ((o.val * h + y.val) * h + z.val) * 128 + n.val = (((o.val * h + y.val) * h + z.val) * 1 + 0) * 128 + n.val
    ring
  · rw [Shape.rowMajor_val_four, Shape.rowMajor_val_five]
    show ((o.val * h + y.val) * h + z.val) * 128 + n.val = (((o.val * h + y.val) * h + z.val) * 1 + 0) * 128 + n.val
    ring
  · rw [Shape.rowMajor_val_four, Shape.rowMajor_val_five]
    show (((o.val * h + y.val) * h + z.val) * 2 + p.val) * 128 + n.val = ((o.val * h + y.val) * H + (2 * z.val + p.val)) * 128 + n.val
    subst hH; ring

/-- Two arrays of rows interleaved. -/
def weaveY (c h H : ℕ) (hH : H = 2 * h) (A B : (⟨4, ![c, h, H, 128]⟩ : Shape).Idx → α) : (imgs c H).Idx → α :=
  shapeCast (imgs c H)
    (concatenate ⟨5, ![c, h, 2, H, 128]⟩ 2
      [⟨⟨5, ![c, h, 1, H, 128]⟩, shapeCast ⟨5, ![c, h, 1, H, 128]⟩ A (casts45 (by ring))⟩,
       ⟨⟨5, ![c, h, 1, H, 128]⟩, shapeCast ⟨5, ![c, h, 1, H, 128]⟩ B (casts45 (by ring))⟩]
      (by
        refine ⟨by simp, ?_, by simp⟩
        intro s hs; simp only [List.map, List.mem_cons, List.not_mem_nil, or_false, or_self] at hs
        subst hs; refine ⟨rfl, fun b hb => ?_⟩
        match b with | 0 => rfl | 1 => rfl | 2 => exact absurd rfl hb | 3 => rfl | 4 => rfl))
    (casts54 (by subst hH; ring))

theorem weaveY_apply {c h H : ℕ} (hH : H = 2 * h) (A B : (⟨4, ![c, h, H, 128]⟩ : Shape).Idx → α) (o : Fin c) (y : Fin h) (z : Fin H)
    (p : Fin 2) (n : Fin 128) :
    weaveY c h H hH A B (ix4 o ⟨2 * y.val + p.val, by have := y.isLt; have := p.isLt; omega⟩ z n)
      = if p = 0 then A (ix4 o y z n) else B (ix4 o y z n) := by
  unfold weaveY
  rw [shapeCast_apply _ _ _ (ix5 o y p z n)]
  refine (cat2_apply (t := ⟨5, ![c, h, 2, H, 128]⟩) (s := ⟨5, ![c, h, 1, H, 128]⟩) (2 : Fin 5) _ _ _ (ix5 o y p z n) rfl rfl p (ix5 o y (0 : Fin 1) z n)
    (fun b hb => by match b with | 0 => rfl | 1 => rfl | 2 => exact absurd rfl hb | 3 => rfl | 4 => rfl) rfl).trans ?_
  rw [shapeCast_apply A _ _ (ix4 o y z n), shapeCast_apply B _ _ (ix4 o y z n)]
  · rw [Shape.rowMajor_val_four, Shape.rowMajor_val_five]
    show ((o.val * h + y.val) * H + z.val) * 128 + n.val = (((o.val * h + y.val) * 1 + 0) * H + z.val) * 128 + n.val
    ring
  · rw [Shape.rowMajor_val_four, Shape.rowMajor_val_five]
    show ((o.val * h + y.val) * H + z.val) * 128 + n.val = (((o.val * h + y.val) * 1 + 0) * H + z.val) * 128 + n.val
    ring
  · rw [Shape.rowMajor_val_four, Shape.rowMajor_val_five]
    show (((o.val * h + y.val) * 2 + p.val) * H + z.val) * 128 + n.val = ((o.val * H + (2 * y.val + p.val)) * H + z.val) * 128 + n.val
    subst hH; ring

/-! ## Arithmetic at the extended reals -/

/-- A float32 array of extended reals. -/
abbrev A32 (s : Shape) : Type := FVec Ideal s .f32

/-- A plain product with a zero accumulator; the left factor passes through a shape cast to its own shape. -/
def mm {M K N : ℕ} (W : A32 ⟨2, ![M, K]⟩) (T : A32 ⟨2, ![K, N]⟩) : A32 ⟨2, ![M, N]⟩ :=
  matmul (F := Ideal) (DotDims.plain M K N) none (shapeCast ⟨2, ![M, K]⟩ W rfl) T (constant ⟨2, ![M, N]⟩ .f32 0x00000000#32)

theorem mm_apply {M K N : ℕ} (W : A32 ⟨2, ![M, K]⟩) (T : A32 ⟨2, ![K, N]⟩) (r : Fin M) (j : Fin N) :
    mm W T (ix2 r j) = ∑ k : Fin K, W (ix2 r k) * T (ix2 k j) := by
  unfold mm
  rw [shapeCast_self]
  refine (Ideal.matmul_plain_apply none W T _ r j).trans ?_
  show Ideal.ofBits .f32 0x00000000#32 + _ = _
  rw [show Ideal.ofBits .f32 0x00000000#32 = 0 by simp [Ideal.ofBits, Ideal.ieee]]
  exact zero_add _

/-- The zero array the kernel's accumulations start from. -/
def zeros (s : Shape) : A32 s := broadcast s (Scalar.ofBits (F := Ideal) .f32 0x00000000#32)

theorem ofBits_zero : (Scalar.ofBits (F := Ideal) .f32 0x00000000#32 : EReal) = 0 := by
  show Ideal.ofBits .f32 0x00000000#32 = 0
  simp [Ideal.ofBits, Ideal.ieee]

theorem zeros_apply (s : Shape) (i : s.Idx) : zeros s i = (0 : EReal) := ofBits_zero

/-- A column added to every column of a flat array. -/
def addCol {M N : ℕ} (A : A32 ⟨2, ![M, N]⟩) (b : A32 ⟨2, ![M, 1]⟩) (h : (⟨2, ![M, 1]⟩ : Shape).Broadcasts ⟨2, ![M, N]⟩) : A32 ⟨2, ![M, N]⟩ :=
  addf A (broadcastTo ⟨2, ![M, N]⟩ (shapeCast ⟨2, ![M, 1]⟩ b rfl) h)

theorem col_apply {M N : ℕ} (b : A32 ⟨2, ![M, 1]⟩) (h : (⟨2, ![M, 1]⟩ : Shape).Broadcasts ⟨2, ![M, N]⟩) (r : Fin M) (j : Fin N) :
    broadcastTo ⟨2, ![M, N]⟩ b h (ix2 r j) = b (ix2 r 0) := by
  refine broadcastTo_apply _ _ _ _ fun a => ?_
  match a with
  | 0 =>
    show r.val = if M = 1 then 0 else r.val
    by_cases hM : M = 1
    · rw [if_pos hM]; have := r.isLt; omega
    · rw [if_neg hM]
  | 1 => rfl

theorem addCol_apply {M N : ℕ} (A : A32 ⟨2, ![M, N]⟩) (b : A32 ⟨2, ![M, 1]⟩) (h : (⟨2, ![M, 1]⟩ : Shape).Broadcasts ⟨2, ![M, N]⟩)
    (r : Fin M) (j : Fin N) : addCol A b h (ix2 r j) = (A (ix2 r j) + b (ix2 r 0) : EReal) := by
  unfold addCol
  rw [shapeCast_self, addf_apply, col_apply]

end Cert.Vq

end
-- ==== Proof.Spec.lean ====
/-
  The mathematics: a VQ-VAE's loss over images, the extended reals its arithmetic. No program is mentioned.
-/
module

public import Idealize.ShloMosaic.PureOps.Ideal

@[expose] public section

noncomputable section

namespace Cert.Vq

open Idealize.ShloMosaic

/-! ## Convolutions -/

section conv
variable {O C H : ℕ}

/-- The image with a border of zeros, at bordered coordinates. -/
def pad (f : Fin C → Fin H → Fin H → EReal) (c : Fin C) (Y X : ℕ) : EReal :=
  if h : (1 ≤ Y ∧ Y ≤ H) ∧ (1 ≤ X ∧ X ≤ H) then f c ⟨Y - 1, by omega⟩ ⟨X - 1, by omega⟩ else 0

/-- The image spread over the even coordinates, zeros between, two rows and columns of zeros before and after. -/
def dil (f : Fin C → Fin H → Fin H → EReal) (c : Fin C) (u v : ℕ) : EReal :=
  if u % 2 = 0 ∧ v % 2 = 0 then pad f c (u / 2) (v / 2) else 0

/-- A 3 by 3 convolution of stride 2. -/
def conv (W : Fin O → Fin C → Fin 3 → Fin 3 → EReal) (b : Fin O → EReal) (f : Fin C → Fin H → Fin H → EReal) (o : Fin O) (y x : ℕ) : EReal :=
  (∑ ky : Fin 3, ∑ kx : Fin 3, ∑ c, W o c ky kx * pad f c (2 * y + ky.val) (2 * x + kx.val)) + b o

/-- A 4 by 4 transposed convolution of stride 2: the flipped kernel over the spread image. -/
def convT (W : Fin C → Fin O → Fin 4 → Fin 4 → EReal) (b : Fin O → EReal) (f : Fin C → Fin H → Fin H → EReal) (o : Fin O) (Y X : ℕ) : EReal :=
  (∑ ky : Fin 4, ∑ kx : Fin 4, ∑ c, W c o ky.rev kx.rev * dil f c (Y + ky.val) (X + kx.val)) + b o

/-- The tap of the kernel that meets the image at phase `p`, step `a`. -/
def ph (p a : Fin 2) : Fin 4 := ⟨3 - 2 * a.val - p.val, by omega⟩

/-- Of four terms, those off the phase zero, the two on the phase remain. -/
theorem sum_phase (p : Fin 2) (g : Fin 4 → EReal) (h : ∀ k : Fin 4, (p.val + k.val) % 2 ≠ 0 → g k = 0) :
    ∑ k, g k = ∑ i : Fin 2, g ⟨2 * i.val + p.val, by omega⟩ := by
  rw [Fin.sum_univ_four, Fin.sum_univ_two]
  match p with
  | 0 => rw [h 1 (by decide), h 3 (by decide), add_zero, add_zero]; rfl
  | 1 => rw [h 0 (by decide), h 2 (by decide), zero_add, add_zero]; rfl

/-- At each of the four phases of its output a transposed convolution is four taps of the bordered image. -/
theorem convT_phase (W : Fin C → Fin O → Fin 4 → Fin 4 → EReal) (b : Fin O → EReal) (f : Fin C → Fin H → Fin H → EReal) (o : Fin O)
    (h w : ℕ) (p q : Fin 2) :
    convT W b f o (2 * h + p.val) (2 * w + q.val)
      = (∑ i : Fin 2, ∑ j : Fin 2, ∑ c, W c o (ph p i) (ph q j) * pad f c (h + p.val + i.val) (w + q.val + j.val)) + b o := by
  unfold convT
  congr 1
  rw [sum_phase p]
  · refine Finset.sum_congr rfl fun i _ => ?_
    rw [sum_phase q]
    · refine Finset.sum_congr rfl fun j _ => Finset.sum_congr rfl fun c _ => ?_
      rw [dil, if_pos ⟨by dsimp only; omega, by dsimp only; omega⟩,
        show (⟨2 * i.val + p.val, by omega⟩ : Fin 4).rev = ph p i from Fin.ext (by simp only [Fin.val_rev, ph]; omega),
        show (⟨2 * j.val + q.val, by omega⟩ : Fin 4).rev = ph q j from Fin.ext (by simp only [Fin.val_rev, ph]; omega)]
      congr 2 <;> (dsimp only; omega)
    · intro k hk
      refine Finset.sum_eq_zero fun c _ => ?_
      rw [dil, if_neg (by omega), mul_zero]
  · intro k hk
    refine Finset.sum_eq_zero fun l _ => Finset.sum_eq_zero fun c _ => ?_
    rw [dil, if_neg (by omega), mul_zero]

end conv

/-! ## The nearest code -/

/-- The first place at which a function is least. -/
def firstMin {K : ℕ} [NeZero K] (f : Fin K → EReal) : Fin K :=
  (Finset.univ.filter fun k => ∀ j, f k ≤ f j).min' (by
    obtain ⟨k, _, hk⟩ := Finset.exists_min_image Finset.univ f Finset.univ_nonempty
    exact ⟨k, Finset.mem_filter.2 ⟨Finset.mem_univ _, fun j => hk j (Finset.mem_univ _)⟩⟩)

/-- The function is least at its first least place. -/
theorem firstMin_le {K : ℕ} [NeZero K] (f : Fin K → EReal) (j : Fin K) : f (firstMin f) ≤ f j :=
  (Finset.mem_filter.1 (Finset.min'_mem (Finset.univ.filter fun k => ∀ j, f k ≤ f j) _)).2 j

/-- The first least place comes no later than any least place. -/
theorem firstMin_first {K : ℕ} [NeZero K] (f : Fin K → EReal) (k : Fin K) (h : ∀ j, f k ≤ f j) : firstMin f ≤ k :=
  Finset.min'_le _ _ (Finset.mem_filter.2 ⟨Finset.mem_univ _, h⟩)

/-- A least place that no earlier place equals is the first. -/
theorem firstMin_eq {K : ℕ} [NeZero K] (f : Fin K → EReal) (k : Fin K) (h : ∀ j, f k ≤ f j) (hl : ∀ j < k, f k < f j) : firstMin f = k := by
  refine le_antisymm (Finset.min'_le _ _ (Finset.mem_filter.2 ⟨Finset.mem_univ _, h⟩)) ?_
  by_contra hc
  exact absurd (firstMin_le f k) (not_le.2 (hl _ (not_le.1 hc)))

/-- Functions that order the places alike have the same first least place. -/
theorem firstMin_congr {K : ℕ} [NeZero K] (f g : Fin K → EReal) (h : ∀ i j, f i ≤ f j ↔ g i ≤ g j) : firstMin f = firstMin g := by
  unfold firstMin
  congr 1
  ext k
  simp only [Finset.mem_filter, Finset.mem_univ, true_and, h]

/-! ## The network -/

/-- The weights: two encoder layers, two decoder layers, the codebook. -/
structure Net where
  w1 : Fin 32 → Fin 3 → Fin 3 → Fin 3 → EReal
  b1 : Fin 32 → EReal
  w2 : Fin 64 → Fin 32 → Fin 3 → Fin 3 → EReal
  b2 : Fin 64 → EReal
  d1 : Fin 64 → Fin 32 → Fin 4 → Fin 4 → EReal
  e1 : Fin 32 → EReal
  d2 : Fin 32 → Fin 3 → Fin 4 → Fin 4 → EReal
  e2 : Fin 3 → EReal
  code : Fin 64 → Fin 64 → EReal

/-- An image: channel, row, column. -/
abbrev Img : Type := Fin 3 → Fin 32 → Fin 32 → EReal

namespace Net
variable (N : Net) (I : Img)

/-- The encoder's first layer. -/
def hid (o : Fin 32) (y x : Fin 16) : EReal := max (conv N.w1 N.b1 I o y.val x.val) 0

/-- The encoding. -/
def enc (o : Fin 64) (y x : Fin 8) : EReal := conv N.w2 N.b2 (N.hid I) o y.val x.val

/-- The squared distance of a position's encoding from a code. -/
def dist2 (y x : Fin 8) (k : Fin 64) : EReal := ∑ d, (N.enc I d y x - N.code k d) * (N.enc I d y x - N.code k d)

/-- The distance. -/
def dist (y x : Fin 8) (k : Fin 64) : EReal := Ideal.sqrt (N.dist2 I y x k)

/-- The nearest code, the first of equals. -/
def tok (y x : Fin 8) : Fin 64 := firstMin (N.dist I y x)

/-- The quantised encoding. -/
def quant (o : Fin 64) (y x : Fin 8) : EReal := N.code (N.tok I y x) o

/-- The decoder's first layer. -/
def dec1 (o : Fin 32) (Y X : Fin 16) : EReal := max (convT N.d1 N.e1 (N.quant I) o Y.val X.val) 0

/-- The decoded image. -/
def dec2 (o : Fin 3) (Y X : Fin 32) : EReal := convT N.d2 N.e2 (N.dec1 I) o Y.val X.val

/-- An image's squared reconstruction error. -/
def recon : EReal := ∑ o, ∑ Y, ∑ X, (I o Y X - N.dec2 I o Y X) * (I o Y X - N.dec2 I o Y X)

/-- An image's quantisation error. -/
def vq : EReal := ∑ y, ∑ x, N.dist I y x (N.tok I y x)

end Net

end Cert.Vq

end
-- ==== Proof.KConv.lean ====
/-
  The kernel's convolutions on one block of images: each layer's payloads compose to sums of products of weight slabs
  with windows of the bordered images.
-/
module

public import proofs.«01_k».proof.Proof.Gen.KernelIdeal.Skeleton
public import proofs.«01_k».proof.Proof.Taps
public import proofs.«01_k».proof.Proof.Spec

@[expose] public section

noncomputable section

namespace Cert.Vq

open Idealize.ShloMosaic Idealize.ShloMosaic.ValueIdx
open Cert.KernelIdeal Cert.KernelIdeal.Gen

/-! ## The layers' shapes of sum -/

/-- Nine products accumulated from zero. -/
def conv9 {M K N : ℕ} (W : Fin 3 → Fin 3 → A32 ⟨2, ![M, K]⟩) (T : Fin 3 → Fin 3 → A32 ⟨2, ![K, N]⟩) : A32 ⟨2, ![M, N]⟩ :=
  addf (addf (addf (addf (addf (addf (addf (addf (addf (zeros _) (mm (W 0 0) (T 0 0))) (mm (W 0 1) (T 0 1))) (mm (W 0 2) (T 0 2)))
    (mm (W 1 0) (T 1 0))) (mm (W 1 1) (T 1 1))) (mm (W 1 2) (T 1 2))) (mm (W 2 0) (T 2 0))) (mm (W 2 1) (T 2 1))) (mm (W 2 2) (T 2 2))

theorem conv9_apply {M K N : ℕ} (W : Fin 3 → Fin 3 → A32 ⟨2, ![M, K]⟩) (T : Fin 3 → Fin 3 → A32 ⟨2, ![K, N]⟩) (r : Fin M) (j : Fin N) :
    conv9 W T (ix2 r j) = ∑ ky : Fin 3, ∑ kx : Fin 3, ∑ k : Fin K, W ky kx (ix2 r k) * T ky kx (ix2 k j) := by
  unfold conv9
  simp only [addf_apply, mm_apply, zeros_apply, Fin.sum_univ_three, zero_add, add_assoc]

/-- Four products accumulated from zero. -/
def conv4 {M K N : ℕ} (W : Fin 2 → Fin 2 → A32 ⟨2, ![M, K]⟩) (T : Fin 2 → Fin 2 → A32 ⟨2, ![K, N]⟩) : A32 ⟨2, ![M, N]⟩ :=
  addf (addf (addf (addf (zeros _) (mm (W 0 0) (T 0 0))) (mm (W 0 1) (T 0 1))) (mm (W 1 0) (T 1 0))) (mm (W 1 1) (T 1 1))

theorem conv4_apply {M K N : ℕ} (W : Fin 2 → Fin 2 → A32 ⟨2, ![M, K]⟩) (T : Fin 2 → Fin 2 → A32 ⟨2, ![K, N]⟩) (r : Fin M) (j : Fin N) :
    conv4 W T (ix2 r j) = ∑ i : Fin 2, ∑ l : Fin 2, ∑ k : Fin K, W i l (ix2 r k) * T i l (ix2 k j) := by
  unfold conv4
  simp only [addf_apply, mm_apply, zeros_apply, Fin.sum_univ_two, zero_add, add_assoc]

/-- The positive part. -/
def relu {s : Shape} (A : A32 s) : A32 s := maximumf A (zeros s)

theorem relu_apply {s : Shape} (A : A32 s) (i : s.Idx) : relu A i = (max (A i) 0 : EReal) := by
  unfold relu
  rw [maximumf_apply, zeros_apply]

/-- A bordered image array read as bordered functions of one image. -/
theorem border_eq_pad {c H P : ℕ} (hP : P = H + 2) (X : A32 (imgs c H)) (f : Fin 128 → Fin c → Fin H → Fin H → EReal)
    (hf : ∀ o y x n, X (ix4 o y x n) = f n o y x) (o : Fin c) (y x : Fin P) (n : Fin 128) :
    border c H P hP (Scalar.ofBits (F := Ideal) .f32 0x00000000#32) X (ix4 o y x n) = pad (f n) o y.val x.val := by
  rw [border_apply, pad]
  simp only [hf]
  split
  · rfl
  · exact ofBits_zero

/-! ## The encoder -/

/-- A layer of the encoder: nine taps of stride 2, a bias. -/
def down (C O P h N : ℕ) (hP : P = 2 * h + 2) (hN : N = h * h * 128) (X : A32 (imgs C P)) (W : Fin 3 → Fin 3 → A32 ⟨2, ![O, C]⟩)
    (b : A32 ⟨2, ![O, 1]⟩) (hb : (⟨2, ![O, 1]⟩ : Shape).Broadcasts ⟨2, ![O, N]⟩) : A32 ⟨2, ![O, N]⟩ :=
  addCol (conv9 W fun ky kx => pick C h (2 * h) N 0 0 (by omega) (by omega) rfl hN (win C P (2 * h) ky.val kx.val (by omega) (by omega) X)) b hb

/-- A layer of the encoder is the convolution of each image. -/
theorem down_apply {C O P h N : ℕ} (hP : P = 2 * h + 2) (hN : N = h * h * 128) (X : A32 (imgs C P)) (W : Fin 3 → Fin 3 → A32 ⟨2, ![O, C]⟩)
    (b : A32 ⟨2, ![O, 1]⟩) (hb : (⟨2, ![O, 1]⟩ : Shape).Broadcasts ⟨2, ![O, N]⟩) (f : Fin 128 → Fin C → Fin (2 * h) → Fin (2 * h) → EReal)
    (hf : ∀ c (y x : Fin P) n, X (ix4 c y x n) = pad (f n) c y.val x.val)
    (Wm : Fin O → Fin C → Fin 3 → Fin 3 → EReal) (bm : Fin O → EReal) (hW : ∀ ky kx o c, W ky kx (ix2 o c) = Wm o c ky kx)
    (hbm : ∀ o, b (ix2 o 0) = bm o) (o : Fin O) (y x : Fin h) (n : Fin 128) :
    down C O P h N hP hN X W b hb (ix2 o (fl hN y x n)) = conv Wm bm (f n) o y.val x.val := by
  unfold down conv
  rw [addCol_apply, conv9_apply, hbm]
  congr 1
  refine Finset.sum_congr rfl fun ky _ => Finset.sum_congr rfl fun kx _ => Finset.sum_congr rfl fun c _ => ?_
  rw [pick_apply, win_apply, hf, hW]
  congr 2 <;> (dsimp only; omega)

/-- The encoder's first layer on a block, bordered. -/
def hidK (X : A32 (imgs 3 34)) (W : Fin 3 → Fin 3 → A32 ⟨2, ![32, 3]⟩) (b : A32 ⟨2, ![32, 1]⟩) : A32 (imgs 32 18) :=
  border 32 16 18 rfl (Scalar.ofBits (F := Ideal) .f32 0x00000000#32)
    (unflat 32 16 32768 rfl (relu (down 3 32 34 16 32768 rfl rfl X W b broadcasts_S32x1_S32x32768)))

/-- The kernel's first layer. -/
def kHid (x : Vec Ideal S3x34x34x128 .f32) (W : Fin 3 → Fin 3 → Vec Ideal S32x3 .f32) (b : Vec Ideal S32x1 .f32) : FVec Ideal S32x18x18x128 .f32 :=
  k0_pay6 (k0_pay1 x) (k0_pay4 (k0_pay1 x) (k0_pay2 x (W 0 0) (W 0 1) (W 0 2)) (k0_pay3 x) (W 1 0) (W 1 1) (W 1 2) (W 2 0)) (k0_pay5 (k0_pay1 x))
    (W 2 1) (W 2 2) b

theorem kHid_eq (x : Vec Ideal S3x34x34x128 .f32) (W : Fin 3 → Fin 3 → Vec Ideal S32x3 .f32) (b : Vec Ideal S32x1 .f32) :
    kHid x W b = hidK (k0_pay1 x) W b := rfl

/-- The kernel's encoding, before its bias. -/
def kEnc (x : Vec Ideal S3x34x34x128 .f32) (W : Fin 3 → Fin 3 → Vec Ideal S32x3 .f32) (b : Vec Ideal S32x1 .f32)
    (W2 : Fin 3 → Fin 3 → Vec Ideal S64x32 .f32) : FVec Ideal S64x8192 .f32 :=
  k0_pay11 (kHid x W b) (k0_pay9 (kHid x W b)
      (k0_pay7 (k0_pay1 x) (k0_pay4 (k0_pay1 x) (k0_pay2 x (W 0 0) (W 0 1) (W 0 2)) (k0_pay3 x) (W 1 0) (W 1 1) (W 1 2) (W 2 0)) (k0_pay5 (k0_pay1 x))
        (W 2 1) (W 2 2) b (W2 0 0))
      (k0_pay8 (k0_pay1 x) (k0_pay4 (k0_pay1 x) (k0_pay2 x (W 0 0) (W 0 1) (W 0 2)) (k0_pay3 x) (W 1 0) (W 1 1) (W 1 2) (W 2 0)) (k0_pay5 (k0_pay1 x))
        (W 2 1) (W 2 2) b)
      (W2 0 1) (W2 0 2) (W2 1 0) (W2 1 1))
    (k0_pay10 (kHid x W b)) (W2 1 2) (W2 2 0) (W2 2 1) (W2 2 2)

/-- The kernel's encoding is the second layer on the first. -/
theorem kEnc_eq (x : Vec Ideal S3x34x34x128 .f32) (W : Fin 3 → Fin 3 → Vec Ideal S32x3 .f32) (b : Vec Ideal S32x1 .f32)
    (W2 : Fin 3 → Fin 3 → Vec Ideal S64x32 .f32) (b2 : Vec Ideal S64x1 .f32) :
    k0_pay12 (kEnc x W b W2) b2 = down 32 64 18 8 8192 rfl rfl (hidK (k0_pay1 x) W b) W2 b2 broadcasts_S64x1_S64x8192 := rfl

end Cert.Vq

end
-- ==== Proof.Finite.lean ====
/-
  Finite data: the encoding is finite, and the nearest code by the expanded square is the nearest by the distance.
-/
module

public import proofs.«01_k».proof.Proof.Spec

@[expose] public section

noncomputable section

namespace Cert.Vq

open Idealize.ShloMosaic

/-- An extended real that is a real number. -/
def Fin' (x : EReal) : Prop := ∃ r : ℝ, x = (r : EReal)

theorem fin_zero : Fin' 0 := ⟨0, rfl⟩

theorem fin_add {x y : EReal} (hx : Fin' x) (hy : Fin' y) : Fin' (x + y) := by
  obtain ⟨a, rfl⟩ := hx; obtain ⟨b, rfl⟩ := hy; exact ⟨a + b, (EReal.coe_add a b).symm⟩

theorem fin_mul {x y : EReal} (hx : Fin' x) (hy : Fin' y) : Fin' (x * y) := by
  obtain ⟨a, rfl⟩ := hx; obtain ⟨b, rfl⟩ := hy; exact ⟨a * b, (EReal.coe_mul a b).symm⟩

theorem fin_max {x y : EReal} (hx : Fin' x) (hy : Fin' y) : Fin' (max x y) := by
  rcases max_choice x y with h | h <;> rw [h] <;> assumption

theorem fin_sum {ι : Type} (s : Finset ι) (f : ι → EReal) (h : ∀ i, Fin' (f i)) : Fin' (∑ i ∈ s, f i) := by
  classical
  induction s using Finset.induction_on with
  | empty => simpa using fin_zero
  | insert a s ha ih => rw [Finset.sum_insert ha]; exact fin_add (h a) ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A convolution of finite data is finite. -/
theorem fin_conv {O C H : ℕ} (W : Fin O → Fin C → Fin 3 → Fin 3 → EReal) (b : Fin O → EReal) (f : Fin C → Fin H → Fin H → EReal)
    (hW : ∀ o c i j, Fin' (W o c i j)) (hb : ∀ o, Fin' (b o)) (hf : ∀ c y x, Fin' (f c y x)) (o : Fin O) (y x : ℕ) : Fin' (conv W b f o y x) := by
  unfold conv
  refine fin_add (fin_sum _ _ fun i => fin_sum _ _ fun j => fin_sum _ _ fun c => fin_mul (hW _ _ _ _) ?_) (hb o)
  unfold pad
  split
  · exact hf _ _ _
  · exact fin_zero

/-- The encoder's weights and the codebook are finite. -/
structure Net.Finite (N : Net) : Prop where
  w1 : ∀ o c i j, Fin' (N.w1 o c i j)
  b1 : ∀ o, Fin' (N.b1 o)
  w2 : ∀ o c i j, Fin' (N.w2 o c i j)
  b2 : ∀ o, Fin' (N.b2 o)
  code : ∀ k d, Fin' (N.code k d)

/-- The encoding of a finite image is finite. -/
theorem fin_enc {N : Net} (hN : N.Finite) {I : Img} (hI : ∀ c y x, Fin' (I c y x)) (o : Fin 64) (y x : Fin 8) : Fin' (N.enc I o y x) :=
  fin_conv _ _ _ hN.w2 hN.b2 (fun c y x => fin_max (fin_conv _ _ _ hN.w1 hN.b1 hI c y.val x.val) fin_zero) o y.val x.val

theorem sqrt_coe {r : ℝ} (h : 0 ≤ r) : Ideal.sqrt (r : EReal) = (Real.sqrt r : EReal) := by
  show (if r < 0 then (⊥ : EReal) else (Real.sqrt r : EReal)) = _
  rw [if_neg (not_lt.2 h)]

/-- A code's squared norm less twice its product with the encoding. -/
def score (E : Fin 64 → EReal) (code : Fin 64 → Fin 64 → EReal) (k : Fin 64) : EReal := (∑ d, code k d * code k d) - 2 * ∑ d, code k d * E d

/-- The squared distance of an encoding from a code. -/
def sqd (E : Fin 64 → EReal) (code : Fin 64 → Fin 64 → EReal) (k : Fin 64) : EReal := ∑ d, (E d - code k d) * (E d - code k d)

section near
variable (e : Fin 64 → ℝ) (c : Fin 64 → Fin 64 → ℝ)

theorem score_coe (k : Fin 64) : score (fun d => e d) (fun k d => c k d) k = ((∑ d, c k d * c k d - 2 * ∑ d, c k d * e d : ℝ) : EReal) := by
  unfold score
  rw [EReal.coe_sub, EReal.coe_mul, coe_sum, coe_sum]
  simp only [EReal.coe_mul]
  rfl

theorem sqd_coe (k : Fin 64) : sqd (fun d => e d) (fun k d => c k d) k = ((∑ d, (e d - c k d) * (e d - c k d) : ℝ) : EReal) := by
  unfold sqd
  rw [coe_sum]
  simp only [EReal.coe_mul, EReal.coe_sub]

theorem expand (k : Fin 64) : ∑ d, (e d - c k d) * (e d - c k d) = (∑ d, c k d * c k d - 2 * ∑ d, c k d * e d) + ∑ d, e d * e d := by
  rw [Finset.mul_sum, ← Finset.sum_sub_distrib, ← Finset.sum_add_distrib]
  exact Finset.sum_congr rfl fun d _ => by ring

theorem sq_nonneg' (k : Fin 64) : 0 ≤ ∑ d, (e d - c k d) * (e d - c k d) := Finset.sum_nonneg fun d _ => mul_self_nonneg _

theorem near_coe : firstMin (score (fun d => e d) fun k d => c k d) = firstMin fun k => Ideal.sqrt (sqd (fun d => e d) (fun k d => c k d) k) := by
  refine firstMin_congr _ _ fun i j => ?_
  rw [score_coe, score_coe, sqd_coe, sqd_coe, sqrt_coe (sq_nonneg' e c i), sqrt_coe (sq_nonneg' e c j), EReal.coe_le_coe_iff, EReal.coe_le_coe_iff,
    Real.sqrt_le_sqrt_iff (sq_nonneg' e c j), expand, expand]
  exact (add_le_add_iff_right _).symm

end near

variable {E : Fin 64 → EReal} {code : Fin 64 → Fin 64 → EReal}

/-- Of finite data, the least score is at the nearest code. -/
theorem firstMin_score (hE : ∀ d, Fin' (E d)) (hc : ∀ k d, Fin' (code k d)) : firstMin (score E code) = firstMin fun k => Ideal.sqrt (sqd E code k) := by
  choose e he using hE
  choose c hc using hc
  obtain rfl : E = fun d => (e d : EReal) := funext he
  obtain rfl : code = fun k d => (c k d : EReal) := funext fun k => funext (hc k)
  exact near_coe e c

/-- Of finite data, the score and the encoding's squared norm are the squared distance. -/
theorem score_add (hE : ∀ d, Fin' (E d)) (hc : ∀ k d, Fin' (code k d)) (k : Fin 64) : max (score E code k + ∑ d, E d * E d) 0 = sqd E code k := by
  choose e he using hE
  choose c hc using hc
  obtain rfl : E = fun d => (e d : EReal) := funext he
  obtain rfl : code = fun k d => (c k d : EReal) := funext fun k => funext (hc k)
  rw [score_coe, sqd_coe, expand]
  have : (∑ d, (e d : EReal) * (e d : EReal)) = ((∑ d, e d * e d : ℝ) : EReal) := by rw [coe_sum]; simp only [EReal.coe_mul]
  rw [this, ← EReal.coe_add, ← expand]
  exact max_eq_left (EReal.coe_nonneg.2 (sq_nonneg' e c k))

end Cert.Vq

end
-- ==== Proof.KQuant.lean ====
/-
  The kernel's quantisation of one block of encodings: every position's scores against the codes, the first least, its
  code, and the sum of the distances.
-/
module

public import proofs.«01_k».proof.Proof.KConv
public import proofs.«01_k».proof.Proof.Finite
public import Idealize.ShloMosaic.Lib.Pointwise.Reduce
public import Idealize.ShloMosaic.Lib.SortNet.Extract

@[expose] public section

noncomputable section

namespace Cert.Vq

open Idealize.ShloMosaic hiding ix0 ix1 ix2 ix3 ix4 ix5
open Idealize.ShloMosaic.ValueIdx
open Cert.KernelIdeal Cert.KernelIdeal.Gen

/-! ## Sums and least values of arrays -/

/-- The sum of a flat array, as the kernel takes it: with a leading unit axis, both others reduced. -/
def sumAll (M N : ℕ) (hc : (⟨2, ![M, N]⟩ : Shape).ShapeCasts ⟨3, ![1, M, N]⟩) (hr : (⟨3, ![1, M, N]⟩ : Shape).Reduces [1, 2] S1)
    (A : A32 ⟨2, ![M, N]⟩) : Ideal .f32 :=
  extractAt ![0, 0, 0] (shapeCast S1x1x1 (multiReduction (F := Ideal) .add [1, 2] S1 (shapeCast ⟨3, ![1, M, N]⟩ A hc) 0x00000000#32 hr (.inl rfl) rfl)
    shapeCasts_S1_S1x1x1) inpos_S1x1x1_p0_0_0

theorem sumAll_apply (M N : ℕ) (hc : (⟨2, ![M, N]⟩ : Shape).ShapeCasts ⟨3, ![1, M, N]⟩)
    (hr : (⟨3, ![1, M, N]⟩ : Shape).Reduces [1, 2] S1) (A : A32 ⟨2, ![M, N]⟩) :
    (sumAll M N hc hr A : EReal) = ∑ r : Fin M, ∑ j : Fin N, A (ix2 r j) := by
  unfold sumAll extractAt
  refine (shapeCast_apply (t := S1x1x1) (s := S1) _ _ _ (ix1 0) (by
    rw [Shape.rowMajor_val_one, Shape.rowMajor_val_three]; rfl)).trans ?_
  refine (Ideal.reduceAdd_r3_a12 hr _ _).trans ?_
  refine Finset.sum_congr rfl fun r _ => Finset.sum_congr rfl fun j _ => ?_
  refine shapeCast_apply (t := ⟨3, ![1, M, N]⟩) (s := ⟨2, ![M, N]⟩) _ _ _ (ix2 r j) ?_
  rw [Shape.rowMajor_val_two, Shape.rowMajor_val_three]
  show r.val * N + j.val = (0 * M + r.val) * N + j.val
  ring

/-- The fold of the minimum from the top is the value at the first least place. -/
theorem fold_min_firstMin (f : Fin 64 → EReal) : Finset.univ.fold min ⊤ f = f (firstMin f) :=
  le_antisymm ((Finset.fold_min_le _).2 (Or.inr ⟨_, Finset.mem_univ _, le_rfl⟩))
    ((Finset.le_fold_min _).2 ⟨le_top, fun j _ => firstMin_le f j⟩)

/-- The least, as words, of the places at which a function has its least value is the first such place. -/
theorem fold_minsi_firstMin (f : Fin 64 → EReal) (v : Fin 64 → BitVec 32)
    (hv : ∀ k, v k = if f k = f (firstMin f) then BitVec.ofNat 32 k.val else 64#32) :
    Finset.univ.fold IntOp.minsi 2147483647#32 v = BitVec.ofNat 32 (firstMin f).val := by
  have hk : ∀ k : Fin 64, (BitVec.ofNat 32 k.val).toInt = k.val := by decide
  apply BitVec.eq_of_toInt_eq
  rw [← Finset.fold_hom (m := BitVec.toInt) (op' := min) (fun a b => SortNet.toInt_minsi a b), hk]
  refine le_antisymm ((Finset.fold_min_le _).2 (Or.inr ⟨firstMin f, Finset.mem_univ _, ?_⟩)) ((Finset.le_fold_min _).2 ⟨?_, fun k _ => ?_⟩)
  · rw [hv, if_pos rfl, hk]
  · have := (firstMin f).isLt
    have h : (2147483647#32 : BitVec 32).toInt = 2147483647 := by decide
    rw [h]; omega
  · rw [hv]
    split
    · rename_i h
      rw [hk]
      have : firstMin f ≤ k := firstMin_first f k fun j => h ▸ firstMin_le f j
      exact_mod_cast this
    · have := (firstMin f).isLt
      have h : (64#32 : BitVec 32).toInt = 64 := by decide
      rw [h]; omega

/-- A row laid under every row. -/
theorem row_apply {α : Type} (v : S8192.Idx → α) (k : Fin 64) (j : Fin 8192) :
    broadcastTo S64x8192 (shapeCast S1x8192 v shapeCasts_S8192_S1x8192) broadcasts_S1x8192_S64x8192 (ix2 k j) = v (ix1 j) := by
  refine (broadcastTo_apply (s := S1x8192) (t := S64x8192) _ _ _ (ix2 0 j) fun a => ?_).trans ?_
  · match a with
    | 0 => rfl
    | 1 => rfl
  · refine shapeCast_apply (t := S1x8192) (s := S8192) _ _ _ (ix1 j) ?_
    rw [Shape.rowMajor_val_one, Shape.rowMajor_val_two]
    show j.val = 0 * 8192 + j.val
    omega

/-- A plain product whose left factor is used as it is. -/
theorem dot_apply (W : A32 S64x64) (T : A32 S64x8192) (r : Fin 64) (j : Fin 8192) :
    matmul (F := Ideal) (φ₁ := .f32) (φ₂ := .f32) dot_S64x64_S64x8192_S64x8192_1_0_0_1_n_n none W T (constant S64x8192 .f32 0x00000000#32) (ix2 r j)
      = (∑ k : Fin 64, W (ix2 r k) * T (ix2 k j) : EReal) := by
  refine Eq.trans ?_ (mm_apply W T r j)
  unfold mm
  rw [shapeCast_self]
  rfl

theorem ofBits_two : (Ideal.ofBits .f32 0x40000000#32 : EReal) = 2 := by
  simp [Ideal.ofBits, Ideal.ieee, -EReal.coe_mul]; norm_num
  rfl

theorem ofBits_top : (Ideal.ofBits .f32 0x7F800000#32 : EReal) = ⊤ := by
  simp [Ideal.ofBits, Ideal.ieee]

theorem colSum_apply (Q : A32 S64x8192) (j : Fin 8192) :
    (multiReduction (F := Ideal) .add [0] S8192 Q 0x00000000#32 reduces_S64x8192_S8192 (.inl rfl) rfl (ix1 j) : EReal) = ∑ d : Fin 64, Q (ix2 d j) := by
  refine (multiReduction_add_apply (F := Ideal) (φ := .f32) (axes := [0]) (t := S8192) Q _ reduces_S64x8192_S8192 _ _ (ix1 j)).trans ?_
  rw [Ideal.reduceAdd_def]
  exact Ideal.reduceAdd_r2_a0 reduces_S64x8192_S8192 Q (ix1 j)

/-- The columns' sums of squares, in a row. -/
theorem colSq_apply (P : A32 S64x8192) (j : Fin 8192) :
    (shapeCast S1x8192 (multiReduction (F := Ideal) .add [0] S8192 (mulf P P) 0x00000000#32 reduces_S64x8192_S8192 (.inl rfl) rfl)
      shapeCasts_S8192_S1x8192 (ix2 0 j) : EReal) = ∑ d : Fin 64, P (ix2 d j) * P (ix2 d j) := by
  refine (shapeCast_apply (t := S1x8192) (s := S8192) _ _ _ (ix1 j) (by
    rw [Shape.rowMajor_val_one, Shape.rowMajor_val_two]; show j.val = 0 * 8192 + j.val; omega)).trans ?_
  exact colSum_apply _ j

theorem sqrtRow_apply (P : A32 S1x8192) (j : Fin 8192) : sqrt P (ix2 0 j) = Ideal.sqrt (P (ix2 0 j)) := rfl

/-! ## The payloads -/

section pays
variable (A : FVec Ideal S64x8192 .f32) (b : Vec Ideal S64x1 .f32) (emb embt : Vec Ideal S64x64 .f32)

theorem pay13_apply (k : Fin 64) (j : Fin 8192) :
    k0_pay13 A b emb (ix2 k j) = score (fun d => k0_pay12 A b (ix2 d j)) (fun k d => emb (ix2 k d)) k := by
  unfold k0_pay13 score
  dsimp only
  rw [subf_apply, mulf_apply, broadcast_apply, dot_apply]
  congr 1
  · refine (col_apply (M := 64) (N := 8192) _ _ k j).trans ?_
    refine (shapeCast_apply (t := S64x1) (s := S64) _ _ _ (ix1 k) (by
      rw [Shape.rowMajor_val_one, Shape.rowMajor_val_two]; show k.val = k.val * 1 + 0; omega)).trans ?_
    exact Ideal.reduceAdd_r2_a1 reduces_S64x64_S64 _ _
  · exact congrArg (· * _) ofBits_two

/-- The least score. -/
theorem pay14_apply (j : Fin 8192) (k : Fin 64) :
    broadcastTo S64x8192 (k0_pay14 A b emb) broadcasts_S1x8192_S64x8192 (ix2 k j)
      = k0_pay13 A b emb (ix2 (firstMin fun k => k0_pay13 A b emb (ix2 k j)) j) := by
  unfold k0_pay14
  dsimp only
  rw [row_apply]
  refine (multiReduction_minimumf_eq_fold _ _ reduces_S64x8192_S8192 _ _ _).trans ?_
  refine (reduces_S64x8192_S8192.fold_fiber_r2_a0 _ _ _ _).trans ?_
  refine Eq.trans ?_ (fold_min_firstMin fun k => k0_pay13 A b emb (ix2 k j))
  exact congrArg (fun z => Finset.univ.fold min z _) ofBits_top

/-- The least score, in the row it is computed in. -/
theorem pay14_row (j : Fin 8192) : k0_pay14 A b emb (ix2 0 j) = k0_pay13 A b emb (ix2 (firstMin fun k => k0_pay13 A b emb (ix2 k j)) j) := by
  refine Eq.trans ?_ (pay14_apply A b emb j 0)
  refine (broadcastTo_apply (s := S1x8192) (t := S64x8192) _ _ _ (ix2 0 j) fun a => ?_).symm
  match a with
  | 0 => rfl
  | 1 => rfl

/-- The word of the nearest code. -/
def tokW : IVec S8192 32 :=
  multiReductionI .minsi [0] S8192 (select (cmpf .oeq (k0_pay13 A b emb) (broadcastTo S64x8192 (k0_pay14 A b emb) broadcasts_S1x8192_S64x8192))
    (iota .tc S64x8192 32 [0] iota_S64x8192_d0_w32) (broadcast S64x8192 64#32)) 2147483647#32 reduces_S64x8192_S8192 rfl

theorem tokW_apply (j : Fin 8192) : tokW A b emb (ix1 j) = BitVec.ofNat 32 (firstMin fun k => k0_pay13 A b emb (ix2 k j)).val := by
  unfold tokW
  refine (multiReductionI_eq_fold _ _ _ reduces_S64x8192_S8192 _ _).trans ?_
  refine (reduces_S64x8192_S8192.fold_fiber_r2_a0 _ _ _ _).trans ?_
  refine fold_minsi_firstMin (fun k => k0_pay13 A b emb (ix2 k j)) _ fun k => ?_
  show select _ _ _ (ix2 k j) = _
  rw [select_apply, cmpf_apply, pay14_apply, iota_single_apply, broadcast_apply]
  show Scalar.select (BitVec.ofBool (decide _)) _ _ = _
  by_cases h : k0_pay13 A b emb (ix2 k j) = k0_pay13 A b emb (ix2 (firstMin fun k => k0_pay13 A b emb (ix2 k j)) j)
  · rw [if_pos h, decide_eq_true h]; rfl
  · rw [if_neg h, decide_eq_false h]; rfl

/-- The quantised encodings. -/
def quantW : A32 S64x8192 :=
  mm embt (sitofp .f32 (extui 32 (cmpi .eq (iota .tc S64x8192 32 [0] iota_S64x8192_d0_w32)
    (broadcastTo S64x8192 (shapeCast S1x8192 (tokW A b emb) shapeCasts_S8192_S1x8192) broadcasts_S1x8192_S64x8192)) natLt_1_32))

theorem quantW_apply (d : Fin 64) (j : Fin 8192) :
    quantW A b emb embt (ix2 d j) = embt (ix2 d (firstMin fun k => k0_pay13 A b emb (ix2 k j))) := by
  unfold quantW
  rw [mm_apply]
  have hc : ∀ k : Fin 64, (sitofp .f32 (extui 32 (cmpi .eq (iota .tc S64x8192 32 [0] iota_S64x8192_d0_w32)
      (broadcastTo S64x8192 (shapeCast S1x8192 (tokW A b emb) shapeCasts_S8192_S1x8192) broadcasts_S1x8192_S64x8192)) natLt_1_32)
      : A32 S64x8192) (ix2 k j) = if k = (firstMin fun k => k0_pay13 A b emb (ix2 k j)) then (1 : EReal) else 0 := by
    intro k
    rw [sitofp_apply, extui_apply]
    show FloatOps.sitofp .f32 ((IntOp.cmpi .eq (iota .tc S64x8192 32 [0] iota_S64x8192_d0_w32 (ix2 k j)) (broadcastTo S64x8192 _ _ (ix2 k j))).setWidth 32) = _
    rw [row_apply, tokW_apply, iota_single_apply]
    show FloatOps.sitofp .f32 ((BitVec.ofBool (BitVec.ofNat 32 k.val == BitVec.ofNat 32 _)).setWidth 32) = _
    have hinj : ∀ a b : Fin 64, (BitVec.ofNat 32 a.val == BitVec.ofNat 32 b.val) = decide (a = b) := by decide
    rw [hinj]
    by_cases h : k = (firstMin fun k => k0_pay13 A b emb (ix2 k j))
    · rw [if_pos h, decide_eq_true h]
      show (((((BitVec.ofBool true).setWidth 32).toInt : ℤ) : ℝ) : EReal) = 1
      rw [show ((BitVec.ofBool true).setWidth 32).toInt = 1 from by decide]; norm_num
    · rw [if_neg h, decide_eq_false h]
      show (((((BitVec.ofBool false).setWidth 32).toInt : ℤ) : ℝ) : EReal) = 0
      rw [show ((BitVec.ofBool false).setWidth 32).toInt = 0 from by decide]; norm_num
  simp only [hc, mul_ite, mul_one, mul_zero, Finset.sum_ite_eq', Finset.mem_univ, if_true]

/-- The quantised encodings, bordered. -/
def quantK : FVec Ideal S64x10x10x128 .f32 :=
  border 64 8 10 rfl (Scalar.ofBits (F := Ideal) .f32 0x00000000#32) (unflat 64 8 8192 rfl (quantW A b emb embt))

theorem pay16_eq : k0_pay16 A b emb embt = quantK A b emb embt := rfl

/-- The squared distances: the least score and the encoding's square, no less than zero. -/
def near2 : A32 S1x8192 :=
  maximumf (addf (k0_pay14 A b emb) (shapeCast S1x8192 (multiReduction .add [0] S8192 (mulf (k0_pay12 A b) (k0_pay12 A b)) 0x00000000#32
    reduces_S64x8192_S8192 (.inl rfl) rfl) shapeCasts_S8192_S1x8192)) (zeros S1x8192)

theorem near2_apply (j : Fin 8192) : (near2 A b emb (ix2 0 j) : EReal)
    = max (k0_pay13 A b emb (ix2 (firstMin fun k => k0_pay13 A b emb (ix2 k j)) j) + ∑ d : Fin 64, k0_pay12 A b (ix2 d j) * k0_pay12 A b (ix2 d j)) 0 := by
  unfold near2
  rw [maximumf_apply, addf_apply, zeros_apply, pay14_row]
  refine congrArg (fun z : EReal => max (k0_pay13 A b emb (ix2 (firstMin fun k => k0_pay13 A b emb (ix2 k j)) j) + z) 0) ?_
  exact colSq_apply _ j

/-- The sum of the distances. -/
theorem pay15_apply :
    (k0_pay15 A b emb : EReal) = ∑ j : Fin 8192, Ideal.sqrt (max (k0_pay13 A b emb (ix2 (firstMin fun k => k0_pay13 A b emb (ix2 k j)) j)
      + ∑ d : Fin 64, k0_pay12 A b (ix2 d j) * k0_pay12 A b (ix2 d j)) 0) := by
  refine Eq.trans (show k0_pay15 A b emb = sumAll 1 8192 shapeCasts_S1x8192_S1x1x8192 reduces_S1x1x8192_S1 (sqrt (near2 A b emb)) from rfl) ?_
  rw [sumAll_apply, Fin.sum_univ_one]
  exact Finset.sum_congr rfl fun j _ => (sqrtRow_apply _ j).trans (congrArg Ideal.sqrt (near2_apply A b emb j))

end pays

end Cert.Vq

end
-- ==== Proof.KDec.lean ====
/-
  The kernel's decoder on one block: four phases a layer, each four taps; and the squared error of every phase.
-/
module

public import proofs.«01_k».proof.Proof.KQuant

@[expose] public section

noncomputable section

namespace Cert.Vq

open Idealize.ShloMosaic hiding ix0 ix1 ix2 ix3 ix4 ix5
open Idealize.ShloMosaic.ValueIdx
open Cert.KernelIdeal Cert.KernelIdeal.Gen

/-- One phase of a decoder layer: four taps of the bordered images, a bias. -/
def up (C O P h N : ℕ) (hP : P = h + 2) (hN : N = h * h * 128) (X : A32 (imgs C P)) (W : Fin 2 → Fin 2 → A32 ⟨2, ![O, C]⟩)
    (b : A32 ⟨2, ![O, 1]⟩) (hb : (⟨2, ![O, 1]⟩ : Shape).Broadcasts ⟨2, ![O, N]⟩) (p q : Fin 2) : A32 ⟨2, ![O, N]⟩ :=
  addCol (conv4 W fun i l => flat C h N hN (win C P h (p.val + i.val) (q.val + l.val) (by omega) (by omega) X)) b hb

/-- A phase of a decoder layer holds the transposed convolution at the phase's places. -/
theorem up_apply {C O P h N : ℕ} (hP : P = h + 2) (hN : N = h * h * 128) (X : A32 (imgs C P)) (W : Fin 2 → Fin 2 → A32 ⟨2, ![O, C]⟩)
    (b : A32 ⟨2, ![O, 1]⟩) (hb : (⟨2, ![O, 1]⟩ : Shape).Broadcasts ⟨2, ![O, N]⟩) (p q : Fin 2)
    (f : Fin 128 → Fin C → Fin h → Fin h → EReal) (hf : ∀ c (y x : Fin P) n, X (ix4 c y x n) = pad (f n) c y.val x.val)
    (Wm : Fin C → Fin O → Fin 4 → Fin 4 → EReal) (bm : Fin O → EReal) (hW : ∀ i l o c, W i l (ix2 o c) = Wm c o (ph p i) (ph q l))
    (hbm : ∀ o, b (ix2 o 0) = bm o) (o : Fin O) (y x : Fin h) (n : Fin 128) :
    up C O P h N hP hN X W b hb p q (ix2 o (fl hN y x n)) = convT Wm bm (f n) o (2 * y.val + p.val) (2 * x.val + q.val) := by
  unfold up
  rw [convT_phase, addCol_apply, conv4_apply, hbm]
  congr 1
  refine Finset.sum_congr rfl fun i _ => Finset.sum_congr rfl fun l _ => Finset.sum_congr rfl fun c _ => ?_
  rw [flat_apply, win_apply, hf, hW]
  congr 2 <;> (dsimp only; omega)

/-! ## The first layer -/

/-- A phase of the first layer, as images. -/
def dec1P (X : A32 (imgs 64 10)) (W : Fin 2 → Fin 2 → Fin 2 → Fin 2 → A32 ⟨2, ![32, 64]⟩) (b : A32 ⟨2, ![32, 1]⟩) (p q : Fin 2) : A32 (imgs 32 8) :=
  unflat 32 8 8192 rfl (relu (up 64 32 10 8 8192 rfl rfl X (W p q) b broadcasts_S32x1_S32x8192 p q))

/-- The first layer, its phases woven and bordered. -/
def dec1K (X : A32 (imgs 64 10)) (W : Fin 2 → Fin 2 → Fin 2 → Fin 2 → A32 ⟨2, ![32, 64]⟩) (b : A32 ⟨2, ![32, 1]⟩) : A32 (imgs 32 18) :=
  border 32 16 18 rfl (Scalar.ofBits (F := Ideal) .f32 0x00000000#32)
    (weaveY 32 8 16 rfl (weaveX 32 8 16 rfl (dec1P X W b 0 0) (dec1P X W b 0 1)) (weaveX 32 8 16 rfl (dec1P X W b 1 0) (dec1P X W b 1 1)))

section pays
variable (V : FVec Ideal S64x10x10x128 .f32) (W : Fin 2 → Fin 2 → Fin 2 → Fin 2 → Vec Ideal S32x64 .f32) (b : Vec Ideal S32x1 .f32)

/-- The kernel's first decoder layer. -/
def kDec1 : FVec Ideal S32x18x18x128 .f32 :=
  k0_pay27 (k0_pay17 V (W 0 0 0 0) (W 0 0 0 1) (W 0 0 1 0) (W 0 0 1 1) b)
    (k0_pay20 V (k0_pay18 V (W 0 1 0 0)) (k0_pay19 V) (W 0 1 0 1) (W 0 1 1 0) (W 0 1 1 1) b)
    (k0_pay23 V (k0_pay21 V (W 1 0 0 0) (W 1 0 0 1)) (k0_pay22 V) (W 1 0 1 0) (W 1 0 1 1) b)
    (k0_pay24 V (W 1 1 0 0) (W 1 1 0 1) (W 1 1 1 0)) (k0_pay25 (W 1 1 1 1)) (k0_pay26 V) (constant S32x8192 .f32 0x00000000#32) b

theorem kDec1_eq : kDec1 V W b = dec1K V W b := rfl

end pays

/-- The woven phases hold the transposed convolution's positive part. -/
theorem dec1K_apply (X : A32 (imgs 64 10)) (W : Fin 2 → Fin 2 → Fin 2 → Fin 2 → A32 ⟨2, ![32, 64]⟩) (b : A32 ⟨2, ![32, 1]⟩)
    (f : Fin 128 → Fin 64 → Fin 8 → Fin 8 → EReal) (hf : ∀ c (y x : Fin 10) n, X (ix4 c y x n) = pad (f n) c y.val x.val)
    (Wm : Fin 64 → Fin 32 → Fin 4 → Fin 4 → EReal) (bm : Fin 32 → EReal)
    (hW : ∀ p q i l o c, W p q i l (ix2 o c) = Wm c o (ph p i) (ph q l)) (hbm : ∀ o, b (ix2 o 0) = bm o) (o : Fin 32) (y x : Fin 18) (n : Fin 128) :
    dec1K X W b (ix4 o y x n) = pad (fun o (Y X : Fin 16) => max (convT Wm bm (f n) o Y.val X.val) 0) o y.val x.val := by
  unfold dec1K
  refine border_eq_pad rfl _ (fun n o (Y X : Fin 16) => max (convT Wm bm (f n) o Y.val X.val) 0) (fun o Y Z n => ?_) o y x n
  have key : ∀ (p q : Fin 2) (h w : Fin 8), dec1P X W b p q (ix4 o h w n) = max (convT Wm bm (f n) o (2 * h.val + p.val) (2 * w.val + q.val)) 0 := by
    intro p q h w
    unfold dec1P
    rw [unflat_apply, relu_apply, up_apply rfl rfl X (W p q) b _ p q f hf Wm bm (hW p q) hbm]
  obtain ⟨h, p, rfl⟩ : ∃ (h : Fin 8) (p : Fin 2), Y = ⟨2 * h.val + p.val, by omega⟩ :=
    ⟨⟨Y.val / 2, by omega⟩, ⟨Y.val % 2, by omega⟩, Fin.ext (by dsimp only; omega)⟩
  obtain ⟨w, q, rfl⟩ : ∃ (w : Fin 8) (q : Fin 2), Z = ⟨2 * w.val + q.val, by omega⟩ :=
    ⟨⟨Z.val / 2, by omega⟩, ⟨Z.val % 2, by omega⟩, Fin.ext (by dsimp only; omega)⟩
  rw [weaveY_apply]
  match p, q with
  | 0, 0 => rw [if_pos rfl, weaveX_apply, if_pos rfl, key]
  | 0, 1 => rw [if_pos rfl, weaveX_apply, if_neg (by decide), key]
  | 1, 0 => rw [if_neg (by decide), weaveX_apply, if_pos rfl, key]
  | 1, 1 => rw [if_neg (by decide), weaveX_apply, if_neg (by decide), key]

/-! ## The second layer and its error -/

/-- The images without their border. -/
def core (x : Vec Ideal S3x34x34x128 .f32) : FVec Ideal S3x32x32x128 .f32 := k0_pay28 (k0_pay1 x)

theorem core_eq (x : Vec Ideal S3x34x34x128 .f32) : core x = win 3 34 32 1 1 (by decide) (by decide) (k0_pay1 x) := rfl

/-- The difference of the images and one phase of the decoded images, at the phase's places. -/
def diffK (X : A32 (imgs 32 18)) (I : A32 (imgs 3 32)) (W : Fin 2 → Fin 2 → Fin 2 → Fin 2 → A32 ⟨2, ![3, 32]⟩) (b : A32 ⟨2, ![3, 1]⟩) (p q : Fin 2) :
    A32 ⟨2, ![3, 32768]⟩ :=
  subf (pick 3 16 32 32768 p.val q.val p.isLt q.isLt rfl rfl I) (up 32 3 18 16 32768 rfl rfl X (W p q) b broadcasts_S3x1_S3x32768 p q)

/-- The phase's squared error. -/
def errK (X : A32 (imgs 32 18)) (I : A32 (imgs 3 32)) (W : Fin 2 → Fin 2 → Fin 2 → Fin 2 → A32 ⟨2, ![3, 32]⟩) (b : A32 ⟨2, ![3, 1]⟩) (p q : Fin 2) : Ideal .f32 :=
  sumAll 3 32768 shapeCasts_S3x32768_S1x3x32768 reduces_S1x3x32768_S1 (mulf (diffK X I W b p q) (diffK X I W b p q))

theorem errK_apply (X : A32 (imgs 32 18)) (I : A32 (imgs 3 32)) (W : Fin 2 → Fin 2 → Fin 2 → Fin 2 → A32 ⟨2, ![3, 32]⟩) (b : A32 ⟨2, ![3, 1]⟩)
    (p q : Fin 2) (f : Fin 128 → Fin 32 → Fin 16 → Fin 16 → EReal) (hf : ∀ c (y x : Fin 18) n, X (ix4 c y x n) = pad (f n) c y.val x.val)
    (im : Fin 128 → Fin 3 → Fin 32 → Fin 32 → EReal) (hI : ∀ c y x n, I (ix4 c y x n) = im n c y x)
    (Wm : Fin 32 → Fin 3 → Fin 4 → Fin 4 → EReal) (bm : Fin 3 → EReal)
    (hW : ∀ p q i l o c, W p q i l (ix2 o c) = Wm c o (ph p i) (ph q l)) (hbm : ∀ o, b (ix2 o 0) = bm o) :
    (errK X I W b p q : EReal) = ∑ n : Fin 128, ∑ o : Fin 3, ∑ y : Fin 16, ∑ x : Fin 16,
      (im n o ⟨2 * y.val + p.val, by omega⟩ ⟨2 * x.val + q.val, by omega⟩ - convT Wm bm (f n) o (2 * y.val + p.val) (2 * x.val + q.val))
      * (im n o ⟨2 * y.val + p.val, by omega⟩ ⟨2 * x.val + q.val, by omega⟩ - convT Wm bm (f n) o (2 * y.val + p.val) (2 * x.val + q.val)) := by
  unfold errK
  rw [sumAll_apply]
  have key : ∀ (o : Fin 3) (y x : Fin 16) (n : Fin 128), (diffK X I W b p q (ix2 o (fl (h := 16) rfl y x n)) : EReal)
      = im n o ⟨2 * y.val + p.val, by omega⟩ ⟨2 * x.val + q.val, by omega⟩ - convT Wm bm (f n) o (2 * y.val + p.val) (2 * x.val + q.val) := by
    intro o y x n
    unfold diffK
    rw [subf_apply, pick_apply, hI, up_apply rfl rfl X (W p q) b _ p q f hf Wm bm (hW p q) hbm]
  simp only [sum_fl (h := 16) (N := 32768) rfl, mulf_apply, key]
  exact Finset.sum_comm

section pays
variable (v270 : Ideal .f32) (x : Vec Ideal S3x34x34x128 .f32) (V : FVec Ideal S64x10x10x128 .f32) (W : Fin 2 → Fin 2 → Fin 2 → Fin 2 → Vec Ideal S32x64 .f32)
  (b : Vec Ideal S32x1 .f32) (U : Fin 2 → Fin 2 → Fin 2 → Fin 2 → Vec Ideal S3x32 .f32) (e : Vec Ideal S3x1 .f32) (acc : Vec Ideal S1x1 .f32)

/-- What the kernel's block leaves in the result: from the quantisation error, the images, the quantised encodings and
    the decoder's weights, onto what was there. -/
def kLoss : FVec Ideal S1x1 .f32 :=
  k0_pay39 v270 (core x)
    (k0_pay35 (core x)
      (k0_pay32 (kDec1 V W b) (core x)
        (k0_pay30 (kDec1 V W b) (core x)
          (k0_pay29 (k0_pay17 V (W 0 0 0 0) (W 0 0 0 1) (W 0 0 1 0) (W 0 0 1 1) b)
            (k0_pay20 V (k0_pay18 V (W 0 1 0 0)) (k0_pay19 V) (W 0 1 0 1) (W 0 1 1 0) (W 0 1 1 1) b)
            (k0_pay23 V (k0_pay21 V (W 1 0 0 0) (W 1 0 0 1)) (k0_pay22 V) (W 1 0 1 0) (W 1 0 1 1) b)
            (k0_pay24 V (W 1 1 0 0) (W 1 1 0 1) (W 1 1 1 0)) (k0_pay25 (W 1 1 1 1)) (k0_pay26 V) (constant S32x8192 .f32 0x00000000#32) b
            (U 0 0 0 0) (U 0 0 0 1) (U 0 0 1 0))
          (U 0 0 1 1) e)
        (k0_pay31 (kDec1 V W b) (U 0 1 0 0) (U 0 1 0 1) (U 0 1 1 0)) (U 0 1 1 1) e)
      (k0_pay33 (kDec1 V W b) (U 1 0 0 0) (U 1 0 0 1) (U 1 0 1 0)) (k0_pay34 (kDec1 V W b)) (U 1 0 1 1) e)
    (k0_pay36 (kDec1 V W b) (U 1 1 0 0) (U 1 1 0 1) (U 1 1 1 0)) (k0_pay37 (kDec1 V W b)) (U 1 1 1 1) e acc

/-- The block's loss from its squared errors and its quantisation error. -/
def lossK (v270 : Ideal .f32) (err : Fin 2 → Fin 2 → Ideal .f32) : Ideal .f32 :=
  Scalar.mulf (Scalar.addf (Scalar.mulf (Scalar.ofBits .f32 0x3F000000#32)
      (Scalar.addf (Scalar.addf (Scalar.addf (Scalar.addf (Scalar.ofBits .f32 0x00000000#32) (err 0 0)) (err 0 1)) (err 1 0)) (err 1 1)))
    (Scalar.mulf (Named.named κ "c11" 0x3F8CCCCD#32) v270)) (Scalar.ofBits .f32 0x3B800000#32)

theorem kLoss_eq : kLoss v270 x V W b U e acc
    = addf (shapeCast S1x1 acc shapeCasts_S1x1_S1x1) (broadcast S1x1 (lossK v270 (errK (dec1K V W b) (core x) U e))) := rfl

end pays

end Cert.Vq

end
-- ==== Proof.KBlock.lean ====
/-
  What one grid point's block leaves in the result: the loss of its 128 images, onto what was there.
-/
module

public import proofs.«01_k».proof.Proof.KDec
public import proofs.«01_k».proof.Proof.Gen.KernelIdeal.Value

@[expose] public section

noncomputable section

namespace Cert.Vq

open Idealize.ShloMosaic hiding ix0 ix1 ix2 ix3 ix4 ix5
open Idealize.ShloMosaic.ValueIdx
open Cert.KernelIdeal Cert.KernelIdeal.Gen

theorem slab_inb {R K M r : ℕ} (h : r + M ≤ R) (a : Fin 2) : (![r, 0] : Fin 2 → ℕ) a + (![M, K] : Fin 2 → ℕ) a ≤ (⟨2, ![R, K]⟩ : Shape).size a := by
  match a with
  | 0 => exact h
  | 1 => exact le_of_eq (Nat.zero_add K)

/-- `M` rows of a matrix from row `r`, as a load reads them. -/
def slab {R K : ℕ} (y : Vec Ideal ⟨2, ![R, K]⟩ .f32) (M r : ℕ) (h : r + M ≤ R) : Vec Ideal ⟨2, ![M, K]⟩ .f32 :=
  View.ld (Val := Elt Ideal) (S := ⟨2, ![R, K]⟩) y (Rect.unit (s := ⟨2, ![R, K]⟩) ![r, 0] ![M, K] (slab_inb h))

theorem slab_apply {R K : ℕ} (y : Vec Ideal ⟨2, ![R, K]⟩ .f32) (M r : ℕ) (h : r + M ≤ R) (o : Fin M) (c : Fin K) :
    slab y M r h (ix2 o c) = y (ix2 ⟨r + o.val, by omega⟩ c) := by
  unfold slab
  rw [View.ld_unit]
  refine extractStridedSlice_apply (t := ⟨2, ![M, K]⟩) (s := ⟨2, ![R, K]⟩) _ _ _ _ _ fun a => ?_
  match a with
  | 0 => rfl
  | 1 => exact (Nat.zero_add _).symm

/-- The whole of a matrix, as a load reads it. -/
theorem slab_all {R K : ℕ} (y : Vec Ideal ⟨2, ![R, K]⟩ .f32) (h : 0 + R ≤ R) : slab y R 0 h = y := by
  funext j
  obtain ⟨o, k, rfl⟩ : ∃ (o : Fin R) (k : Fin K), j = ix2 o k := ⟨j 0, j 1, ValueIdx.eq_ix2 j⟩
  rw [slab_apply]
  exact congrArg (fun z => y (ix2 z k)) (Fin.ext (Nat.zero_add _))

/-- The images' whole block, as a load reads it. -/
def images (y : Vec Ideal S3x34x34x128 .f32) : Vec Ideal S3x34x34x128 .f32 :=
  View.ld (Val := Elt Ideal) y (Rect.unit (s := S3x34x34x128) ![0, 0, 0, 0] S3x34x34x128.size inb_S3x34x34x128_S3x34x34x128_0_0_0_0)

theorem images_eq (y : Vec Ideal S3x34x34x128 .f32) : images y = y := by
  refine View.ld_unit_zero ?_ _ y
  funext a
  match a with
  | 0 => rfl
  | 1 => rfl
  | 2 => rfl
  | 3 => rfl

/-- The nine slabs of an encoder layer's weights. -/
def taps9 {R K : ℕ} (y : Vec Ideal ⟨2, ![R, K]⟩ .f32) (M : ℕ) (h : R = 9 * M) (ky kx : Fin 3) : Vec Ideal ⟨2, ![M, K]⟩ .f32 :=
  slab y M (M * (3 * ky.val + kx.val)) (by subst h; nlinarith [ky.isLt, kx.isLt, Nat.mul_le_mul_left M (show 3 * ky.val + kx.val + 1 ≤ 9 by omega)])

/-- The sixteen slabs of a decoder layer's weights: phase, then tap. -/
def taps16 {R K : ℕ} (y : Vec Ideal ⟨2, ![R, K]⟩ .f32) (M : ℕ) (h : R = 16 * M) (p q i l : Fin 2) : Vec Ideal ⟨2, ![M, K]⟩ .f32 :=
  slab y M (M * ((2 * p.val + q.val) * 4 + (2 * i.val + l.val)))
    (by subst h; nlinarith [Nat.mul_le_mul_left M (show (2 * p.val + q.val) * 4 + (2 * i.val + l.val) + 1 ≤ 16 by omega)])

/-- The block's result from the contents of its inputs and of the result so far. -/
def blockOf (y0 : Vec Ideal S3x34x34x128 .f32) (y1 : Vec Ideal S288x3 .f32) (y2 : Vec Ideal S576x32 .f32) (y3 : Vec Ideal S512x64 .f32)
    (y4 : Vec Ideal S48x32 .f32) (y5 : Vec Ideal S32x1 .f32) (y6 : Vec Ideal S64x1 .f32) (y7 : Vec Ideal S32x1 .f32) (y8 : Vec Ideal S3x1 .f32)
    (y9 : Vec Ideal S64x64 .f32) (y10 : Vec Ideal S64x64 .f32) (acc : Vec Ideal S1x1 .f32) : FVec Ideal S1x1 .f32 :=
  kLoss
    (k0_pay15 (kEnc (images y0) (taps9 y1 32 rfl) (slab y5 32 0 (by decide)) (taps9 y2 64 rfl)) (slab y6 64 0 (by decide)) (slab y9 64 0 (by decide)))
    (images y0)
    (k0_pay16 (kEnc (images y0) (taps9 y1 32 rfl) (slab y5 32 0 (by decide)) (taps9 y2 64 rfl)) (slab y6 64 0 (by decide)) (slab y9 64 0 (by decide))
      (slab y10 64 0 (by decide)))
    (taps16 y3 32 rfl) (slab y7 32 0 (by decide)) (taps16 y4 3 rfl) (slab y8 3 0 (by decide)) acc

theorem zero2 : (![0, 0] : Fin 2 → ℕ) = fun _ => 0 := by
  funext a
  match a with
  | 0 => rfl
  | 1 => rfl

section runs
variable (c : Dev nD) (i : grid0.Coords) (arg1 : Memref sig .tc .vmem S3x34x34x128 .f32) (harg1 : arg1.IsWhole) (arg2 : Memref sig .tc .vmem S288x3 .f32) (harg2 : arg2.IsWhole) (arg3 : Memref sig .tc .vmem S576x32 .f32) (harg3 : arg3.IsWhole) (arg4 : Memref sig .tc .vmem S512x64 .f32) (harg4 : arg4.IsWhole) (arg5 : Memref sig .tc .vmem S48x32 .f32) (harg5 : arg5.IsWhole) (arg6 : Memref sig .tc .vmem S32x1 .f32) (harg6 : arg6.IsWhole) (arg7 : Memref sig .tc .vmem S64x1 .f32) (harg7 : arg7.IsWhole) (arg8 : Memref sig .tc .vmem S32x1 .f32) (harg8 : arg8.IsWhole) (arg9 : Memref sig .tc .vmem S3x1 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S1x1 .f32) (harg12 : arg12.IsWhole)
  (x0 : Vec Ideal S3x34x34x128 .f32) (x1 : Vec Ideal S288x3 .f32) (x2 : Vec Ideal S576x32 .f32) (x3 : Vec Ideal S512x64 .f32) (x4 : Vec Ideal S48x32 .f32) (x5 : Vec Ideal S32x1 .f32) (x6 : Vec Ideal S64x1 .f32) (x7 : Vec Ideal S32x1 .f32) (x8 : Vec Ideal S3x1 .f32) (x9 : Vec Ideal S64x64 .f32) (x10 : Vec Ideal S64x64 .f32)

/-- The first point's block, onto the zero it stores. -/
theorem outA (hc0 : cond0_0 i) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10
      = blockOf x0 x1 x2 x3 x4 x5 x6 x7 x8 x9 x10 (zeros S1x1) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10)]
  refine (View.canon_cons_unit_zero (S := S1x1) zero2 inb_S1x1_S1x1_0_0 _ _).trans ?_
  refine Eq.trans (b := blockOf (arg1.view.read _ (harg1.unread x0)) (arg2.view.read _ (harg2.unread x1)) (arg3.view.read _ (harg3.unread x2))
    (arg4.view.read _ (harg4.unread x3)) (arg5.view.read _ (harg5.unread x4)) (arg6.view.read _ (harg6.unread x5)) (arg7.view.read _ (harg7.unread x6))
    (arg8.view.read _ (harg8.unread x7)) (arg9.view.read _ (harg9.unread x8)) (arg10.view.read _ (harg10.unread x9)) (arg11.view.read _ (harg11.unread x10))
    (arg12.view.readCov [⟨Rect.unit ![0, 0] S1x1.size inb_S1x1_S1x1_0_0, k0_pay38 (F := Ideal)⟩] (Rect.unit ![0, 0] S1x1.size inb_S1x1_S1x1_0_0).toLoadRect)) (by sl_kernel_rfl) ?_
  rw [harg1.read_unread, harg2.read_unread, harg3.read_unread, harg4.read_unread, harg5.read_unread, harg6.read_unread, harg7.read_unread,
    harg8.read_unread, harg9.read_unread, harg10.read_unread, harg11.read_unread]
  refine congrArg (blockOf x0 x1 x2 x3 x4 x5 x6 x7 x8 x9 x10) ?_
  exact View.readCov_unit_zero (Val := Elt Ideal) (S := S1x1) (e := .f32) arg12.view zero2 inb_S1x1_S1x1_0_0 (k0_pay38 (F := Ideal))

/-- The second point's block, onto what the first left. -/
theorem outB (hc0 : ¬cond0_0 i) (xo11 : Vec Ideal S1x1 .f32) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10 xo11
      = blockOf x0 x1 x2 x3 x4 x5 x6 x7 x8 x9 x10 xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10 xo11)]
  refine (View.canon_cons_unit_zero (S := S1x1) zero2 inb_S1x1_S1x1_0_0 _ _).trans ?_
  refine Eq.trans (b := blockOf (arg1.view.read _ (harg1.unread x0)) (arg2.view.read _ (harg2.unread x1)) (arg3.view.read _ (harg3.unread x2))
    (arg4.view.read _ (harg4.unread x3)) (arg5.view.read _ (harg5.unread x4)) (arg6.view.read _ (harg6.unread x5)) (arg7.view.read _ (harg7.unread x6))
    (arg8.view.read _ (harg8.unread x7)) (arg9.view.read _ (harg9.unread x8)) (arg10.view.read _ (harg10.unread x9)) (arg11.view.read _ (harg11.unread x10))
    (slab (R := 1) (K := 1) (arg12.view.read _ (harg12.unread xo11)) 1 0 (by decide))) (by sl_kernel_rfl) ?_
  rw [harg1.read_unread, harg2.read_unread, harg3.read_unread, harg4.read_unread, harg5.read_unread, harg6.read_unread, harg7.read_unread,
    harg8.read_unread, harg9.read_unread, harg10.read_unread, harg11.read_unread, harg12.read_unread, slab_all]

end runs

end Cert.Vq

end
-- ==== Proof.KValue.lean ====
/-
  The block's loss is its images' loss: half the squared reconstruction errors and 1.1 of the quantisation errors, over the count.
-/
module

public import proofs.«01_k».proof.Proof.KBlock

@[expose] public section

noncomputable section

namespace Cert.Vq

open Idealize.ShloMosaic hiding ix0 ix1 ix2 ix3 ix4 ix5
open Idealize.ShloMosaic.ValueIdx
open Cert.KernelIdeal Cert.KernelIdeal.Gen

variable (N : Net) (im : Fin 128 → Img) (y0 : Vec Ideal S3x34x34x128 .f32) (y1 : Vec Ideal S288x3 .f32) (y2 : Vec Ideal S576x32 .f32) (y3 : Vec Ideal S512x64 .f32)
    (y4 : Vec Ideal S48x32 .f32) (y5 : Vec Ideal S32x1 .f32) (y6 : Vec Ideal S64x1 .f32) (y7 : Vec Ideal S32x1 .f32) (y8 : Vec Ideal S3x1 .f32)
    (y9 : Vec Ideal S64x64 .f32) (y10 : Vec Ideal S64x64 .f32)

/-- The inputs' blocks hold the images, bordered, and the network's weights. -/
structure Holds : Prop where
  h0 : ∀ (c : Fin 3) (y x : Fin 34) (n : Fin 128), (y0 (ix4 c y x n) : EReal) = pad (im n) c y.val x.val
  h1 : ∀ (ky kx : Fin 3) (o : Fin 32) (c : Fin 3), (taps9 y1 32 rfl ky kx (ix2 o c) : EReal) = N.w1 o c ky kx
  h2 : ∀ (ky kx : Fin 3) (o : Fin 64) (c : Fin 32), (taps9 y2 64 rfl ky kx (ix2 o c) : EReal) = N.w2 o c ky kx
  h3 : ∀ (p q i l : Fin 2) (o : Fin 32) (c : Fin 64), (taps16 y3 32 rfl p q i l (ix2 o c) : EReal) = N.d1 c o (ph p i) (ph q l)
  h4 : ∀ (p q i l : Fin 2) (o : Fin 3) (c : Fin 32), (taps16 y4 3 rfl p q i l (ix2 o c) : EReal) = N.d2 c o (ph p i) (ph q l)
  h5 : ∀ o : Fin 32, (y5 (ix2 o 0) : EReal) = N.b1 o
  h6 : ∀ o : Fin 64, (y6 (ix2 o 0) : EReal) = N.b2 o
  h7 : ∀ o : Fin 32, (y7 (ix2 o 0) : EReal) = N.e1 o
  h8 : ∀ o : Fin 3, (y8 (ix2 o 0) : EReal) = N.e2 o
  h9 : ∀ k d : Fin 64, (y9 (ix2 k d) : EReal) = N.code k d
  h10 : ∀ d k : Fin 64, (y10 (ix2 d k) : EReal) = N.code k d

section parts
variable {N im y0 y1 y2 y3 y4 y5 y6 y7 y8 y9 y10}
variable (H : Holds N im y0 y1 y2 y3 y4 y5 y6 y7 y8 y9 y10)
include H

theorem pay1_eq : (k0_pay1 (F := Ideal) y0) = y0 := shapeCast_self _ _

/-- The first layer's array holds each image's first layer, bordered. -/
theorem hid_apply (o : Fin 32) (y x : Fin 18) (n : Fin 128) :
    (hidK (k0_pay1 y0) (taps9 y1 32 rfl) y5 (ix4 o y x n) : EReal) = pad (N.hid (im n)) o y.val x.val := by
  refine border_eq_pad rfl _ (fun n => N.hid (im n)) (fun o y x n => ?_) o y x n
  rw [unflat_apply, relu_apply]
  refine congrArg (fun z : EReal => max z 0) ?_
  refine down_apply (C := 3) (O := 32) (P := 34) (h := 16) (N := 32768) rfl rfl (k0_pay1 y0) (taps9 y1 32 rfl) y5
    broadcasts_S32x1_S32x32768 im (fun c y x n => ?_) N.w1 N.b1 H.h1 H.h5 o y x n
  rw [pay1_eq H]
  exact H.h0 c y x n

/-- The encoding's array holds each image's encoding. -/
theorem enc_apply (o : Fin 64) (y x : Fin 8) (n : Fin 128) :
    (k0_pay12 (kEnc y0 (taps9 y1 32 rfl) y5 (taps9 y2 64 rfl)) y6 (ix2 o (fl rfl y x n)) : EReal) = N.enc (im n) o y x := by
  rw [kEnc_eq]
  exact down_apply (C := 32) (O := 64) (P := 18) (h := 8) (N := 8192) rfl rfl (hidK (k0_pay1 y0) (taps9 y1 32 rfl) y5) (taps9 y2 64 rfl) y6
    broadcasts_S64x1_S64x8192 (fun n => N.hid (im n)) (fun c y x n => hid_apply H c y x n) N.w2 N.b2 H.h2 H.h6 o y x n

theorem score_apply (y x : Fin 8) (n : Fin 128) (k : Fin 64) :
    (k0_pay13 (kEnc y0 (taps9 y1 32 rfl) y5 (taps9 y2 64 rfl)) y6 y9 (ix2 k (fl rfl y x n)) : EReal)
      = score (fun d => N.enc (im n) d y x) N.code k := by
  rw [pay13_apply]
  simp only [enc_apply H, H.h9]

variable (hN : N.Finite) (hI : ∀ n c y x, Fin' (im n c y x))
include hN hI

theorem tok_apply (y x : Fin 8) (n : Fin 128) :
    firstMin (fun k => (k0_pay13 (kEnc y0 (taps9 y1 32 rfl) y5 (taps9 y2 64 rfl)) y6 y9 (ix2 k (fl rfl y x n)) : EReal)) = N.tok (im n) y x := by
  simp only [score_apply H]
  exact firstMin_score (fun d => fin_enc hN (hI n) d y x) hN.code

/-- The quantisation error's sum is the images'. -/
theorem vq_apply : (k0_pay15 (kEnc y0 (taps9 y1 32 rfl) y5 (taps9 y2 64 rfl)) y6 y9 : EReal) = ∑ n, N.vq (im n) := by
  rw [pay15_apply, sum_fl (h := 8) rfl]
  refine Finset.sum_congr rfl fun n _ => Finset.sum_congr rfl fun y _ => Finset.sum_congr rfl fun x _ => ?_
  rw [tok_apply H hN hI, score_apply H]
  simp only [enc_apply H]
  exact congrArg Ideal.sqrt (score_add (fun d => fin_enc hN (hI n) d y x) hN.code _)

/-- The quantised array holds each image's quantised encoding, bordered. -/
theorem quant_apply (o : Fin 64) (y x : Fin 10) (n : Fin 128) :
    (k0_pay16 (kEnc y0 (taps9 y1 32 rfl) y5 (taps9 y2 64 rfl)) y6 y9 y10 (ix4 o y x n) : EReal) = pad (N.quant (im n)) o y.val x.val := by
  rw [pay16_eq]
  refine border_eq_pad rfl _ (fun n => N.quant (im n)) (fun o y x n => ?_) o y x n
  rw [unflat_apply, quantW_apply, tok_apply H hN hI]
  exact H.h10 _ _

theorem core_apply (c : Fin 3) (y x : Fin 32) (n : Fin 128) : (core y0 (ix4 c y x n) : EReal) = im n c y x := by
  rw [core_eq, win_apply, pay1_eq H, H.h0, pad, dif_pos ⟨⟨by dsimp only; omega, by dsimp only; omega⟩, by dsimp only; omega, by dsimp only; omega⟩]
  congr 1 <;> exact Fin.ext (by dsimp only; omega)

/-- A phase's squared error is the images' at the phase's places. -/
theorem err_apply (p q : Fin 2) :
    (errK (dec1K (k0_pay16 (kEnc y0 (taps9 y1 32 rfl) y5 (taps9 y2 64 rfl)) y6 y9 y10) (taps16 y3 32 rfl) y7) (core y0) (taps16 y4 3 rfl) y8 p q : EReal)
      = ∑ n, ∑ o, ∑ y : Fin 16, ∑ x : Fin 16,
        (im n o ⟨2 * y.val + p.val, by omega⟩ ⟨2 * x.val + q.val, by omega⟩ - N.dec2 (im n) o ⟨2 * y.val + p.val, by omega⟩ ⟨2 * x.val + q.val, by omega⟩)
        * (im n o ⟨2 * y.val + p.val, by omega⟩ ⟨2 * x.val + q.val, by omega⟩ - N.dec2 (im n) o ⟨2 * y.val + p.val, by omega⟩ ⟨2 * x.val + q.val, by omega⟩) :=
  errK_apply _ _ _ _ p q (fun n => N.dec1 (im n))
    (fun c y x n => dec1K_apply _ _ _ (fun n => N.quant (im n)) (fun c y x n => quant_apply H hN hI c y x n) N.d1 N.e1 H.h3 H.h7 c y x n)
    im (fun c y x n => core_apply H hN hI c y x n) N.d2 N.e2 H.h4 H.h8

end parts

/-- A sum over the rows is over the phases and the rows of each. -/
theorem sum_rows {h H : ℕ} (hH : H = 2 * h) (f : Fin H → EReal) :
    ∑ Y, f Y = ∑ p : Fin 2, ∑ y : Fin h, f ⟨2 * y.val + p.val, by omega⟩ := by
  subst hH
  rw [← (finProdFinEquiv.trans (finCongr (Nat.mul_comm h 2))).sum_comp f, Fintype.sum_prod_type, Finset.sum_comm]
  refine Finset.sum_congr rfl fun p _ => Finset.sum_congr rfl fun y _ => congrArg f (Fin.ext ?_)
  simp [finProdFinEquiv]
  omega

/-- An image's places are the four phases' places. -/
theorem sum_places (g : Fin 32 → Fin 32 → EReal) :
    ∑ Y, ∑ X, g Y X = ∑ p : Fin 2, ∑ q : Fin 2, ∑ y : Fin 16, ∑ x : Fin 16, g ⟨2 * y.val + p.val, by omega⟩ ⟨2 * x.val + q.val, by omega⟩ := by
  rw [sum_rows (h := 16) rfl]
  refine Finset.sum_congr rfl fun p _ => ?_
  rw [Finset.sum_comm (s := (Finset.univ : Finset (Fin 2)))]
  exact Finset.sum_congr rfl fun y _ => sum_rows (h := 16) rfl _

/-- The squared errors of the four phases are the images'. -/
theorem sum_phases {n : ℕ} (g : Fin n → Fin 3 → Fin 32 → Fin 32 → EReal) :
    ∑ n, ∑ o, ∑ Y, ∑ X, g n o Y X = ∑ p : Fin 2, ∑ q : Fin 2, ∑ n, ∑ o, ∑ y : Fin 16, ∑ x : Fin 16,
      g n o ⟨2 * y.val + p.val, by omega⟩ ⟨2 * x.val + q.val, by omega⟩ := by
  simp only [sum_places, Fin.sum_univ_two, Finset.sum_add_distrib]

/-- The literals of the block's loss. -/
theorem ofBits_half : (Scalar.ofBits (F := Ideal) .f32 0x3F000000#32 : EReal) = ((1 / 2 : ℝ) : EReal) := by
  show Ideal.ofBits .f32 0x3F000000#32 = _
  simp [Ideal.ofBits, Ideal.ieee, -EReal.coe_mul]; norm_num

theorem ofBits_256th : (Scalar.ofBits (F := Ideal) .f32 0x3B800000#32 : EReal) = ((1 / 256 : ℝ) : EReal) := by
  show Ideal.ofBits .f32 0x3B800000#32 = _
  simp [Ideal.ofBits, Ideal.ieee, -EReal.coe_mul]; norm_num

theorem named_c11 : (Named.named (F := Ideal) (φ := .f32) Cert.KernelIdeal.κ "c11" 0x3F8CCCCD#32 : EReal) = ((147639501 / 134217728 : ℝ) : EReal) :=
  IdealRules.named_const.ideal_named_scalar _ _ _ _ rfl

/-- The block's loss from its two sums. -/
theorem lossK_apply (v R : EReal) (err : Fin 2 → Fin 2 → EReal) (hR : ∑ p, ∑ q, err p q = R) :
    (lossK v err : EReal) = (((1 / 2 : ℝ) : EReal) * R + ((147639501 / 134217728 : ℝ) : EReal) * v) * ((1 / 256 : ℝ) : EReal) := by
  unfold lossK
  rw [ofBits_half, ofBits_256th, ofBits_zero, named_c11]
  show (((1 / 2 : ℝ) : EReal) * ((((0 + err 0 0) + err 0 1) + err 1 0) + err 1 1) + ((147639501 / 134217728 : ℝ) : EReal) * v) * ((1 / 256 : ℝ) : EReal) = _
  rw [← hR]
  simp only [Fin.sum_univ_two, zero_add, add_assoc]

/-- The four phases' squared errors are the images'. -/
theorem err_sum (H : Holds N im y0 y1 y2 y3 y4 y5 y6 y7 y8 y9 y10) (hN : N.Finite) (hI : ∀ n c y x, Fin' (im n c y x)) :
    ∑ p : Fin 2, ∑ q : Fin 2,
      (errK (dec1K (k0_pay16 (kEnc y0 (taps9 y1 32 rfl) y5 (taps9 y2 64 rfl)) y6 y9 y10) (taps16 y3 32 rfl) y7) (core y0) (taps16 y4 3 rfl) y8 p q : EReal)
      = ∑ n, N.recon (im n) := by
  refine (Finset.sum_congr rfl fun p _ => Finset.sum_congr rfl fun q _ => err_apply H hN hI p q).trans ?_
  exact (sum_phases fun n o Y X => (im n o Y X - N.dec2 (im n) o Y X) * (im n o Y X - N.dec2 (im n) o Y X)).symm

/-- The block, its inputs read. -/
theorem blockOf_eq (acc : Vec Ideal S1x1 .f32) :
    blockOf y0 y1 y2 y3 y4 y5 y6 y7 y8 y9 y10 acc
      = addf (shapeCast S1x1 acc shapeCasts_S1x1_S1x1) (broadcast S1x1 (lossK (k0_pay15 (kEnc y0 (taps9 y1 32 rfl) y5 (taps9 y2 64 rfl)) y6 y9)
        (errK (dec1K (k0_pay16 (kEnc y0 (taps9 y1 32 rfl) y5 (taps9 y2 64 rfl)) y6 y9 y10) (taps16 y3 32 rfl) y7) (core y0) (taps16 y4 3 rfl) y8))) := by
  unfold blockOf
  rw [images_eq, slab_all, slab_all, slab_all, slab_all, slab_all, slab_all, kLoss_eq]

/-- The block leaves its images' loss, onto what was there. -/
theorem blockOf_apply (H : Holds N im y0 y1 y2 y3 y4 y5 y6 y7 y8 y9 y10) (hN : N.Finite) (hI : ∀ n c y x, Fin' (im n c y x)) (acc : Vec Ideal S1x1 .f32) :
    (blockOf y0 y1 y2 y3 y4 y5 y6 y7 y8 y9 y10 acc (ix2 0 0) : EReal)
      = (acc (ix2 0 0) : EReal) + (((1 / 2 : ℝ) : EReal) * (∑ n, N.recon (im n)) + ((147639501 / 134217728 : ℝ) : EReal) * (∑ n, N.vq (im n))) * ((1 / 256 : ℝ) : EReal) := by
  rw [blockOf_eq, addf_apply, shapeCast_self, broadcast_apply]
  refine congrArg (fun z : EReal => (acc (ix2 0 0) : EReal) + z) ?_
  rw [← vq_apply H hN hI]
  exact lossK_apply _ _ _ (err_sum N im y0 y1 y2 y3 y4 y5 y6 y7 y8 y9 y10 H hN hI)

end Cert.Vq

end
-- ==== Proof.KHost.lean ====
/-
  What the host hands the kernel: each operand's array as one term of the arguments, and its entries.
-/
module

public import proofs.«01_k».proof.Proof.KValue
public import Idealize.ShloMosaic.Lib.StableHlo.RunRead
public import Idealize.ShloMosaic.Lib.KernelVsHost

@[expose] public section

noncomputable section

namespace Cert.Vq

open Idealize.ShloMosaic hiding ix0 ix1 ix2 ix3 ix4 ix5
open Idealize.ShloMosaic.ValueIdx Idealize.ShloMosaic.StableHlo Idealize.ShloMosaic.TcCoe
open Cert.KernelIdeal Cert.KernelIdeal.Gen

/-! ## The preparations, at any sizes -/

/-- One tap of a transposed convolution's weights, output channel by input channel. -/
def tap {C O : ℕ} (a b : ℕ) (hs : (⟨4, ![C, O, 4, 4]⟩ : Shape).Slices ![0, 0, a, b] ⟨4, ![C, O, 1, 1]⟩)
    (hc : (⟨4, ![C, O, 1, 1]⟩ : Shape).ShapeCasts ⟨2, ![C, O]⟩) (ht : (⟨2, ![C, O]⟩ : Shape).Transposes [1, 0] ⟨2, ![O, C]⟩)
    (W : A32 ⟨4, ![C, O, 4, 4]⟩) : A32 ⟨2, ![O, C]⟩ :=
  transpose ⟨2, ![O, C]⟩ [1, 0] (shapeCast ⟨2, ![C, O]⟩ (extractStridedSlice ⟨4, ![C, O, 1, 1]⟩ ![0, 0, a, b] W hs) hc) ht

theorem tap_apply {C O : ℕ} (a b : ℕ) (hs : (⟨4, ![C, O, 4, 4]⟩ : Shape).Slices ![0, 0, a, b] ⟨4, ![C, O, 1, 1]⟩)
    (hc : (⟨4, ![C, O, 1, 1]⟩ : Shape).ShapeCasts ⟨2, ![C, O]⟩) (ht : (⟨2, ![C, O]⟩ : Shape).Transposes [1, 0] ⟨2, ![O, C]⟩)
    (W : A32 ⟨4, ![C, O, 4, 4]⟩) (ha : a < 4) (hb : b < 4) (o : Fin O) (c : Fin C) :
    tap a b hs hc ht W (ix2 o c) = W (ix4 c o ⟨a, ha⟩ ⟨b, hb⟩) := by
  unfold tap
  refine (transpose_apply (s := ⟨2, ![C, O]⟩) (t := ⟨2, ![O, C]⟩) _ _ _ _ (ix2 c o) fun k => ?_).trans ?_
  · match k with
    | 0 => rfl
    | 1 => rfl
  refine (shapeCast_apply (s := ⟨4, ![C, O, 1, 1]⟩) (t := ⟨2, ![C, O]⟩) _ _ _ (ix4 c o 0 0) ?_).trans ?_
  · rw [Shape.rowMajor_val_four, Shape.rowMajor_val_two]
    show ((c.val * O + o.val) * 1 + 0) * 1 + 0 = c.val * O + o.val
    omega
  refine extractStridedSlice_apply (s := ⟨4, ![C, O, 4, 4]⟩) (t := ⟨4, ![C, O, 1, 1]⟩) _ _ _ _ _ fun k => ?_
  match k with
  | 0 => exact (Nat.zero_add _).symm
  | 1 => exact (Nat.zero_add _).symm
  | 2 => rfl
  | 3 => rfl

/-- Sixteen matrices, one below the other. -/
def cat16 {s : Shape} (t : Shape) (a : Fin t.rank) (h : Shape.Concatenates [s, s, s, s, s, s, s, s, s, s, s, s, s, s, s, s] t a)
    (x0 x1 x2 x3 x4 x5 x6 x7 x8 x9 x10 x11 x12 x13 x14 x15 : A32 s) : A32 t :=
  concatenate t a [⟨s, x0⟩, ⟨s, x1⟩, ⟨s, x2⟩, ⟨s, x3⟩, ⟨s, x4⟩, ⟨s, x5⟩, ⟨s, x6⟩, ⟨s, x7⟩, ⟨s, x8⟩, ⟨s, x9⟩, ⟨s, x10⟩, ⟨s, x11⟩, ⟨s, x12⟩, ⟨s, x13⟩,
    ⟨s, x14⟩, ⟨s, x15⟩] h

theorem cat16_apply {M K R : ℕ} (h) (u : Fin 2 → Fin 2 → Fin 2 → Fin 2 → A32 ⟨2, ![M, K]⟩) (p q i l : Fin 2) (o : Fin M) (c : Fin K)
    (hlt : M * ((2 * p.val + q.val) * 4 + (2 * i.val + l.val)) + o.val < R) :
    cat16 (s := ⟨2, ![M, K]⟩) ⟨2, ![R, K]⟩ 0 h (u 0 0 0 0) (u 0 0 0 1) (u 0 0 1 0) (u 0 0 1 1) (u 0 1 0 0) (u 0 1 0 1) (u 0 1 1 0) (u 0 1 1 1)
      (u 1 0 0 0) (u 1 0 0 1) (u 1 0 1 0) (u 1 0 1 1) (u 1 1 0 0) (u 1 1 0 1) (u 1 1 1 0) (u 1 1 1 1)
      (ix2 ⟨M * ((2 * p.val + q.val) * 4 + (2 * i.val + l.val)) + o.val, hlt⟩ c) = u p q i l (ix2 o c) := by
  unfold cat16
  refine concatenate_apply_piece (t := ⟨2, ![R, K]⟩) 0 _ _ _ ((2 * p.val + q.val) * 4 + (2 * i.val + l.val))
    (by simp only [List.length_cons, List.length_nil]; omega) ⟨2, ![M, K]⟩ (u p q i l)
    (by fin_cases p <;> fin_cases q <;> fin_cases i <;> fin_cases l <;> rfl) rfl
    (M * ((2 * p.val + q.val) * 4 + (2 * i.val + l.val)))
    (by fin_cases p <;> fin_cases q <;> fin_cases i <;> fin_cases l <;> simp <;> ring) (ix2 o c) (fun b hb => ?_) rfl
  match b with
  | 0 => exact absurd rfl hb
  | 1 => rfl

/-- The weights of a convolution with the taps in front. -/
theorem front_apply {O C : ℕ} (R : ℕ) (ht : (⟨4, ![O, C, 3, 3]⟩ : Shape).Transposes [2, 3, 0, 1] ⟨4, ![3, 3, O, C]⟩)
    (hc : (⟨4, ![3, 3, O, C]⟩ : Shape).ShapeCasts ⟨2, ![R, C]⟩) (W : A32 ⟨4, ![O, C, 3, 3]⟩) (ky kx : Fin 3) (o : Fin O) (c : Fin C)
    (hlt : O * (3 * ky.val + kx.val) + o.val < R) :
    shapeCast ⟨2, ![R, C]⟩ (transpose ⟨4, ![3, 3, O, C]⟩ [2, 3, 0, 1] W ht) hc (ix2 ⟨O * (3 * ky.val + kx.val) + o.val, hlt⟩ c) = W (ix4 o c ky kx) := by
  refine (shapeCast_apply (s := ⟨4, ![3, 3, O, C]⟩) (t := ⟨2, ![R, C]⟩) _ _ _ (ix4 ky kx o c) ?_).trans ?_
  · rw [Shape.rowMajor_val_four, Shape.rowMajor_val_two]
    show ((ky.val * 3 + kx.val) * O + o.val) * C + c.val = (O * (3 * ky.val + kx.val) + o.val) * C + c.val
    ring
  refine transpose_apply (s := ⟨4, ![O, C, 3, 3]⟩) (t := ⟨4, ![3, 3, O, C]⟩) _ _ _ _ _ fun k => ?_
  match k with
  | 0 => rfl
  | 1 => rfl
  | 2 => rfl
  | 3 => rfl

/-- A vector as a column. -/
theorem column_apply {O : ℕ} (h : (⟨1, ![O]⟩ : Shape).BroadcastsInDim ⟨2, ![O, 1]⟩ ![0]) (b : A32 ⟨1, ![O]⟩) (o : Fin O) :
    broadcastInDim ⟨2, ![O, 1]⟩ ![0] h b (ix2 o 0) = b (ix1 o) := by
  refine broadcastInDim_apply (s := ⟨1, ![O]⟩) (t := ⟨2, ![O, 1]⟩) _ _ _ _ _ fun a => ?_
  match a with
  | 0 =>
    show o.val = if O = 1 then 0 else o.val
    split <;> omega

/-- The images, channels first and batch last, bordered. -/
theorem border_apply' (ht : S256x3x32x32.Transposes [1, 2, 3, 0] S3x32x32x256) (hp : S3x32x32x256.Pads ![0, 1, 1, 0] ![0, 1, 1, 0] ![0, 0, 0, 0] S3x34x34x256)
    (X : A32 S256x3x32x32) (z : A32 S_) (hz : ∀ i, z i = (0 : EReal)) (hu : 0 < S_.numel) (c : Fin 3) (y x : Fin 34) (b : Fin 256) :
    (Idealize.ShloMosaic.pad S3x34x34x256 ![0, 1, 1, 0] ![0, 1, 1, 0] ![0, 0, 0, 0] (transpose S3x32x32x256 [1, 2, 3, 0] X ht) z hp hu (ix4 c y x b) : EReal)
      = pad (fun c y x => X (ix4 b c y x)) c y.val x.val := by
  unfold Cert.Vq.pad
  have hy := y.isLt
  have hx := x.isLt
  split
  next h =>
    refine (pad_apply_of_inside (s := S3x32x32x256) (t := S3x34x34x256) _ _ _ _ _ _ _ _ (ix4 c ⟨y.val - 1, by omega⟩ ⟨x.val - 1, by omega⟩ b) fun a => ?_).trans ?_
    · match a with
      | 0 => show c.val = 0 + c.val * 1; omega
      | 1 => show y.val = 1 + (y.val - 1) * 1; omega
      | 2 => show x.val = 1 + (x.val - 1) * 1; omega
      | 3 => show b.val = 0 + b.val * 1; omega
    · refine transpose_apply (s := S256x3x32x32) (t := S3x32x32x256) _ _ _ _ _ fun k => ?_
      match k with
      | 0 => rfl
      | 1 => rfl
      | 2 => rfl
      | 3 => rfl
  next h =>
    by_cases h1 : 1 ≤ y.val ∧ y.val ≤ 32
    · refine (pad_apply_of_not_inside (s := S3x32x32x256) (t := S3x34x34x256) _ _ _ _ _ _ _ _ (2 : Fin 4) ?_).trans (hz _)
      show ¬(1 ≤ x.val ∧ (x.val - 1) % 1 = 0 ∧ (x.val - 1) / 1 < 32)
      omega
    · refine (pad_apply_of_not_inside (s := S3x32x32x256) (t := S3x34x34x256) _ _ _ _ _ _ _ _ (1 : Fin 4) ?_).trans (hz _)
      show ¬(1 ≤ y.val ∧ (y.val - 1) % 1 = 0 ∧ (y.val - 1) / 1 < 32)
      omega

end Cert.Vq

end
-- ==== Proof.KReads.lean ====
/-
  The operands' arrays as the host leaves them, each one term of the arguments.
-/
module

public import proofs.«01_k».proof.Proof.KHost

@[expose] public section

noncomputable section

namespace Cert.Vq

open Idealize.ShloMosaic hiding ix0 ix1 ix2 ix3 ix4 ix5
open Idealize.ShloMosaic.ValueIdx Idealize.ShloMosaic.StableHlo Idealize.ShloMosaic.TcCoe
open Cert.KernelIdeal Cert.KernelIdeal.Gen

variable (m : (ℓ : Loc nD τ sig) → Buf (Elt Ideal) ℓ) (c : Dev nD)

/-- The images' array: channels first, batch last, bordered by zeros. -/
theorem V_v1 : V m c main_v1 = Idealize.ShloMosaic.pad S3x34x34x256 ![0, 1, 1, 0] ![0, 1, 1, 0] ![0, 0, 0, 0]
    (transpose S3x32x32x256 [1, 2, 3, 0] (m (c, main_arg0)) transposes_S256x3x32x32_S3x32x32x256_1_2_3_0)
    (sitofp (F := Ideal) .f32 (constantI S_ 32 0#32)) pads_S3x32x32x256_S3x34x34x256_000_110_110_000 h_S_ := by
  after_reads_simp
  rfl

/-- The first layer's weights, taps in front. -/
theorem V_v3 : V m c main_v3 = shapeCast S288x3 (transpose S3x3x32x3 [2, 3, 0, 1] (m (c, main_arg1)) transposes_S32x3x3x3_S3x3x32x3_2_3_0_1)
    shapeCasts_S3x3x32x3_S288x3 := by
  after_reads_simp
  rfl

/-- The second layer's weights, taps in front. -/
theorem V_v5 : V m c main_v5 = shapeCast S576x32 (transpose S3x3x64x32 [2, 3, 0, 1] (m (c, main_arg3)) transposes_S64x32x3x3_S3x3x64x32_2_3_0_1)
    shapeCasts_S3x3x64x32_S576x32 := by
  after_reads_simp
  rfl

/-- The biases as columns. -/
theorem V_v104 : V m c main_v104 = broadcastInDim S32x1 ![0] bcast_S32_S32x1_0 (m (c, main_arg2)) := by
  after_reads_simp

theorem V_v105 : V m c main_v105 = broadcastInDim S64x1 ![0] bcast_S64_S64x1_0 (m (c, main_arg4)) := by
  after_reads_simp

theorem V_v106 : V m c main_v106 = broadcastInDim S32x1 ![0] bcast_S32_S32x1_0 (m (c, main_arg6)) := by
  after_reads_simp

theorem V_v107 : V m c main_v107 = broadcastInDim S3x1 ![0] bcast_S3_S3x1_0 (m (c, main_arg8)) := by
  after_reads_simp

/-- The transposed codebook. -/
theorem V_v108 : V m c main_v108 = transpose S64x64 [1, 0] (m (c, main_arg9)) transposes_S64x64_S64x64_1_0 := by
  after_reads_simp

/-- The tap that phase `(p, q)` reads at step `(i, l)`. -/
def tap4 {C O : ℕ} (hs : ∀ a b : Fin 4, (⟨4, ![C, O, 4, 4]⟩ : Shape).Slices ![0, 0, a.val, b.val] ⟨4, ![C, O, 1, 1]⟩)
    (hc : (⟨4, ![C, O, 1, 1]⟩ : Shape).ShapeCasts ⟨2, ![C, O]⟩) (ht : (⟨2, ![C, O]⟩ : Shape).Transposes [1, 0] ⟨2, ![O, C]⟩)
    (W : A32 ⟨4, ![C, O, 4, 4]⟩) (p q i l : Fin 2) : A32 ⟨2, ![O, C]⟩ :=
  tap (ph p i).val (ph q l).val (hs _ _) hc ht W

theorem tap4_apply {C O : ℕ} (hs hc ht) (W : A32 ⟨4, ![C, O, 4, 4]⟩) (p q i l : Fin 2) (o : Fin O) (c : Fin C) :
    tap4 hs hc ht W p q i l (ix2 o c) = W (ix4 c o (ph p i) (ph q l)) :=
  tap_apply _ _ _ _ _ W (ph p i).isLt (ph q l).isLt o c

theorem slices1 (a b : Fin 4) : S64x32x4x4.Slices ![0, 0, a.val, b.val] S64x32x1x1 := by revert a b; decide

theorem slices2 (a b : Fin 4) : S32x3x4x4.Slices ![0, 0, a.val, b.val] S32x3x1x1 := by revert a b; decide

/-- The sixteen taps of a decoder layer, phase by phase. -/
abbrev stack {C O : ℕ} (R : ℕ) (h : Shape.Concatenates [⟨2, ![O, C]⟩, ⟨2, ![O, C]⟩, ⟨2, ![O, C]⟩, ⟨2, ![O, C]⟩, ⟨2, ![O, C]⟩, ⟨2, ![O, C]⟩, ⟨2, ![O, C]⟩,
    ⟨2, ![O, C]⟩, ⟨2, ![O, C]⟩, ⟨2, ![O, C]⟩, ⟨2, ![O, C]⟩, ⟨2, ![O, C]⟩, ⟨2, ![O, C]⟩, ⟨2, ![O, C]⟩, ⟨2, ![O, C]⟩, ⟨2, ![O, C]⟩] ⟨2, ![R, C]⟩ 0) (u : Fin 2 → Fin 2 → Fin 2 → Fin 2 → A32 ⟨2, ![O, C]⟩) : A32 ⟨2, ![R, C]⟩ :=
  cat16 (s := ⟨2, ![O, C]⟩) ⟨2, ![R, C]⟩ 0 h (u 0 0 0 0) (u 0 0 0 1) (u 0 0 1 0) (u 0 0 1 1) (u 0 1 0 0) (u 0 1 0 1) (u 0 1 1 0) (u 0 1 1 1)
      (u 1 0 0 0) (u 1 0 0 1) (u 1 0 1 0) (u 1 0 1 1) (u 1 1 0 0) (u 1 1 0 1) (u 1 1 1 0) (u 1 1 1 1)

set_option maxHeartbeats 1000000 in
/-- The first decoder layer's taps. -/
theorem V_v54 : V m c main_v54 = stack 512 concatenates_S32x64_S32x64_S32x64_S32x64_S32x64_S32x64_S32x64_S32x64_S32x64_S32x64_S32x64_S32x64_S32x64_S32x64_S32x64_S32x64_S512x64_d0
    (tap4 slices1 shapeCasts_S64x32x1x1_S64x32 transposes_S64x32_S32x64_1_0 (m (c, main_arg5))) := by
  simp (disch := decide) only [readAfter, nary_result']
  show cat16 (s := S32x64) S512x64 0 concatenates_S32x64_S32x64_S32x64_S32x64_S32x64_S32x64_S32x64_S32x64_S32x64_S32x64_S32x64_S32x64_S32x64_S32x64_S32x64_S32x64_S512x64_d0
    _ _ _ _ _ _ _ _ _ _ _ _ _ _ _ _ = _
  after_reads_simp
  rfl

set_option maxHeartbeats 1000000 in
/-- The second decoder layer's taps. -/
theorem V_v103 : V m c main_v103 = stack 48 concatenates_S3x32_S3x32_S3x32_S3x32_S3x32_S3x32_S3x32_S3x32_S3x32_S3x32_S3x32_S3x32_S3x32_S3x32_S3x32_S3x32_S48x32_d0
    (tap4 slices2 shapeCasts_S32x3x1x1_S32x3 transposes_S32x3_S3x32_1_0 (m (c, main_arg7))) := by
  simp (disch := decide) only [readAfter, nary_result']
  show cat16 (s := S3x32) S48x32 0 concatenates_S3x32_S3x32_S3x32_S3x32_S3x32_S3x32_S3x32_S3x32_S3x32_S3x32_S3x32_S3x32_S3x32_S3x32_S3x32_S3x32_S48x32_d0
    _ _ _ _ _ _ _ _ _ _ _ _ _ _ _ _ = _
  after_reads_simp
  rfl

end Cert.Vq

end
-- ==== Proof.Inputs.lean ====
/-
  The network and the images that the argument arrays hold.
-/
module

public import proofs.«01_k».proof.Proof.Taps
public import proofs.«01_k».proof.Proof.Finite

@[expose] public section

noncomputable section

namespace Cert.Vq

open Idealize.ShloMosaic
open Idealize.ShloMosaic.ValueIdx

/-- The network whose weights, biases and codebook are the arrays given. -/
def netOf (w1 : A32 ⟨4, ![32, 3, 3, 3]⟩) (b1 : A32 ⟨1, ![32]⟩) (w2 : A32 ⟨4, ![64, 32, 3, 3]⟩) (b2 : A32 ⟨1, ![64]⟩)
    (d1 : A32 ⟨4, ![64, 32, 4, 4]⟩) (e1 : A32 ⟨1, ![32]⟩) (d2 : A32 ⟨4, ![32, 3, 4, 4]⟩) (e2 : A32 ⟨1, ![3]⟩) (code : A32 ⟨2, ![64, 64]⟩) : Net where
  w1 o c y x := w1 (ix4 o c y x)
  b1 o := b1 (ix1 o)
  w2 o c y x := w2 (ix4 o c y x)
  b2 o := b2 (ix1 o)
  d1 c o y x := d1 (ix4 c o y x)
  e1 o := e1 (ix1 o)
  d2 c o y x := d2 (ix4 c o y x)
  e2 o := e2 (ix1 o)
  code k d := code (ix2 k d)

/-- The `b`-th image of the batch. -/
def imgOf (X : A32 ⟨4, ![256, 3, 32, 32]⟩) (b : Fin 256) : Img := fun c y x => X (ix4 b c y x)

end Cert.Vq

end
-- ==== Proof.KArr.lean ====
/-
  The result array: the two blocks' losses added, each block's inputs read from the arguments.
-/
module

public import proofs.«01_k».proof.Proof.KReads
public import proofs.«01_k».proof.Proof.KValue
public import proofs.«01_k».proof.Proof.Inputs
public import proofs.«01_k».proof.Proof.Gen.KernelIdeal.Value

@[expose] public section

noncomputable section

namespace Cert.Vq

open Idealize.ShloMosaic hiding ix0 ix1 ix2 ix3 ix4 ix5
open Idealize.ShloMosaic.ValueIdx Idealize.ShloMosaic.StableHlo Idealize.ShloMosaic.TcCoe
open Cert.KernelIdeal Cert.KernelIdeal.Gen
open Idealize.ShloMosaic.Pipeline (Dat)

variable (m : (ℓ : Loc nD τ sig) → Buf (Elt Ideal) ℓ) (c : Dev nD)

/-! ## Each input's block -/

theorem iblk1 (t : Fin cfg0.N) : iblk m c 1 t = V m c main_v3 :=
  Memref.read_access_unit_zero (Elt Ideal) main_v3 (off := fun a => win0_1.index t a * main_v3.ty.shape.size a) (by funext a; fin_cases a <;> rfl) _ _
theorem iblk2 (t : Fin cfg0.N) : iblk m c 2 t = V m c main_v5 :=
  Memref.read_access_unit_zero (Elt Ideal) main_v5 (off := fun a => win0_2.index t a * main_v5.ty.shape.size a) (by funext a; fin_cases a <;> rfl) _ _
theorem iblk3 (t : Fin cfg0.N) : iblk m c 3 t = V m c main_v54 :=
  Memref.read_access_unit_zero (Elt Ideal) main_v54 (off := fun a => win0_3.index t a * main_v54.ty.shape.size a) (by funext a; fin_cases a <;> rfl) _ _
theorem iblk4 (t : Fin cfg0.N) : iblk m c 4 t = V m c main_v103 :=
  Memref.read_access_unit_zero (Elt Ideal) main_v103 (off := fun a => win0_4.index t a * main_v103.ty.shape.size a) (by funext a; fin_cases a <;> rfl) _ _
theorem iblk5 (t : Fin cfg0.N) : iblk m c 5 t = V m c main_v104 :=
  Memref.read_access_unit_zero (Elt Ideal) main_v104 (off := fun a => win0_5.index t a * main_v104.ty.shape.size a) (by funext a; fin_cases a <;> rfl) _ _
theorem iblk6 (t : Fin cfg0.N) : iblk m c 6 t = V m c main_v105 :=
  Memref.read_access_unit_zero (Elt Ideal) main_v105 (off := fun a => win0_6.index t a * main_v105.ty.shape.size a) (by funext a; fin_cases a <;> rfl) _ _
theorem iblk7 (t : Fin cfg0.N) : iblk m c 7 t = V m c main_v106 :=
  Memref.read_access_unit_zero (Elt Ideal) main_v106 (off := fun a => win0_7.index t a * main_v106.ty.shape.size a) (by funext a; fin_cases a <;> rfl) _ _
theorem iblk8 (t : Fin cfg0.N) : iblk m c 8 t = V m c main_v107 :=
  Memref.read_access_unit_zero (Elt Ideal) main_v107 (off := fun a => win0_8.index t a * main_v107.ty.shape.size a) (by funext a; fin_cases a <;> rfl) _ _
theorem iblk9 (t : Fin cfg0.N) : iblk m c 9 t = V m c main_arg9 :=
  Memref.read_access_unit_zero (Elt Ideal) main_arg9 (off := fun a => win0_9.index t a * main_arg9.ty.shape.size a) (by funext a; fin_cases a <;> rfl) _ _
theorem iblk10 (t : Fin cfg0.N) : iblk m c 10 t = V m c main_v108 :=
  Memref.read_access_unit_zero (Elt Ideal) main_v108 (off := fun a => win0_10.index t a * main_v108.ty.shape.size a) (by funext a; fin_cases a <;> rfl) _ _

theorem lane_lt (t : Fin cfg0.N) (n : Fin 128) : 128 * t.val + n.val < 256 := by
  have : t.val < 2 := lt_of_lt_of_eq t.isLt N_0
  omega

theorem index0 (t : Fin cfg0.N) : win0_0.index t 0 = 0 ∧ win0_0.index t 1 = 0 ∧ win0_0.index t 2 = 0 ∧ win0_0.index t 3 = t.val := by
  rcases fin_N0 t with rfl | rfl <;> decide

/-- The images' block at a point is its 128 lanes of the images' array. -/
theorem iblk0 (t : Fin cfg0.N) (ch : Fin 3) (y x : Fin 34) (n : Fin 128) :
    iblk m c 0 t (ix4 ch y x n) = V m c main_v1 (ix4 ch y x ⟨128 * t.val + n.val, lane_lt t n⟩) := by
  obtain ⟨h0, h1, h2, h3⟩ := index0 t
  unfold iblk
  rw [View.read_apply]
  show V m c main_v1 _ = _
  refine congrArg (V m c main_v1) (funext fun a => Fin.ext ?_)
  match a with
  | 0 =>
    show win0_0.index t 0 * 3 + 1 * ch.val = ch.val
    rw [h0]; omega
  | 1 =>
    show win0_0.index t 1 * 34 + 1 * y.val = y.val
    rw [h1]; omega
  | 2 =>
    show win0_0.index t 2 * 34 + 1 * x.val = x.val
    rw [h2]; omega
  | 3 =>
    show win0_0.index t 3 * 128 + 1 * n.val = 128 * t.val + n.val
    rw [h3]; omega

/-! ## What the inputs hold -/

/-- The network that the arguments hold. -/
def netK : Net := netOf (m (c, main_arg1)) (m (c, main_arg2)) (m (c, main_arg3)) (m (c, main_arg4)) (m (c, main_arg5)) (m (c, main_arg6))
  (m (c, main_arg7)) (m (c, main_arg8)) (m (c, main_arg9))

/-- The images of a point's block. -/
def imgK (t : Fin cfg0.N) (n : Fin 128) : Img := imgOf (m (c, main_arg0)) ⟨128 * t.val + n.val, lane_lt t n⟩

/-- At each point the inputs' blocks hold the point's images and the network. -/
theorem holds (t : Fin cfg0.N) : Holds (netK m c) (imgK m c t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) where
  h0 ch y x n := by
    rw [iblk0, V_v1]
    refine border_apply' _ _ _ _ (fun i => ?_) _ ch y x _
    show (((0#32 : BitVec 32).toInt : ℝ) : EReal) = 0
    simp
  h1 ky kx o ch := by
    rw [iblk1, V_v3]
    exact (slab_apply _ _ _ _ o ch).trans (front_apply 288 _ _ (m (c, main_arg1)) ky kx o ch _)
  h2 ky kx o ch := by
    rw [iblk2, V_v5]
    exact (slab_apply _ _ _ _ o ch).trans (front_apply 576 _ _ (m (c, main_arg3)) ky kx o ch _)
  h3 p q i l o ch := by
    rw [iblk3, V_v54]
    exact (slab_apply _ _ _ _ o ch).trans ((cat16_apply _ _ p q i l o ch _).trans (tap4_apply _ _ _ (m (c, main_arg5)) p q i l o ch))
  h4 p q i l o ch := by
    rw [iblk4, V_v103]
    exact (slab_apply _ _ _ _ o ch).trans ((cat16_apply _ _ p q i l o ch _).trans (tap4_apply _ _ _ (m (c, main_arg7)) p q i l o ch))
  h5 o := by rw [iblk5, V_v104]; exact column_apply _ _ o
  h6 o := by rw [iblk6, V_v105]; exact column_apply _ _ o
  h7 o := by rw [iblk7, V_v106]; exact column_apply _ _ o
  h8 o := by rw [iblk8, V_v107]; exact column_apply _ _ o
  h9 k d := by rw [iblk9, V_main_arg9]; rfl
  h10 d k := by
    rw [iblk10, V_v108]
    refine transpose_apply (s := S64x64) (t := S64x64) _ _ _ _ (ix2 k d) fun a => ?_
    match a with
    | 0 => rfl
    | 1 => rfl

/-! ## The array -/

/-- The running loss after the first block, and after the second. -/
def loss0 : FVec Ideal S1x1 .f32 :=
  blockOf (iblk m c 0 t0_0) (iblk m c 1 t0_0) (iblk m c 2 t0_0) (iblk m c 3 t0_0) (iblk m c 4 t0_0) (iblk m c 5 t0_0) (iblk m c 6 t0_0)
    (iblk m c 7 t0_0) (iblk m c 8 t0_0) (iblk m c 9 t0_0) (iblk m c 10 t0_0) (zeros S1x1)

def loss1 : FVec Ideal S1x1 .f32 :=
  blockOf (iblk m c 0 t0_1) (iblk m c 1 t0_1) (iblk m c 2 t0_1) (iblk m c 3 t0_1) (iblk m c 4 t0_1) (iblk m c 5 t0_1) (iblk m c 6 t0_1)
    (iblk m c 7 t0_1) (iblk m c 8 t0_1) (iblk m c 9 t0_1) (iblk m c 10 t0_1) (loss0 m c)

theorem outs0 (h) : outsAt0 m c 0 h = loss0 m c := (outsAt0_A m c t0_0 rfl).trans (outA ..)

theorem outs1 : outsAt0 m c t0_1.val t0_1.isLt = loss1 m c := by
  rw [outsAt0_B m c t0_1 (by decide), outB]
  unfold loss1
  exact congrArg _ (outs0 m c _)

/-- The one write-back writes the whole result array. -/
theorem flushed_eq (t : Fin cfg0.N) (hf : (cfg0.win 11).flush t = true) :
    (dats m 0 c).flushed 11 t = ((cfg0.win 11).blk t).view.read (Elt Ideal) (loss1 m c) := by
  obtain rfl : t = t0_1 := by
    rcases fin_N0 t with rfl | rfl
    · exact absurd ((flush0_11 t0_0).mp hf) (by decide)
    · rfl
  show (cfg0.win 11).cut (grid0.coords t0_1) ((dats m 0 c).after 11 t0_1) = _
  rw [after0_11, outs1]
  exact (Memref.read_access_unit_zero (Elt Ideal) main_v109 (off := fun a => win0_11.index t0_1 a * main_v109.ty.shape.size a)
    (by funext a; fin_cases a <;> rfl) (fun a => by fin_cases a <;> decide) (loss1 m c)).symm

/-- The result array ends holding the two blocks' losses added. -/
theorem final_eq : (dats m 0 c).arrAt 11 cfg0.N = loss1 m c :=
  (dats m 0 c).arrAt_eq_of_cover 11 (loss1 m c) (flushed_eq m c) fun i =>
    ⟨t0_1, (flush0_11 t0_1).mpr rfl, by
      show i ∈ ((View.whole main_v109).slice (win0_11.rect t0_1)).set
      rw [View.set_slice_whole, Rect.mem_set_unit]
      intro a
      have h0 : (i 0 : Nat) < 1 := (i 0).isLt
      have h1 : (i 1 : Nat) < 1 := (i 1).isLt
      match a with
      | 0 =>
        show 0 ≤ (i 0 : Nat) ∧ (i 0 : Nat) < 1
        omega
      | 1 =>
        show 0 ≤ (i 1 : Nat) ∧ (i 1 : Nat) < 1
        omega⟩

/-- One block's share of the loss. -/
def share (N : Net) (im : Fin 128 → Img) : EReal :=
  (((1 / 2 : ℝ) : EReal) * (∑ n, N.recon (im n)) + ((147639501 / 134217728 : ℝ) : EReal) * (∑ n, N.vq (im n))) * ((1 / 256 : ℝ) : EReal)

/-- The result's one entry: the two blocks' shares added to zero. -/
theorem final_apply (hN : (netK m c).Finite) (hI : ∀ b ch y x, Fin' (imgOf (m (c, main_arg0)) b ch y x)) :
    (loss1 m c (ix2 0 0) : EReal) = 0 + share (netK m c) (imgK m c t0_0) + share (netK m c) (imgK m c t0_1) := by
  have H0 := blockOf_apply _ _ _ _ _ _ _ _ _ _ _ _ _ (holds m c t0_0) hN (fun n => hI _) (zeros S1x1)
  have H1 := blockOf_apply _ _ _ _ _ _ _ _ _ _ _ _ _ (holds m c t0_1) hN (fun n => hI _) (loss0 m c)
  have hz : (zeros S1x1 (ix2 0 0) : EReal) = 0 := zeros_apply _ _
  rw [hz] at H0
  refine H1.trans ?_
  refine congrArg (fun z : EReal => z + share (netK m c) (imgK m c t0_1)) ?_
  exact H0

end Cert.Vq

end
-- ==== Proof.RConv.lean ====
/-
  A convolution as the reference writes it: shifted copies stacked along the taps' axes, contracted with the weights.
-/
module

public import proofs.«01_k».proof.Proof.Inputs
public import Idealize.ShloMosaic.Lib.KernelVsHost
public import Idealize.ShloMosaic.Lib.Pipeline.Value

@[expose] public section

noncomputable section

namespace Cert.Vq

open Idealize.ShloMosaic
open Idealize.ShloMosaic.ValueIdx

/-- A rank-6 index from its coordinates. -/
abbrev ix6 {a b c d e f : ℕ} (i : Fin a) (j : Fin b) (k : Fin c) (l : Fin d) (m : Fin e) (n : Fin f) : (⟨6, ![a, b, c, d, e, f]⟩ : Shape).Idx :=
  fun z => match z with
    | 0 => i
    | 1 => j
    | 2 => k
    | 3 => l
    | 4 => m
    | 5 => n

/-- An axis of one is read at zero: so is its coordinate. -/
theorem one_or {n : ℕ} (i : Fin n) : i.val = if n = 1 then 0 else i.val := by
  split
  · rename_i h
    subst h
    omega
  · rfl

/-! ## The contraction -/

section dot
variable {O C B K H : ℕ}

/-- The weights' channels and taps contracted with the stacked copies' channels and taps. -/
abbrev Contracts (O C B K H : ℕ) : Prop :=
  DotDims.WF ⟨4, ![O, C, K, K]⟩ ⟨6, ![B, C, K, H, K, H]⟩ ⟨4, ![O, B, H, H]⟩ [1, 3, 2] [1, 4, 2] [0] [0, 3, 5] [] []

/-- Its dimension numbers. -/
def dotW (wf : Contracts O C B K H) : DotDims ⟨4, ![O, C, K, K]⟩ ⟨6, ![B, C, K, H, K, H]⟩ ⟨4, ![O, B, H, H]⟩ where
  lhsContracting := [1, 3, 2]
  rhsContracting := [1, 4, 2]
  lhsNonContracting := [0]
  rhsNonContracting := [0, 3, 5]
  lhsBatch := []
  rhsBatch := []
  wf := wf

/-- The contracted index of a channel and two taps. -/
def contrOf (wf : Contracts O C B K H) (c : Fin C) (kx ky : Fin K) : (dotW wf).contr.Idx :=
  show (a : Fin 3) → Fin ((dotW wf).contr.size a) from fun a => match a with
    | 0 => c
    | 1 => kx
    | 2 => ky

def contrTriple (wf : Contracts O C B K H) : (dotW wf).contr.Idx ≃ Fin C × Fin K × Fin K where
  toFun q := (q (0 : Fin 3), q (1 : Fin 3), q (2 : Fin 3))
  invFun p := contrOf wf p.1 p.2.1 p.2.2
  left_inv q := by
    refine funext (α := Fin 3) fun a => ?_
    match a with
    | 0 => rfl
    | 1 => rfl
    | 2 => rfl
  right_inv p := rfl

/-- The contraction's entry: the sum over taps and channels. -/
theorem dotW_apply (wf : Contracts O C B K H) (W : A32 ⟨4, ![O, C, K, K]⟩) (X : A32 ⟨6, ![B, C, K, H, K, H]⟩) (o : Fin O) (b : Fin B) (y x : Fin H) :
    Host.dotGeneral (F := Ideal) (φ₁ := .f32) (φ₂ := .f32) (dotW wf) none W X (ix4 o b y x)
      = ∑ ky : Fin K, ∑ kx : Fin K, ∑ c : Fin C, (W (ix4 o c ky kx) * X (ix6 b c ky y kx x) : EReal) := by
  refine (Ideal.dotGeneral_apply (dotW wf) none _ W X (ix4 o b y x)).trans ?_
  rw [← Equiv.sum_comp (contrTriple wf).symm, Fintype.sum_prod_type]
  simp only [Fintype.sum_prod_type]
  rw [Finset.sum_comm]
  refine (Finset.sum_congr rfl fun kx _ => Finset.sum_comm).trans ?_
  rw [Finset.sum_comm]
  refine Finset.sum_congr rfl fun ky _ => Finset.sum_congr rfl fun kx _ => Finset.sum_congr rfl fun c _ => ?_
  refine congr (congrArg (fun u v : EReal => u * v) (congrArg W ?_)) (congrArg X ?_)
  · funext a
    match a with
    | 0 => rfl
    | 1 => rfl
    | 2 => rfl
    | 3 => rfl
  · funext a
    match a with
    | 0 => rfl
    | 1 => rfl
    | 2 => rfl
    | 3 => rfl
    | 4 => rfl
    | 5 => rfl

end dot

/-! ## The stacked copies -/

section stack
variable {B C H W P : ℕ}

/-- Three arrays stacked along the rows' taps. -/
theorem cat3_rows (u : Fin 3 → A32 ⟨5, ![B, C, 1, H, W]⟩)
    (h : Shape.Concatenates [⟨5, ![B, C, 1, H, W]⟩, ⟨5, ![B, C, 1, H, W]⟩, ⟨5, ![B, C, 1, H, W]⟩] ⟨5, ![B, C, 3, H, W]⟩ 2)
    (b : Fin B) (c : Fin C) (k : Fin 3) (y : Fin H) (x : Fin W) :
    concatenate ⟨5, ![B, C, 3, H, W]⟩ 2 [⟨⟨5, ![B, C, 1, H, W]⟩, u 0⟩, ⟨⟨5, ![B, C, 1, H, W]⟩, u 1⟩, ⟨⟨5, ![B, C, 1, H, W]⟩, u 2⟩] h (ix5 b c k y x)
      = u k (ix5 b c 0 y x) := by
  refine concatenate_apply_piece (t := ⟨5, ![B, C, 3, H, W]⟩) 2 _ _ _ k.val (by exact k.isLt) ⟨5, ![B, C, 1, H, W]⟩ (u k) (by fin_cases k <;> rfl) rfl k.val
    (by fin_cases k <;> rfl) (ix5 b c 0 y x) (fun a ha => ?_) rfl
  match a with
  | 0 => rfl
  | 1 => rfl
  | 2 => exact absurd rfl ha
  | 3 => rfl
  | 4 => rfl

/-- Three arrays stacked along the columns' taps. -/
theorem cat3_cols (K : ℕ) (u : Fin 3 → A32 ⟨6, ![B, C, K, H, 1, W]⟩)
    (h : Shape.Concatenates [⟨6, ![B, C, K, H, 1, W]⟩, ⟨6, ![B, C, K, H, 1, W]⟩, ⟨6, ![B, C, K, H, 1, W]⟩] ⟨6, ![B, C, K, H, 3, W]⟩ 4)
    (b : Fin B) (c : Fin C) (l : Fin K) (y : Fin H) (k : Fin 3) (x : Fin W) :
    concatenate ⟨6, ![B, C, K, H, 3, W]⟩ 4 [⟨⟨6, ![B, C, K, H, 1, W]⟩, u 0⟩, ⟨⟨6, ![B, C, K, H, 1, W]⟩, u 1⟩, ⟨⟨6, ![B, C, K, H, 1, W]⟩, u 2⟩] h
      (ix6 b c l y k x) = u k (ix6 b c l y 0 x) := by
  refine concatenate_apply_piece (t := ⟨6, ![B, C, K, H, 3, W]⟩) 4 _ _ _ k.val (by exact k.isLt) ⟨6, ![B, C, K, H, 1, W]⟩ (u k) (by fin_cases k <;> rfl) rfl k.val
    (by fin_cases k <;> rfl) (ix6 b c l y 0 x) (fun a ha => ?_) rfl
  match a with
  | 0 => rfl
  | 1 => rfl
  | 2 => rfl
  | 3 => rfl
  | 4 => exact absurd rfl ha
  | 5 => rfl

/-- Four arrays stacked along the rows' taps. -/
theorem cat4_rows (u : Fin 4 → A32 ⟨5, ![B, C, 1, H, W]⟩)
    (h : Shape.Concatenates [⟨5, ![B, C, 1, H, W]⟩, ⟨5, ![B, C, 1, H, W]⟩, ⟨5, ![B, C, 1, H, W]⟩, ⟨5, ![B, C, 1, H, W]⟩] ⟨5, ![B, C, 4, H, W]⟩ 2)
    (b : Fin B) (c : Fin C) (k : Fin 4) (y : Fin H) (x : Fin W) :
    concatenate ⟨5, ![B, C, 4, H, W]⟩ 2 [⟨⟨5, ![B, C, 1, H, W]⟩, u 0⟩, ⟨⟨5, ![B, C, 1, H, W]⟩, u 1⟩, ⟨⟨5, ![B, C, 1, H, W]⟩, u 2⟩,
      ⟨⟨5, ![B, C, 1, H, W]⟩, u 3⟩] h (ix5 b c k y x) = u k (ix5 b c 0 y x) := by
  refine concatenate_apply_piece (t := ⟨5, ![B, C, 4, H, W]⟩) 2 _ _ _ k.val (by exact k.isLt) ⟨5, ![B, C, 1, H, W]⟩ (u k) (by fin_cases k <;> rfl) rfl k.val
    (by fin_cases k <;> rfl) (ix5 b c 0 y x) (fun a ha => ?_) rfl
  match a with
  | 0 => rfl
  | 1 => rfl
  | 2 => exact absurd rfl ha
  | 3 => rfl
  | 4 => rfl

/-- Four arrays stacked along the columns' taps. -/
theorem cat4_cols (K : ℕ) (u : Fin 4 → A32 ⟨6, ![B, C, K, H, 1, W]⟩)
    (h : Shape.Concatenates [⟨6, ![B, C, K, H, 1, W]⟩, ⟨6, ![B, C, K, H, 1, W]⟩, ⟨6, ![B, C, K, H, 1, W]⟩, ⟨6, ![B, C, K, H, 1, W]⟩]
      ⟨6, ![B, C, K, H, 4, W]⟩ 4)
    (b : Fin B) (c : Fin C) (l : Fin K) (y : Fin H) (k : Fin 4) (x : Fin W) :
    concatenate ⟨6, ![B, C, K, H, 4, W]⟩ 4 [⟨⟨6, ![B, C, K, H, 1, W]⟩, u 0⟩, ⟨⟨6, ![B, C, K, H, 1, W]⟩, u 1⟩, ⟨⟨6, ![B, C, K, H, 1, W]⟩, u 2⟩,
      ⟨⟨6, ![B, C, K, H, 1, W]⟩, u 3⟩] h (ix6 b c l y k x) = u k (ix6 b c l y 0 x) := by
  refine concatenate_apply_piece (t := ⟨6, ![B, C, K, H, 4, W]⟩) 4 _ _ _ k.val (by exact k.isLt) ⟨6, ![B, C, K, H, 1, W]⟩ (u k) (by fin_cases k <;> rfl) rfl k.val
    (by fin_cases k <;> rfl) (ix6 b c l y 0 x) (fun a ha => ?_) rfl
  match a with
  | 0 => rfl
  | 1 => rfl
  | 2 => rfl
  | 3 => rfl
  | 4 => exact absurd rfl ha
  | 5 => rfl

/-- A new axis of one before the rows. -/
theorem newRow_apply (X : A32 ⟨4, ![B, C, H, W]⟩) (h : (⟨4, ![B, C, H, W]⟩ : Shape).BroadcastsInDim ⟨5, ![B, C, 1, H, W]⟩ ![0, 1, 3, 4])
    (b : Fin B) (c : Fin C) (y : Fin H) (x : Fin W) : broadcastInDim ⟨5, ![B, C, 1, H, W]⟩ ![0, 1, 3, 4] h X (ix5 b c 0 y x) = X (ix4 b c y x) := by
  refine broadcastInDim_apply (s := ⟨4, ![B, C, H, W]⟩) (t := ⟨5, ![B, C, 1, H, W]⟩) _ _ _ _ (ix4 b c y x) fun a => ?_
  match a with
  | 0 => exact (one_or b)
  | 1 => exact (one_or c)
  | 2 => exact (one_or y)
  | 3 => exact (one_or x)

/-- A new axis of one before the columns. -/
theorem newCol_apply (K : ℕ) (X : A32 ⟨5, ![B, C, K, H, W]⟩)
    (h : (⟨5, ![B, C, K, H, W]⟩ : Shape).BroadcastsInDim ⟨6, ![B, C, K, H, 1, W]⟩ ![0, 1, 2, 3, 5])
    (b : Fin B) (c : Fin C) (k : Fin K) (y : Fin H) (x : Fin W) :
    broadcastInDim ⟨6, ![B, C, K, H, 1, W]⟩ ![0, 1, 2, 3, 5] h X (ix6 b c k y 0 x) = X (ix5 b c k y x) := by
  refine broadcastInDim_apply (s := ⟨5, ![B, C, K, H, W]⟩) (t := ⟨6, ![B, C, K, H, 1, W]⟩) _ _ _ _ (ix5 b c k y x) fun a => ?_
  match a with
  | 0 => exact (one_or b)
  | 1 => exact (one_or c)
  | 2 => exact (one_or k)
  | 3 => exact (one_or y)
  | 4 => exact (one_or x)

/-- Every second row of an image from row `k`. -/
theorem rowSlice_apply (k : ℕ) (X : A32 ⟨4, ![B, C, P, W]⟩) (h : (⟨4, ![B, C, P, W]⟩ : Shape).SlicesBy ![0, 0, k, 0] ![1, 1, 2, 1] ⟨4, ![B, C, H, W]⟩)
    (f : ℕ → EReal) (b : Fin B) (c : Fin C) (y : Fin H) (x : Fin W) (hf : ∀ r : Fin P, (X (ix4 b c r x) : EReal) = f r.val) :
    (Host.slice ⟨4, ![B, C, H, W]⟩ ![0, 0, k, 0] ![1, 1, 2, 1] X h (ix4 b c y x) : EReal) = f (2 * y.val + k) := by
  have hlt : 2 * y.val + k < P := by
    rcases (h.2 2).2 with h0 | hl
    · have h0' : H = 0 := h0
      exact absurd y.isLt (by omega)
    · have hl' : k + 2 * (H - 1) < P := hl
      omega
  refine Eq.trans (congrArg X ?_) (hf ⟨2 * y.val + k, hlt⟩)
  funext a
  match a with
  | 0 => exact Fin.ext (show 0 + 1 * b.val = b.val by omega)
  | 1 => exact Fin.ext (show 0 + 1 * c.val = c.val by omega)
  | 2 => exact Fin.ext (show k + 2 * y.val = 2 * y.val + k by omega)
  | 3 => exact Fin.ext (show 0 + 1 * x.val = x.val by omega)

/-- Every second column from column `k`. -/
theorem colSlice_apply (K k : ℕ) (X : A32 ⟨5, ![B, C, K, H, P]⟩)
    (h : (⟨5, ![B, C, K, H, P]⟩ : Shape).SlicesBy ![0, 0, 0, 0, k] ![1, 1, 1, 1, 2] ⟨5, ![B, C, K, H, W]⟩)
    (f : ℕ → EReal) (b : Fin B) (c : Fin C) (l : Fin K) (y : Fin H) (x : Fin W) (hf : ∀ r : Fin P, (X (ix5 b c l y r) : EReal) = f r.val) :
    (Host.slice ⟨5, ![B, C, K, H, W]⟩ ![0, 0, 0, 0, k] ![1, 1, 1, 1, 2] X h (ix5 b c l y x) : EReal) = f (2 * x.val + k) := by
  have hlt : 2 * x.val + k < P := by
    rcases (h.2 4).2 with h0 | hl
    · have h0' : W = 0 := h0
      exact absurd x.isLt (by omega)
    · have hl' : k + 2 * (W - 1) < P := hl
      omega
  refine Eq.trans (congrArg X ?_) (hf ⟨2 * x.val + k, hlt⟩)
  funext a
  match a with
  | 0 => exact Fin.ext (show 0 + 1 * b.val = b.val by omega)
  | 1 => exact Fin.ext (show 0 + 1 * c.val = c.val by omega)
  | 2 => exact Fin.ext (show 0 + 1 * l.val = l.val by omega)
  | 3 => exact Fin.ext (show 0 + 1 * y.val = y.val by omega)
  | 4 => exact Fin.ext (show k + 2 * x.val = 2 * x.val + k by omega)

/-- The rows of an image from row `k`. -/
theorem rowShift_apply (k : ℕ) (X : A32 ⟨4, ![B, C, P, W]⟩) (h : (⟨4, ![B, C, P, W]⟩ : Shape).Slices ![0, 0, k, 0] ⟨4, ![B, C, H, W]⟩)
    (f : ℕ → EReal) (b : Fin B) (c : Fin C) (y : Fin H) (x : Fin W) (hf : ∀ r : Fin P, (X (ix4 b c r x) : EReal) = f r.val) :
    (extractStridedSlice ⟨4, ![B, C, H, W]⟩ ![0, 0, k, 0] X h (ix4 b c y x) : EReal) = f (y.val + k) := by
  have hlt : y.val + k < P := by
    have hl : k + H ≤ P := h.2 2
    omega
  refine Eq.trans (extractStridedSlice_apply (t := ⟨4, ![B, C, H, W]⟩) (s := ⟨4, ![B, C, P, W]⟩) _ _ _ _ (ix4 b c ⟨y.val + k, hlt⟩ x) fun a => ?_) (hf _)
  match a with
  | 0 => exact (Nat.zero_add _).symm
  | 1 => exact (Nat.zero_add _).symm
  | 2 => exact Nat.add_comm _ _
  | 3 => exact (Nat.zero_add _).symm

/-- The columns from column `k`. -/
theorem colShift_apply (K k : ℕ) (X : A32 ⟨5, ![B, C, K, H, P]⟩)
    (h : (⟨5, ![B, C, K, H, P]⟩ : Shape).Slices ![0, 0, 0, 0, k] ⟨5, ![B, C, K, H, W]⟩)
    (f : ℕ → EReal) (b : Fin B) (c : Fin C) (l : Fin K) (y : Fin H) (x : Fin W) (hf : ∀ r : Fin P, (X (ix5 b c l y r) : EReal) = f r.val) :
    (extractStridedSlice ⟨5, ![B, C, K, H, W]⟩ ![0, 0, 0, 0, k] X h (ix5 b c l y x) : EReal) = f (x.val + k) := by
  have hlt : x.val + k < P := by
    have hl : k + W ≤ P := h.2 4
    omega
  refine Eq.trans (extractStridedSlice_apply (t := ⟨5, ![B, C, K, H, W]⟩) (s := ⟨5, ![B, C, K, H, P]⟩) _ _ _ _ (ix5 b c l y ⟨x.val + k, hlt⟩) fun a => ?_) (hf _)
  match a with
  | 0 => exact (Nat.zero_add _).symm
  | 1 => exact (Nat.zero_add _).symm
  | 2 => exact (Nat.zero_add _).symm
  | 3 => exact (Nat.zero_add _).symm
  | 4 => exact Nat.add_comm _ _

/-- The copies of an image at stride two along the rows, one per tap. -/
def rowsS (s : ∀ k : Fin 3, (⟨4, ![B, C, P, W]⟩ : Shape).SlicesBy ![0, 0, k.val, 0] ![1, 1, 2, 1] ⟨4, ![B, C, H, W]⟩)
    (hb : (⟨4, ![B, C, H, W]⟩ : Shape).BroadcastsInDim ⟨5, ![B, C, 1, H, W]⟩ ![0, 1, 3, 4])
    (hc : Shape.Concatenates [⟨5, ![B, C, 1, H, W]⟩, ⟨5, ![B, C, 1, H, W]⟩, ⟨5, ![B, C, 1, H, W]⟩] ⟨5, ![B, C, 3, H, W]⟩ 2)
    (X : A32 ⟨4, ![B, C, P, W]⟩) : A32 ⟨5, ![B, C, 3, H, W]⟩ :=
  let u : Fin 3 → A32 ⟨5, ![B, C, 1, H, W]⟩ := fun k =>
    broadcastInDim ⟨5, ![B, C, 1, H, W]⟩ ![0, 1, 3, 4] hb (Host.slice ⟨4, ![B, C, H, W]⟩ ![0, 0, k.val, 0] ![1, 1, 2, 1] X (s k))
  concatenate ⟨5, ![B, C, 3, H, W]⟩ 2 [⟨⟨5, ![B, C, 1, H, W]⟩, u 0⟩, ⟨⟨5, ![B, C, 1, H, W]⟩, u 1⟩, ⟨⟨5, ![B, C, 1, H, W]⟩, u 2⟩] hc

theorem rowsS_apply (s hb hc) (X : A32 ⟨4, ![B, C, P, W]⟩) (f : Fin B → Fin C → ℕ → Fin W → EReal)
    (hf : ∀ b c (r : Fin P) x, (X (ix4 b c r x) : EReal) = f b c r.val x) (b : Fin B) (c : Fin C) (k : Fin 3) (y : Fin H) (x : Fin W) :
    (rowsS s hb hc X (ix5 b c k y x) : EReal) = f b c (2 * y.val + k.val) x := by
  refine (cat3_rows (fun k : Fin 3 => (broadcastInDim ⟨5, ![B, C, 1, H, W]⟩ ![0, 1, 3, 4] hb (Host.slice ⟨4, ![B, C, H, W]⟩ ![0, 0, k.val, 0] ![1, 1, 2, 1] X (s k)) : A32 ⟨5, ![B, C, 1, H, W]⟩)) hc b c k y x).trans ((newRow_apply _ hb b c y x).trans ?_)
  exact rowSlice_apply k.val X (s k) (fun r => f b c r x) b c y x fun r => hf b c r x

/-- The copies of the rows' stack at stride two along the columns, one per tap. -/
def colsS (K : ℕ) (s : ∀ k : Fin 3, (⟨5, ![B, C, K, H, P]⟩ : Shape).SlicesBy ![0, 0, 0, 0, k.val] ![1, 1, 1, 1, 2] ⟨5, ![B, C, K, H, W]⟩)
    (hb : (⟨5, ![B, C, K, H, W]⟩ : Shape).BroadcastsInDim ⟨6, ![B, C, K, H, 1, W]⟩ ![0, 1, 2, 3, 5])
    (hc : Shape.Concatenates [⟨6, ![B, C, K, H, 1, W]⟩, ⟨6, ![B, C, K, H, 1, W]⟩, ⟨6, ![B, C, K, H, 1, W]⟩] ⟨6, ![B, C, K, H, 3, W]⟩ 4)
    (X : A32 ⟨5, ![B, C, K, H, P]⟩) : A32 ⟨6, ![B, C, K, H, 3, W]⟩ :=
  let u : Fin 3 → A32 ⟨6, ![B, C, K, H, 1, W]⟩ := fun k =>
    broadcastInDim ⟨6, ![B, C, K, H, 1, W]⟩ ![0, 1, 2, 3, 5] hb (Host.slice ⟨5, ![B, C, K, H, W]⟩ ![0, 0, 0, 0, k.val] ![1, 1, 1, 1, 2] X (s k))
  concatenate ⟨6, ![B, C, K, H, 3, W]⟩ 4 [⟨⟨6, ![B, C, K, H, 1, W]⟩, u 0⟩, ⟨⟨6, ![B, C, K, H, 1, W]⟩, u 1⟩, ⟨⟨6, ![B, C, K, H, 1, W]⟩, u 2⟩] hc

theorem colsS_apply (K : ℕ) (s hb hc) (X : A32 ⟨5, ![B, C, K, H, P]⟩) (f : Fin B → Fin C → Fin K → Fin H → ℕ → EReal)
    (hf : ∀ b c l y (r : Fin P), (X (ix5 b c l y r) : EReal) = f b c l y r.val) (b : Fin B) (c : Fin C) (l : Fin K) (y : Fin H) (k : Fin 3) (x : Fin W) :
    (colsS K s hb hc X (ix6 b c l y k x) : EReal) = f b c l y (2 * x.val + k.val) := by
  refine (cat3_cols K (fun k : Fin 3 => (broadcastInDim ⟨6, ![B, C, K, H, 1, W]⟩ ![0, 1, 2, 3, 5] hb (Host.slice ⟨5, ![B, C, K, H, W]⟩ ![0, 0, 0, 0, k.val] ![1, 1, 1, 1, 2] X (s k)) : A32 ⟨6, ![B, C, K, H, 1, W]⟩)) hc b c l y k x).trans ((newCol_apply K _ hb b c l y x).trans ?_)
  exact colSlice_apply K k.val X (s k) (fun r => f b c l y r) b c l y x fun r => hf b c l y r

/-- The copies of an image shifted along the rows, one per tap. -/
def rowsT (s : ∀ k : Fin 4, (⟨4, ![B, C, P, W]⟩ : Shape).Slices ![0, 0, k.val, 0] ⟨4, ![B, C, H, W]⟩)
    (hb : (⟨4, ![B, C, H, W]⟩ : Shape).BroadcastsInDim ⟨5, ![B, C, 1, H, W]⟩ ![0, 1, 3, 4])
    (hc : Shape.Concatenates [⟨5, ![B, C, 1, H, W]⟩, ⟨5, ![B, C, 1, H, W]⟩, ⟨5, ![B, C, 1, H, W]⟩, ⟨5, ![B, C, 1, H, W]⟩] ⟨5, ![B, C, 4, H, W]⟩ 2)
    (X : A32 ⟨4, ![B, C, P, W]⟩) : A32 ⟨5, ![B, C, 4, H, W]⟩ :=
  let u : Fin 4 → A32 ⟨5, ![B, C, 1, H, W]⟩ := fun k =>
    broadcastInDim ⟨5, ![B, C, 1, H, W]⟩ ![0, 1, 3, 4] hb (extractStridedSlice ⟨4, ![B, C, H, W]⟩ ![0, 0, k.val, 0] X (s k))
  concatenate ⟨5, ![B, C, 4, H, W]⟩ 2 [⟨⟨5, ![B, C, 1, H, W]⟩, u 0⟩, ⟨⟨5, ![B, C, 1, H, W]⟩, u 1⟩, ⟨⟨5, ![B, C, 1, H, W]⟩, u 2⟩,
    ⟨⟨5, ![B, C, 1, H, W]⟩, u 3⟩] hc

theorem rowsT_apply (s hb hc) (X : A32 ⟨4, ![B, C, P, W]⟩) (f : Fin B → Fin C → ℕ → Fin W → EReal)
    (hf : ∀ b c (r : Fin P) x, (X (ix4 b c r x) : EReal) = f b c r.val x) (b : Fin B) (c : Fin C) (k : Fin 4) (y : Fin H) (x : Fin W) :
    (rowsT s hb hc X (ix5 b c k y x) : EReal) = f b c (y.val + k.val) x := by
  refine (cat4_rows (fun k : Fin 4 => (broadcastInDim ⟨5, ![B, C, 1, H, W]⟩ ![0, 1, 3, 4] hb (extractStridedSlice ⟨4, ![B, C, H, W]⟩ ![0, 0, k.val, 0] X (s k)) : A32 ⟨5, ![B, C, 1, H, W]⟩)) hc b c k y x).trans ((newRow_apply _ hb b c y x).trans ?_)
  exact rowShift_apply k.val X (s k) (fun r => f b c r x) b c y x fun r => hf b c r x

/-- The copies of the rows' stack shifted along the columns, one per tap. -/
def colsT (K : ℕ) (s : ∀ k : Fin 4, (⟨5, ![B, C, K, H, P]⟩ : Shape).Slices ![0, 0, 0, 0, k.val] ⟨5, ![B, C, K, H, W]⟩)
    (hb : (⟨5, ![B, C, K, H, W]⟩ : Shape).BroadcastsInDim ⟨6, ![B, C, K, H, 1, W]⟩ ![0, 1, 2, 3, 5])
    (hc : Shape.Concatenates [⟨6, ![B, C, K, H, 1, W]⟩, ⟨6, ![B, C, K, H, 1, W]⟩, ⟨6, ![B, C, K, H, 1, W]⟩, ⟨6, ![B, C, K, H, 1, W]⟩]
      ⟨6, ![B, C, K, H, 4, W]⟩ 4)
    (X : A32 ⟨5, ![B, C, K, H, P]⟩) : A32 ⟨6, ![B, C, K, H, 4, W]⟩ :=
  let u : Fin 4 → A32 ⟨6, ![B, C, K, H, 1, W]⟩ := fun k =>
    broadcastInDim ⟨6, ![B, C, K, H, 1, W]⟩ ![0, 1, 2, 3, 5] hb (extractStridedSlice ⟨5, ![B, C, K, H, W]⟩ ![0, 0, 0, 0, k.val] X (s k))
  concatenate ⟨6, ![B, C, K, H, 4, W]⟩ 4 [⟨⟨6, ![B, C, K, H, 1, W]⟩, u 0⟩, ⟨⟨6, ![B, C, K, H, 1, W]⟩, u 1⟩, ⟨⟨6, ![B, C, K, H, 1, W]⟩, u 2⟩,
    ⟨⟨6, ![B, C, K, H, 1, W]⟩, u 3⟩] hc

theorem colsT_apply (K : ℕ) (s hb hc) (X : A32 ⟨5, ![B, C, K, H, P]⟩) (f : Fin B → Fin C → Fin K → Fin H → ℕ → EReal)
    (hf : ∀ b c l y (r : Fin P), (X (ix5 b c l y r) : EReal) = f b c l y r.val) (b : Fin B) (c : Fin C) (l : Fin K) (y : Fin H) (k : Fin 4) (x : Fin W) :
    (colsT K s hb hc X (ix6 b c l y k x) : EReal) = f b c l y (x.val + k.val) := by
  refine (cat4_cols K (fun k : Fin 4 => (broadcastInDim ⟨6, ![B, C, K, H, 1, W]⟩ ![0, 1, 2, 3, 5] hb (extractStridedSlice ⟨5, ![B, C, K, H, W]⟩ ![0, 0, 0, 0, k.val] X (s k)) : A32 ⟨6, ![B, C, K, H, 1, W]⟩)) hc b c l y k x).trans ((newCol_apply K _ hb b c l y x).trans ?_)
  exact colShift_apply K k.val X (s k) (fun r => f b c l y r) b c l y x fun r => hf b c l y r

end stack

/-! ## Borders -/

section border
variable {B C H P : ℕ}

/-- An image bordered by one row and column of zeros on each side. -/
theorem border_apply4 (hp : (⟨4, ![B, C, H, H]⟩ : Shape).Pads ![0, 0, 1, 1] ![0, 0, 1, 1] ![0, 0, 0, 0] ⟨4, ![B, C, P, P]⟩)
    (X : A32 ⟨4, ![B, C, H, H]⟩) (z : A32 ⟨0, ![]⟩) (hz : ∀ i, z i = (0 : EReal)) (hu : 0 < (⟨0, ![]⟩ : Shape).numel) (b : Fin B) (c : Fin C) (y x : Fin P) :
    (Idealize.ShloMosaic.pad ⟨4, ![B, C, P, P]⟩ ![0, 0, 1, 1] ![0, 0, 1, 1] ![0, 0, 0, 0] X z hp hu (ix4 b c y x) : EReal)
      = pad (fun c y x => X (ix4 b c y x)) c y.val x.val := by
  unfold Cert.Vq.pad
  have hy := y.isLt
  have hx := x.isLt
  split
  · rename_i hin
    refine pad_apply_of_inside (s := ⟨4, ![B, C, H, H]⟩) (t := ⟨4, ![B, C, P, P]⟩) _ _ _ _ _ _ _ _
      (ix4 b c ⟨y.val - 1, by omega⟩ ⟨x.val - 1, by omega⟩) fun a => ?_
    match a with
    | 0 => exact (show b.val = 0 + b.val * (0 + 1) by omega)
    | 1 => exact (show c.val = 0 + c.val * (0 + 1) by omega)
    | 2 => exact (show y.val = 1 + (y.val - 1) * (0 + 1) by omega)
    | 3 => exact (show x.val = 1 + (x.val - 1) * (0 + 1) by omega)
  · rename_i hout
    by_cases hyy : 1 ≤ y.val ∧ y.val ≤ H
    · refine (pad_apply_of_not_inside (s := ⟨4, ![B, C, H, H]⟩) (t := ⟨4, ![B, C, P, P]⟩) _ _ _ _ _ _ _ (ix4 b c y x) 3 ?_).trans (hz _)
      show ¬(1 ≤ x.val ∧ (x.val - 1) % (0 + 1) = 0 ∧ (x.val - 1) / (0 + 1) < H)
      rw [Nat.zero_add, Nat.div_one]
      omega
    · refine (pad_apply_of_not_inside (s := ⟨4, ![B, C, H, H]⟩) (t := ⟨4, ![B, C, P, P]⟩) _ _ _ _ _ _ _ (ix4 b c y x) 2 ?_).trans (hz _)
      show ¬(1 ≤ y.val ∧ (y.val - 1) % (0 + 1) = 0 ∧ (y.val - 1) / (0 + 1) < H)
      rw [Nat.zero_add, Nat.div_one]
      omega

/-- An image spread over the even coordinates. -/
theorem spread_apply (hp : (⟨4, ![B, C, H, H]⟩ : Shape).Pads ![0, 0, 2, 2] ![0, 0, 2, 2] ![0, 0, 1, 1] ⟨4, ![B, C, P, P]⟩)
    (X : A32 ⟨4, ![B, C, H, H]⟩) (z : A32 ⟨0, ![]⟩) (hz : ∀ i, z i = (0 : EReal)) (hu : 0 < (⟨0, ![]⟩ : Shape).numel) (b : Fin B) (c : Fin C) (y x : Fin P) :
    (Idealize.ShloMosaic.pad ⟨4, ![B, C, P, P]⟩ ![0, 0, 2, 2] ![0, 0, 2, 2] ![0, 0, 1, 1] X z hp hu (ix4 b c y x) : EReal)
      = dil (fun c y x => X (ix4 b c y x)) c y.val x.val := by
  have hy := y.isLt
  have hx := x.isLt
  have outX (h : ¬(2 ≤ x.val ∧ (x.val - 2) % 2 = 0 ∧ (x.val - 2) / 2 < H)) :
      (Idealize.ShloMosaic.pad ⟨4, ![B, C, P, P]⟩ ![0, 0, 2, 2] ![0, 0, 2, 2] ![0, 0, 1, 1] X z hp hu (ix4 b c y x) : EReal) = 0 :=
    (pad_apply_of_not_inside (s := ⟨4, ![B, C, H, H]⟩) (t := ⟨4, ![B, C, P, P]⟩) _ _ _ _ _ _ _ (ix4 b c y x) 3 h).trans (hz _)
  have outY (h : ¬(2 ≤ y.val ∧ (y.val - 2) % 2 = 0 ∧ (y.val - 2) / 2 < H)) :
      (Idealize.ShloMosaic.pad ⟨4, ![B, C, P, P]⟩ ![0, 0, 2, 2] ![0, 0, 2, 2] ![0, 0, 1, 1] X z hp hu (ix4 b c y x) : EReal) = 0 :=
    (pad_apply_of_not_inside (s := ⟨4, ![B, C, H, H]⟩) (t := ⟨4, ![B, C, P, P]⟩) _ _ _ _ _ _ _ (ix4 b c y x) 2 h).trans (hz _)
  unfold dil
  split
  · rename_i he
    unfold Cert.Vq.pad
    split
    · rename_i hin
      refine pad_apply_of_inside (s := ⟨4, ![B, C, H, H]⟩) (t := ⟨4, ![B, C, P, P]⟩) _ _ _ _ _ _ _ _
        (ix4 b c ⟨y.val / 2 - 1, by omega⟩ ⟨x.val / 2 - 1, by omega⟩) fun a => ?_
      match a with
      | 0 => exact (show b.val = 0 + b.val * (0 + 1) by omega)
      | 1 => exact (show c.val = 0 + c.val * (0 + 1) by omega)
      | 2 => exact (show y.val = 2 + (y.val / 2 - 1) * (1 + 1) by omega)
      | 3 => exact (show x.val = 2 + (x.val / 2 - 1) * (1 + 1) by omega)
    · rename_i hout
      by_cases hyy : 1 ≤ y.val / 2 ∧ y.val / 2 ≤ H
      · exact outX (by omega)
      · exact outY (by omega)
  · rename_i hodd
    by_cases hyy : y.val % 2 = 0
    · exact outX (by omega)
    · exact outY (by omega)

end border

/-! ## A layer -/

section layer
variable {O C B K H P : ℕ}

/-- The layer: the contraction, batch brought forward, its bias added to every position. -/
def layer (wf : Contracts O C B K H) (ht : (⟨4, ![O, B, H, H]⟩ : Shape).Transposes [1, 0, 2, 3] ⟨4, ![B, O, H, H]⟩)
    (hb : (⟨1, ![O]⟩ : Shape).BroadcastsInDim ⟨4, ![1, O, 1, 1]⟩ ![1]) (hb' : (⟨4, ![1, O, 1, 1]⟩ : Shape).BroadcastsInDim ⟨4, ![B, O, H, H]⟩ ![0, 1, 2, 3])
    (W : A32 ⟨4, ![O, C, K, K]⟩) (bias : A32 ⟨1, ![O]⟩) (X : A32 ⟨6, ![B, C, K, H, K, H]⟩) : A32 ⟨4, ![B, O, H, H]⟩ :=
  addf (transpose ⟨4, ![B, O, H, H]⟩ [1, 0, 2, 3] (Host.dotGeneral (F := Ideal) (φ₁ := .f32) (φ₂ := .f32) (dotW wf) none W X) ht)
    (broadcastInDim ⟨4, ![B, O, H, H]⟩ ![0, 1, 2, 3] hb' (broadcastInDim ⟨4, ![1, O, 1, 1]⟩ ![1] hb bias))

theorem layer_apply (wf : Contracts O C B K H) (ht hb hb') (W : A32 ⟨4, ![O, C, K, K]⟩) (bias : A32 ⟨1, ![O]⟩)
    (X : A32 ⟨6, ![B, C, K, H, K, H]⟩) (b : Fin B) (o : Fin O) (y x : Fin H) :
    (layer wf ht hb hb' W bias X (ix4 b o y x) : EReal)
      = (∑ ky : Fin K, ∑ kx : Fin K, ∑ c : Fin C, (W (ix4 o c ky kx) * X (ix6 b c ky y kx x) : EReal)) + bias (ix1 o) := by
  unfold layer
  rw [addf_apply]
  refine congr (congrArg (fun u v : EReal => u + v) ?_) ?_
  · refine Eq.trans ?_ (dotW_apply wf W X o b y x)
    refine transpose_apply (s := ⟨4, ![O, B, H, H]⟩) (t := ⟨4, ![B, O, H, H]⟩) _ _ _ _ (ix4 o b y x) fun a => ?_
    match a with
    | 0 => rfl
    | 1 => rfl
    | 2 => rfl
    | 3 => rfl
  · refine (broadcastInDim_apply (s := ⟨4, ![1, O, 1, 1]⟩) (t := ⟨4, ![B, O, H, H]⟩) _ _ _ _ (ix4 0 o 0 0) fun a => ?_).trans ?_
    · match a with
      | 0 => rfl
      | 1 => exact one_or o
      | 2 => rfl
      | 3 => rfl
    · refine broadcastInDim_apply (s := ⟨1, ![O]⟩) (t := ⟨4, ![1, O, 1, 1]⟩) _ _ _ _ (ix1 o) fun a => ?_
      match a with
      | 0 => exact one_or o

/-- With the copies of a bordered image at stride two, the layer is the convolution. -/
theorem layer_conv (wf : Contracts O C B 3 H) (ht hb hb') (W : A32 ⟨4, ![O, C, 3, 3]⟩) (bias : A32 ⟨1, ![O]⟩)
    (X : A32 ⟨6, ![B, C, 3, H, 3, H]⟩) (f : Fin B → Fin C → Fin P → Fin P → EReal)
    (hX : ∀ b c ky y kx x, (X (ix6 b c ky y kx x) : EReal) = pad (f b) c (2 * y.val + ky.val) (2 * x.val + kx.val)) (b : Fin B) (o : Fin O) (y x : Fin H) :
    (layer wf ht hb hb' W bias X (ix4 b o y x) : EReal) = conv (fun o c ky kx => W (ix4 o c ky kx)) (fun o => bias (ix1 o)) (f b) o y.val x.val := by
  rw [layer_apply]
  simp only [hX]
  rfl

/-- The flipped kernel, its channels exchanged. -/
theorem flip_apply (hf : (⟨4, ![C, O, 4, 4]⟩ : Shape).Transposes [1, 0, 2, 3] ⟨4, ![O, C, 4, 4]⟩) (W : A32 ⟨4, ![C, O, 4, 4]⟩) (o : Fin O) (c : Fin C)
    (ky kx : Fin 4) : transpose ⟨4, ![O, C, 4, 4]⟩ [1, 0, 2, 3] (Host.reverse [2, 3] W) hf (ix4 o c ky kx) = W (ix4 c o ky.rev kx.rev) := by
  refine (transpose_apply (s := ⟨4, ![C, O, 4, 4]⟩) (t := ⟨4, ![O, C, 4, 4]⟩) _ _ _ _ (ix4 c o ky kx) fun a => ?_).trans ?_
  · match a with
    | 0 => rfl
    | 1 => rfl
    | 2 => rfl
    | 3 => rfl
  · refine congrArg W (funext fun a => ?_)
    match a with
    | 0 => rfl
    | 1 => rfl
    | 2 => rfl
    | 3 => rfl

/-- With the copies of a spread image and the flipped kernel, the layer is the transposed convolution. -/
theorem layer_convT (wf : Contracts O C B 4 H) (ht hb hb') (hf : (⟨4, ![C, O, 4, 4]⟩ : Shape).Transposes [1, 0, 2, 3] ⟨4, ![O, C, 4, 4]⟩)
    (W : A32 ⟨4, ![C, O, 4, 4]⟩) (bias : A32 ⟨1, ![O]⟩)
    (X : A32 ⟨6, ![B, C, 4, H, 4, H]⟩) (f : Fin B → Fin C → Fin P → Fin P → EReal)
    (hX : ∀ b c ky y kx x, (X (ix6 b c ky y kx x) : EReal) = dil (f b) c (y.val + ky.val) (x.val + kx.val)) (b : Fin B) (o : Fin O) (y x : Fin H) :
    (layer wf ht hb hb' (transpose ⟨4, ![O, C, 4, 4]⟩ [1, 0, 2, 3] (Host.reverse [2, 3] W) hf) bias X (ix4 b o y x) : EReal)
      = convT (fun c o ky kx => W (ix4 c o ky kx)) (fun o => bias (ix1 o)) (f b) o y.val x.val := by
  rw [layer_apply]
  simp only [hX]
  refine congrArg (fun z : EReal => z + bias (ix1 o)) ?_
  refine Finset.sum_congr rfl fun ky _ => Finset.sum_congr rfl fun kx _ => Finset.sum_congr rfl fun c _ => ?_
  exact congrArg (fun z : EReal => z * dil (f b) c (y.val + ky.val) (x.val + kx.val)) (flip_apply hf W o c ky kx)

end layer

end Cert.Vq

end
-- ==== Proof.RefRun.lean ====
/-
  The reference's run: @main as the list of its host operations, and every execution ends with the result at the
  operations' composed term of the arguments and the arguments unchanged.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v7`, named. It packs its operands into a list of dependent pairs
    whose shapes a later argument's type mentions, so `simp` cannot rewrite an operand where it stands; applied by
    name, the operands are plain arguments, which the window lemmas below rewrite before the name unfolds. -/
def fn_main_v7 : (main_v4 : Ref sig .tc).ty.Contents (Elt F) → (main_v5 : Ref sig .tc).ty.Contents (Elt F) → (main_v6 : Ref sig .tc).ty.Contents (Elt F) → (main_v7 : Ref sig .tc).ty.Contents (Elt F) :=
  (fun u0 u1 u2 => (concatenate S256x3x3x16x34 2 [⟨S256x3x1x16x34, (u0 : (⟨S256x3x1x16x34, .f32⟩ : BufTy).Contents (Elt F))⟩, ⟨S256x3x1x16x34, (u1 : (⟨S256x3x1x16x34, .f32⟩ : BufTy).Contents (Elt F))⟩, ⟨S256x3x1x16x34, (u2 : (⟨S256x3x1x16x34, .f32⟩ : BufTy).Contents (Elt F))⟩] concatenates_S256x3x1x16x34_S256x3x1x16x34_S256x3x1x16x34_S256x3x3x16x34_d2 : (⟨S256x3x3x16x34, .f32⟩ : BufTy).Contents (Elt F)))

/-- The function of the operation that writes `main_v14`, named. It packs its operands into a list of dependent pairs
    whose shapes a later argument's type mentions, so `simp` cannot rewrite an operand where it stands; applied by
    name, the operands are plain arguments, which the window lemmas below rewrite before the name unfolds. -/
def fn_main_v14 : (main_v11 : Ref sig .tc).ty.Contents (Elt F) → (main_v12 : Ref sig .tc).ty.Contents (Elt F) → (main_v13 : Ref sig .tc).ty.Contents (Elt F) → (main_v14 : Ref sig .tc).ty.Contents (Elt F) :=
  (fun u0 u1 u2 => (concatenate S256x3x3x16x3x16 4 [⟨S256x3x3x16x1x16, (u0 : (⟨S256x3x3x16x1x16, .f32⟩ : BufTy).Contents (Elt F))⟩, ⟨S256x3x3x16x1x16, (u1 : (⟨S256x3x3x16x1x16, .f32⟩ : BufTy).Contents (Elt F))⟩, ⟨S256x3x3x16x1x16, (u2 : (⟨S256x3x3x16x1x16, .f32⟩ : BufTy).Contents (Elt F))⟩] concatenates_S256x3x3x16x1x16_S256x3x3x16x1x16_S256x3x3x16x1x16_S256x3x3x16x3x16_d4 : (⟨S256x3x3x16x3x16, .f32⟩ : BufTy).Contents (Elt F)))

/-- The function of the operation that writes `main_v29`, named. It packs its operands into a list of dependent pairs
    whose shapes a later argument's type mentions, so `simp` cannot rewrite an operand where it stands; applied by
    name, the operands are plain arguments, which the window lemmas below rewrite before the name unfolds. -/
def fn_main_v29 : (main_v26 : Ref sig .tc).ty.Contents (Elt F) → (main_v27 : Ref sig .tc).ty.Contents (Elt F) → (main_v28 : Ref sig .tc).ty.Contents (Elt F) → (main_v29 : Ref sig .tc).ty.Contents (Elt F) :=
  (fun u0 u1 u2 => (concatenate S256x32x3x8x18 2 [⟨S256x32x1x8x18, (u0 : (⟨S256x32x1x8x18, .f32⟩ : BufTy).Contents (Elt F))⟩, ⟨S256x32x1x8x18, (u1 : (⟨S256x32x1x8x18, .f32⟩ : BufTy).Contents (Elt F))⟩, ⟨S256x32x1x8x18, (u2 : (⟨S256x32x1x8x18, .f32⟩ : BufTy).Contents (Elt F))⟩] concatenates_S256x32x1x8x18_S256x32x1x8x18_S256x32x1x8x18_S256x32x3x8x18_d2 : (⟨S256x32x3x8x18, .f32⟩ : BufTy).Contents (Elt F)))

/-- The function of the operation that writes `main_v36`, named. It packs its operands into a list of dependent pairs
    whose shapes a later argument's type mentions, so `simp` cannot rewrite an operand where it stands; applied by
    name, the operands are plain arguments, which the window lemmas below rewrite before the name unfolds. -/
def fn_main_v36 : (main_v33 : Ref sig .tc).ty.Contents (Elt F) → (main_v34 : Ref sig .tc).ty.Contents (Elt F) → (main_v35 : Ref sig .tc).ty.Contents (Elt F) → (main_v36 : Ref sig .tc).ty.Contents (Elt F) :=
  (fun u0 u1 u2 => (concatenate S256x32x3x8x3x8 4 [⟨S256x32x3x8x1x8, (u0 : (⟨S256x32x3x8x1x8, .f32⟩ : BufTy).Contents (Elt F))⟩, ⟨S256x32x3x8x1x8, (u1 : (⟨S256x32x3x8x1x8, .f32⟩ : BufTy).Contents (Elt F))⟩, ⟨S256x32x3x8x1x8, (u2 : (⟨S256x32x3x8x1x8, .f32⟩ : BufTy).Contents (Elt F))⟩] concatenates_S256x32x3x8x1x8_S256x32x3x8x1x8_S256x32x3x8x1x8_S256x32x3x8x3x8_d4 : (⟨S256x32x3x8x3x8, .f32⟩ : BufTy).Contents (Elt F)))

/-- The function of the operation that writes `main_v73`, named. It packs its operands into a list of dependent pairs
    whose shapes a later argument's type mentions, so `simp` cannot rewrite an operand where it stands; applied by
    name, the operands are plain arguments, which the window lemmas below rewrite before the name unfolds. -/
def fn_main_v73 : (main_v69 : Ref sig .tc).ty.Contents (Elt F) → (main_v70 : Ref sig .tc).ty.Contents (Elt F) → (main_v71 : Ref sig .tc).ty.Contents (Elt F) → (main_v72 : Ref sig .tc).ty.Contents (Elt F) → (main_v73 : Ref sig .tc).ty.Contents (Elt F) :=
  (fun u0 u1 u2 u3 => (concatenate S256x64x4x16x19 2 [⟨S256x64x1x16x19, (u0 : (⟨S256x64x1x16x19, .f32⟩ : BufTy).Contents (Elt F))⟩, ⟨S256x64x1x16x19, (u1 : (⟨S256x64x1x16x19, .f32⟩ : BufTy).Contents (Elt F))⟩, ⟨S256x64x1x16x19, (u2 : (⟨S256x64x1x16x19, .f32⟩ : BufTy).Contents (Elt F))⟩, ⟨S256x64x1x16x19, (u3 : (⟨S256x64x1x16x19, .f32⟩ : BufTy).Contents (Elt F))⟩] concatenates_S256x64x1x16x19_S256x64x1x16x19_S256x64x1x16x19_S256x64x1x16x19_S256x64x4x16x19_d2 : (⟨S256x64x4x16x19, .f32⟩ : BufTy).Contents (Elt F)))

/-- The function of the operation that writes `main_v82`, named. It packs its operands into a list of dependent pairs
    whose shapes a later argument's type mentions, so `simp` cannot rewrite an operand where it stands; applied by
    name, the operands are plain arguments, which the window lemmas below rewrite before the name unfolds. -/
def fn_main_v82 : (main_v78 : Ref sig .tc).ty.Contents (Elt F) → (main_v79 : Ref sig .tc).ty.Contents (Elt F) → (main_v80 : Ref sig .tc).ty.Contents (Elt F) → (main_v81 : Ref sig .tc).ty.Contents (Elt F) → (main_v82 : Ref sig .tc).ty.Contents (Elt F) :=
  (fun u0 u1 u2 u3 => (concatenate S256x64x4x16x4x16 4 [⟨S256x64x4x16x1x16, (u0 : (⟨S256x64x4x16x1x16, .f32⟩ : BufTy).Contents (Elt F))⟩, ⟨S256x64x4x16x1x16, (u1 : (⟨S256x64x4x16x1x16, .f32⟩ : BufTy).Contents (Elt F))⟩, ⟨S256x64x4x16x1x16, (u2 : (⟨S256x64x4x16x1x16, .f32⟩ : BufTy).Contents (Elt F))⟩, ⟨S256x64x4x16x1x16, (u3 : (⟨S256x64x4x16x1x16, .f32⟩ : BufTy).Contents (Elt F))⟩] concatenates_S256x64x4x16x1x16_S256x64x4x16x1x16_S256x64x4x16x1x16_S256x64x4x16x1x16_S256x64x4x16x4x16_d4 : (⟨S256x64x4x16x4x16, .f32⟩ : BufTy).Contents (Elt F)))

/-- The function of the operation that writes `main_v101`, named. It packs its operands into a list of dependent pairs
    whose shapes a later argument's type mentions, so `simp` cannot rewrite an operand where it stands; applied by
    name, the operands are plain arguments, which the window lemmas below rewrite before the name unfolds. -/
def fn_main_v101 : (main_v97 : Ref sig .tc).ty.Contents (Elt F) → (main_v98 : Ref sig .tc).ty.Contents (Elt F) → (main_v99 : Ref sig .tc).ty.Contents (Elt F) → (main_v100 : Ref sig .tc).ty.Contents (Elt F) → (main_v101 : Ref sig .tc).ty.Contents (Elt F) :=
  (fun u0 u1 u2 u3 => (concatenate S256x32x4x32x35 2 [⟨S256x32x1x32x35, (u0 : (⟨S256x32x1x32x35, .f32⟩ : BufTy).Contents (Elt F))⟩, ⟨S256x32x1x32x35, (u1 : (⟨S256x32x1x32x35, .f32⟩ : BufTy).Contents (Elt F))⟩, ⟨S256x32x1x32x35, (u2 : (⟨S256x32x1x32x35, .f32⟩ : BufTy).Contents (Elt F))⟩, ⟨S256x32x1x32x35, (u3 : (⟨S256x32x1x32x35, .f32⟩ : BufTy).Contents (Elt F))⟩] concatenates_S256x32x1x32x35_S256x32x1x32x35_S256x32x1x32x35_S256x32x1x32x35_S256x32x4x32x35_d2 : (⟨S256x32x4x32x35, .f32⟩ : BufTy).Contents (Elt F)))

/-- The function of the operation that writes `main_v110`, named. It packs its operands into a list of dependent pairs
    whose shapes a later argument's type mentions, so `simp` cannot rewrite an operand where it stands; applied by
    name, the operands are plain arguments, which the window lemmas below rewrite before the name unfolds. -/
def fn_main_v110 : (main_v106 : Ref sig .tc).ty.Contents (Elt F) → (main_v107 : Ref sig .tc).ty.Contents (Elt F) → (main_v108 : Ref sig .tc).ty.Contents (Elt F) → (main_v109 : Ref sig .tc).ty.Contents (Elt F) → (main_v110 : Ref sig .tc).ty.Contents (Elt F) :=
  (fun u0 u1 u2 u3 => (concatenate S256x32x4x32x4x32 4 [⟨S256x32x4x32x1x32, (u0 : (⟨S256x32x4x32x1x32, .f32⟩ : BufTy).Contents (Elt F))⟩, ⟨S256x32x4x32x1x32, (u1 : (⟨S256x32x4x32x1x32, .f32⟩ : BufTy).Contents (Elt F))⟩, ⟨S256x32x4x32x1x32, (u2 : (⟨S256x32x4x32x1x32, .f32⟩ : BufTy).Contents (Elt F))⟩, ⟨S256x32x4x32x1x32, (u3 : (⟨S256x32x4x32x1x32, .f32⟩ : BufTy).Contents (Elt F))⟩] concatenates_S256x32x4x32x1x32_S256x32x4x32x1x32_S256x32x4x32x1x32_S256x32x4x32x1x32_S256x32x4x32x4x32_d4 : (⟨S256x32x4x32x4x32, .f32⟩ : BufTy).Contents (Elt F)))

/-- @main's operations 1 … 30 of 159 (window `main_part0`). -/
abbrev ops_part0_0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S256x3x32x32, .f32⟩) main_arg0) (TRef.of (T := ⟨S_, .f32⟩) main_call0_v0) (TRef.of (T := ⟨S256x3x34x34, .f32⟩) main_v0) (fun x v => pad S256x3x34x34 ![0, 0, 1, 1] ![0, 0, 1, 1] ![0, 0, 0, 0] x v pads_S256x3x32x32_S256x3x34x34_000_000_110_110 h_S_),
    unary main_v0 main_v1 ((Host.slice S256x3x16x34 ![0, 0, 0, 0] ![1, 1, 2, 1] · slicesBy_S256x3x34x34_S256x3x16x34_0s1_0s1_0s2_0s1) : (⟨S256x3x34x34, .f32⟩ : BufTy).Contents (Elt F) → (⟨S256x3x16x34, .f32⟩ : BufTy).Contents (Elt F)),
    unary main_v0 main_v2 ((Host.slice S256x3x16x34 ![0, 0, 1, 0] ![1, 1, 2, 1] · slicesBy_S256x3x34x34_S256x3x16x34_0s1_0s1_1s2_0s1) : (⟨S256x3x34x34, .f32⟩ : BufTy).Contents (Elt F) → (⟨S256x3x16x34, .f32⟩ : BufTy).Contents (Elt F)),
    unary main_v0 main_v3 ((Host.slice S256x3x16x34 ![0, 0, 2, 0] ![1, 1, 2, 1] · slicesBy_S256x3x34x34_S256x3x16x34_0s1_0s1_2s2_0s1) : (⟨S256x3x34x34, .f32⟩ : BufTy).Contents (Elt F) → (⟨S256x3x16x34, .f32⟩ : BufTy).Contents (Elt F)),
    unary main_v1 main_v4 (broadcastInDim S256x3x1x16x34 ![0, 1, 3, 4] bcast_S256x3x16x34_S256x3x1x16x34_0_1_3_4 : (⟨S256x3x16x34, .f32⟩ : BufTy).Contents (Elt F) → (⟨S256x3x1x16x34, .f32⟩ : BufTy).Contents (Elt F)),
    unary main_v2 main_v5 (broadcastInDim S256x3x1x16x34 ![0, 1, 3, 4] bcast_S256x3x16x34_S256x3x1x16x34_0_1_3_4 : (⟨S256x3x16x34, .f32⟩ : BufTy).Contents (Elt F) → (⟨S256x3x1x16x34, .f32⟩ : BufTy).Contents (Elt F)),
    unary main_v3 main_v6 (broadcastInDim S256x3x1x16x34 ![0, 1, 3, 4] bcast_S256x3x16x34_S256x3x1x16x34_0_1_3_4 : (⟨S256x3x16x34, .f32⟩ : BufTy).Contents (Elt F) → (⟨S256x3x1x16x34, .f32⟩ : BufTy).Contents (Elt F)),
    nary ![main_v4, main_v5, main_v6] main_v7 (fun u => fn_main_v7 (F := F) (u 0) (u 1) (u 2)),
    unary main_v7 main_v8 ((Host.slice S256x3x3x16x16 ![0, 0, 0, 0, 0] ![1, 1, 1, 1, 2] · slicesBy_S256x3x3x16x34_S256x3x3x16x16_0s1_0s1_0s1_0s1_0s2) : (⟨S256x3x3x16x34, .f32⟩ : BufTy).Contents (Elt F) → (⟨S256x3x3x16x16, .f32⟩ : BufTy).Contents (Elt F)),
    unary main_v7 main_v9 ((Host.slice S256x3x3x16x16 ![0, 0, 0, 0, 1] ![1, 1, 1, 1, 2] · slicesBy_S256x3x3x16x34_S256x3x3x16x16_0s1_0s1_0s1_0s1_1s2) : (⟨S256x3x3x16x34, .f32⟩ : BufTy).Contents (Elt F) → (⟨S256x3x3x16x16, .f32⟩ : BufTy).Contents (Elt F)),
    unary main_v7 main_v10 ((Host.slice S256x3x3x16x16 ![0, 0, 0, 0, 2] ![1, 1, 1, 1, 2] · slicesBy_S256x3x3x16x34_S256x3x3x16x16_0s1_0s1_0s1_0s1_2s2) : (⟨S256x3x3x16x34, .f32⟩ : BufTy).Contents (Elt F) → (⟨S256x3x3x16x16, .f32⟩ : BufTy).Contents (Elt F)),
    unary main_v8 main_v11 (broadcastInDim S256x3x3x16x1x16 ![0, 1, 2, 3, 5] bcast_S256x3x3x16x16_S256x3x3x16x1x16_0_1_2_3_5 : (⟨S256x3x3x16x16, .f32⟩ : BufTy).Contents (Elt F) → (⟨S256x3x3x16x1x16, .f32⟩ : BufTy).Contents (Elt F)),
    unary main_v9 main_v12 (broadcastInDim S256x3x3x16x1x16 ![0, 1, 2, 3, 5] bcast_S256x3x3x16x16_S256x3x3x16x1x16_0_1_2_3_5 : (⟨S256x3x3x16x16, .f32⟩ : BufTy).Contents (Elt F) → (⟨S256x3x3x16x1x16, .f32⟩ : BufTy).Contents (Elt F)),
    unary main_v10 main_v13 (broadcastInDim S256x3x3x16x1x16 ![0, 1, 2, 3, 5] bcast_S256x3x3x16x16_S256x3x3x16x1x16_0_1_2_3_5 : (⟨S256x3x3x16x16, .f32⟩ : BufTy).Contents (Elt F) → (⟨S256x3x3x16x1x16, .f32⟩ : BufTy).Contents (Elt F)),
    nary ![main_v11, main_v12, main_v13] main_v14 (fun u => fn_main_v14 (F := F) (u 0) (u 1) (u 2)),
    binary main_arg1 main_v14 main_v15 ((fun l r => Host.dotGeneral dot_S32x3x3x3_S256x3x3x16x3x16_S32x256x16x16_132_142_0_035_n_n none l r) : (⟨S32x3x3x3, .f32⟩ : BufTy).Contents (Elt F) → (⟨S256x3x3x16x3x16, .f32⟩ : BufTy).Contents (Elt F) → (⟨S32x256x16x16, .f32⟩ : BufTy).Contents (Elt F)),
    unary main_v15 main_v16 ((transpose S256x32x16x16 [1, 0, 2, 3] · transposes_S32x256x16x16_S256x32x16x16_1_0_2_3) : (⟨S32x256x16x16, .f32⟩ : BufTy).Contents (Elt F) → (⟨S256x32x16x16, .f32⟩ : BufTy).Contents (Elt F)),
    unary main_arg2 main_v17 (broadcastInDim S1x32x1x1 ![1] bcast_S32_S1x32x1x1_1 : (⟨S32, .f32⟩ : BufTy).Contents (Elt F) → (⟨S1x32x1x1, .f32⟩ : BufTy).Contents (Elt F)),
    unary main_v17 main_v18 (broadcastInDim S256x32x16x16 ![0, 1, 2, 3] bcast_S1x32x1x1_S256x32x16x16_0_1_2_3 : (⟨S1x32x1x1, .f32⟩ : BufTy).Contents (Elt F) → (⟨S256x32x16x16, .f32⟩ : BufTy).Contents (Elt F)),
    binary main_v16 main_v18 main_v19 (addf : (⟨S256x32x16x16, .f32⟩ : BufTy).Contents (Elt F) → (⟨S256x32x16x16, .f32⟩ : BufTy).Contents (Elt F) → (⟨S256x32x16x16, .f32⟩ : BufTy).Contents (Elt F)),
    nullary main_cst (constant S_ .f32 0x00000000#32),
    unary main_cst main_v20 (broadcastInDim S256x32x16x16 ![] bcast_S_S256x32x16x16 : (⟨S_, .f32⟩ : BufTy).Contents (Elt F) → (⟨S256x32x16x16, .f32⟩ : BufTy).Contents (Elt F)),
    binary main_v19 main_v20 main_v21 (maximumf : (⟨S256x32x16x16, .f32⟩ : BufTy).Contents (Elt F) → (⟨S256x32x16x16, .f32⟩ : BufTy).Contents (Elt F) → (⟨S256x32x16x16, .f32⟩ : BufTy).Contents (Elt F)),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S256x32x16x16, .f32⟩) main_v21) (TRef.of (T := ⟨S_, .f32⟩) main_call1_v0) (TRef.of (T := ⟨S256x32x18x18, .f32⟩) main_v22) (fun x v => pad S256x32x18x18 ![0, 0, 1, 1] ![0, 0, 1, 1] ![0, 0, 0, 0] x v pads_S256x32x16x16_S256x32x18x18_000_000_110_110 h_S_),
    unary main_v22 main_v23 ((Host.slice S256x32x8x18 ![0, 0, 0, 0] ![1, 1, 2, 1] · slicesBy_S256x32x18x18_S256x32x8x18_0s1_0s1_0s2_0s1) : (⟨S256x32x18x18, .f32⟩ : BufTy).Contents (Elt F) → (⟨S256x32x8x18, .f32⟩ : BufTy).Contents (Elt F)),
    unary main_v22 main_v24 ((Host.slice S256x32x8x18 ![0, 0, 1, 0] ![1, 1, 2, 1] · slicesBy_S256x32x18x18_S256x32x8x18_0s1_0s1_1s2_0s1) : (⟨S256x32x18x18, .f32⟩ : BufTy).Contents (Elt F) → (⟨S256x32x8x18, .f32⟩ : BufTy).Contents (Elt F)) ]

/-- @main's operations 31 … 60 of 159 (window `main_part0`). -/
abbrev ops_part0_1 : List (HloOp τ sig (Elt F)) :=
  [ unary main_v22 main_v25 ((Host.slice S256x32x8x18 ![0, 0, 2, 0] ![1, 1, 2, 1] · slicesBy_S256x32x18x18_S256x32x8x18_0s1_0s1_2s2_0s1) : (⟨S256x32x18x18, .f32⟩ : BufTy).Contents (Elt F) → (⟨S256x32x8x18, .f32⟩ : BufTy).Contents (Elt F)),
    unary main_v23 main_v26 (broadcastInDim S256x32x1x8x18 ![0, 1, 3, 4] bcast_S256x32x8x18_S256x32x1x8x18_0_1_3_4 : (⟨S256x32x8x18, .f32⟩ : BufTy).Contents (Elt F) → (⟨S256x32x1x8x18, .f32⟩ : BufTy).Contents (Elt F)),
    unary main_v24 main_v27 (broadcastInDim S256x32x1x8x18 ![0, 1, 3, 4] bcast_S256x32x8x18_S256x32x1x8x18_0_1_3_4 : (⟨S256x32x8x18, .f32⟩ : BufTy).Contents (Elt F) → (⟨S256x32x1x8x18, .f32⟩ : BufTy).Contents (Elt F)),
    unary main_v25 main_v28 (broadcastInDim S256x32x1x8x18 ![0, 1, 3, 4] bcast_S256x32x8x18_S256x32x1x8x18_0_1_3_4 : (⟨S256x32x8x18, .f32⟩ : BufTy).Contents (Elt F) → (⟨S256x32x1x8x18, .f32⟩ : BufTy).Contents (Elt F)),
    nary ![main_v26, main_v27, main_v28] main_v29 (fun u => fn_main_v29 (F := F) (u 0) (u 1) (u 2)),
    unary main_v29 main_v30 ((Host.slice S256x32x3x8x8 ![0, 0, 0, 0, 0] ![1, 1, 1, 1, 2] · slicesBy_S256x32x3x8x18_S256x32x3x8x8_0s1_0s1_0s1_0s1_0s2) : (⟨S256x32x3x8x18, .f32⟩ : BufTy).Contents (Elt F) → (⟨S256x32x3x8x8, .f32⟩ : BufTy).Contents (Elt F)),
    unary main_v29 main_v31 ((Host.slice S256x32x3x8x8 ![0, 0, 0, 0, 1] ![1, 1, 1, 1, 2] · slicesBy_S256x32x3x8x18_S256x32x3x8x8_0s1_0s1_0s1_0s1_1s2) : (⟨S256x32x3x8x18, .f32⟩ : BufTy).Contents (Elt F) → (⟨S256x32x3x8x8, .f32⟩ : BufTy).Contents (Elt F)),
    unary main_v29 main_v32 ((Host.slice S256x32x3x8x8 ![0, 0, 0, 0, 2] ![1, 1, 1, 1, 2] · slicesBy_S256x32x3x8x18_S256x32x3x8x8_0s1_0s1_0s1_0s1_2s2) : (⟨S256x32x3x8x18, .f32⟩ : BufTy).Contents (Elt F) → (⟨S256x32x3x8x8, .f32⟩ : BufTy).Contents (Elt F)),
    unary main_v30 main_v33 (broadcastInDim S256x32x3x8x1x8 ![0, 1, 2, 3, 5] bcast_S256x32x3x8x8_S256x32x3x8x1x8_0_1_2_3_5 : (⟨S256x32x3x8x8, .f32⟩ : BufTy).Contents (Elt F) → (⟨S256x32x3x8x1x8, .f32⟩ : BufTy).Contents (Elt F)),
    unary main_v31 main_v34 (broadcastInDim S256x32x3x8x1x8 ![0, 1, 2, 3, 5] bcast_S256x32x3x8x8_S256x32x3x8x1x8_0_1_2_3_5 : (⟨S256x32x3x8x8, .f32⟩ : BufTy).Contents (Elt F) → (⟨S256x32x3x8x1x8, .f32⟩ : BufTy).Contents (Elt F)),
    unary main_v32 main_v35 (broadcastInDim S256x32x3x8x1x8 ![0, 1, 2, 3, 5] bcast_S256x32x3x8x8_S256x32x3x8x1x8_0_1_2_3_5 : (⟨S256x32x3x8x8, .f32⟩ : BufTy).Contents (Elt F) → (⟨S256x32x3x8x1x8, .f32⟩ : BufTy).Contents (Elt F)),
    nary ![main_v33, main_v34, main_v35] main_v36 (fun u => fn_main_v36 (F := F) (u 0) (u 1) (u 2)),
    binary main_arg3 main_v36 main_v37 ((fun l r => Host.dotGeneral dot_S64x32x3x3_S256x32x3x8x3x8_S64x256x8x8_132_142_0_035_n_n none l r) : (⟨S64x32x3x3, .f32⟩ : BufTy).Contents (Elt F) → (⟨S256x32x3x8x3x8, .f32⟩ : BufTy).Contents (Elt F) → (⟨S64x256x8x8, .f32⟩ : BufTy).Contents (Elt F)),
    unary main_v37 main_v38 ((transpose S256x64x8x8 [1, 0, 2, 3] · transposes_S64x256x8x8_S256x64x8x8_1_0_2_3) : (⟨S64x256x8x8, .f32⟩ : BufTy).Contents (Elt F) → (⟨S256x64x8x8, .f32⟩ : BufTy).Contents (Elt F)),
    unary main_arg4 main_v39 (broadcastInDim S1x64x1x1 ![1] bcast_S64_S1x64x1x1_1 : (⟨S64, .f32⟩ : BufTy).Contents (Elt F) → (⟨S1x64x1x1, .f32⟩ : BufTy).Contents (Elt F)),
    unary main_v39 main_v40 (broadcastInDim S256x64x8x8 ![0, 1, 2, 3] bcast_S1x64x1x1_S256x64x8x8_0_1_2_3 : (⟨S1x64x1x1, .f32⟩ : BufTy).Contents (Elt F) → (⟨S256x64x8x8, .f32⟩ : BufTy).Contents (Elt F)),
    binary main_v38 main_v40 main_v41 (addf : (⟨S256x64x8x8, .f32⟩ : BufTy).Contents (Elt F) → (⟨S256x64x8x8, .f32⟩ : BufTy).Contents (Elt F) → (⟨S256x64x8x8, .f32⟩ : BufTy).Contents (Elt F)),
    unary main_v41 main_v42 ((transpose S256x8x8x64 [0, 3, 2, 1] · transposes_S256x64x8x8_S256x8x8x64_0_3_2_1) : (⟨S256x64x8x8, .f32⟩ : BufTy).Contents (Elt F) → (⟨S256x8x8x64, .f32⟩ : BufTy).Contents (Elt F)),
    reshape main_v42 main_v43 (rfl : (.f32 : EltTy) = .f32) shapeCasts_S256x8x8x64_S256x64x64,
    unary main_v43 main_v44 (broadcastInDim S256x64x1x64 ![0, 1, 3] bcast_S256x64x64_S256x64x1x64_0_1_3 : (⟨S256x64x64, .f32⟩ : BufTy).Contents (Elt F) → (⟨S256x64x1x64, .f32⟩ : BufTy).Contents (Elt F)),
    unary main_arg9 main_v45 (broadcastInDim S1x1x64x64 ![2, 3] bcast_S64x64_S1x1x64x64_2_3 : (⟨S64x64, .f32⟩ : BufTy).Contents (Elt F) → (⟨S1x1x64x64, .f32⟩ : BufTy).Contents (Elt F)),
    unary main_v44 main_v46 (broadcastInDim S256x64x64x64 ![0, 1, 2, 3] bcast_S256x64x1x64_S256x64x64x64_0_1_2_3 : (⟨S256x64x1x64, .f32⟩ : BufTy).Contents (Elt F) → (⟨S256x64x64x64, .f32⟩ : BufTy).Contents (Elt F)),
    unary main_v45 main_v47 (broadcastInDim S256x64x64x64 ![0, 1, 2, 3] bcast_S1x1x64x64_S256x64x64x64_0_1_2_3 : (⟨S1x1x64x64, .f32⟩ : BufTy).Contents (Elt F) → (⟨S256x64x64x64, .f32⟩ : BufTy).Contents (Elt F)),
    binary main_v46 main_v47 main_v48 (subf : (⟨S256x64x64x64, .f32⟩ : BufTy).Contents (Elt F) → (⟨S256x64x64x64, .f32⟩ : BufTy).Contents (Elt F) → (⟨S256x64x64x64, .f32⟩ : BufTy).Contents (Elt F)),
    binary main_v48 main_v48 main_v49 (mulf : (⟨S256x64x64x64, .f32⟩ : BufTy).Contents (Elt F) → (⟨S256x64x64x64, .f32⟩ : BufTy).Contents (Elt F) → (⟨S256x64x64x64, .f32⟩ : BufTy).Contents (Elt F)),
    nullary main_cst_1 (constant S_ .f32 0x00000000#32),
    binary main_v49 main_cst_1 main_v50 ((fun x v => Host.reduceAdd x v reducesTo_S256x64x64x64_S256x64x64_d3 h_S_) : (⟨S256x64x64x64, .f32⟩ : BufTy).Contents (Elt F) → (⟨S_, .f32⟩ : BufTy).Contents (Elt F) → (⟨S256x64x64, .f32⟩ : BufTy).Contents (Elt F)),
    unary main_v50 main_v51 (Host.sqrt : (⟨S256x64x64, .f32⟩ : BufTy).Contents (Elt F) → (⟨S256x64x64, .f32⟩ : BufTy).Contents (Elt F)),
    TRef.nullary (TRef.of (T := ⟨S256x64x64, .i32⟩) main_call2_v0) (iotaInDim S256x64x64 32 2),
    TRef.nullary (TRef.of (T := ⟨S_, .f32⟩) main_call2_cst) (constant S_ .f32 0x7F800000#32) ]

/-- @main's operations 61 … 66 of 159 (window `main_part0`). -/
abbrev ops_part0_2 : List (HloOp τ sig (Elt F)) :=
  [ TRef.nullary (TRef.of (T := ⟨S_, .i32⟩) main_call2_c) (constantI S_ 32 0#32),
    TRef.quaternary (TRef.of (T := ⟨S256x64x64, .f32⟩) main_v51) (TRef.of (T := ⟨S256x64x64, .i32⟩) main_call2_v0) (TRef.of (T := ⟨S_, .f32⟩) main_call2_cst) (TRef.of (T := ⟨S_, .i32⟩) main_call2_c) (TRef.of (T := ⟨S256x64, .f32⟩) main_call2_v1_0) (fun x y u v j => (Host.argReduce reducer_argmin_f32_i32 x y u v reducesTo_S256x64x64_S256x64_d2 h_S_ j).1),
    TRef.quaternary (TRef.of (T := ⟨S256x64x64, .f32⟩) main_v51) (TRef.of (T := ⟨S256x64x64, .i32⟩) main_call2_v0) (TRef.of (T := ⟨S_, .f32⟩) main_call2_cst) (TRef.of (T := ⟨S_, .i32⟩) main_call2_c) (TRef.of (T := ⟨S256x64, .i32⟩) main_v52) (fun x y u v j => (Host.argReduce reducer_argmin_f32_i32 x y u v reducesTo_S256x64x64_S256x64_d2 h_S_ j).2),
    nullary main_c_2 (constantI S_ 32 0#32),
    unary main_c_2 main_v53 (broadcastInDim S256x64 ![] bcast_S_S256x64 : (⟨S_, .i32⟩ : BufTy).Contents (Elt F) → (⟨S256x64, .i32⟩ : BufTy).Contents (Elt F)),
    binary main_v52 main_v53 main_v54 (cmpi .slt : (⟨S256x64, .i32⟩ : BufTy).Contents (Elt F) → (⟨S256x64, .i32⟩ : BufTy).Contents (Elt F) → (⟨S256x64, .i1⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 67 … 126 of 159 (window `main_part1`). -/
abbrev ops_part1 : List (HloOp τ sig (Elt F)) :=
  [ nullary main_c_3 (constantI S_ 32 64#32),
    unary main_c_3 main_v55 (broadcastInDim S256x64 ![] bcast_S_S256x64 : (⟨S_, .i32⟩ : BufTy).Contents (Elt F) → (⟨S256x64, .i32⟩ : BufTy).Contents (Elt F)),
    binary main_v52 main_v55 main_v56 (addi : (⟨S256x64, .i32⟩ : BufTy).Contents (Elt F) → (⟨S256x64, .i32⟩ : BufTy).Contents (Elt F) → (⟨S256x64, .i32⟩ : BufTy).Contents (Elt F)),
    ternary main_v54 main_v56 main_v52 main_v57 (select : (⟨S256x64, .i1⟩ : BufTy).Contents (Elt F) → (⟨S256x64, .i32⟩ : BufTy).Contents (Elt F) → (⟨S256x64, .i32⟩ : BufTy).Contents (Elt F) → (⟨S256x64, .i32⟩ : BufTy).Contents (Elt F)),
    unary main_v57 main_v58 (broadcastInDim S256x64x1 ![0, 1] bcast_S256x64_S256x64x1_0_1 : (⟨S256x64, .i32⟩ : BufTy).Contents (Elt F) → (⟨S256x64x1, .i32⟩ : BufTy).Contents (Elt F)),
    binary main_arg9 main_v58 main_v59 ((fun x i => Host.gather gather_S64x64_S256x64x1_S256x64x64_2_0_n_n_0_2_164 x i) : (⟨S64x64, .f32⟩ : BufTy).Contents (Elt F) → (⟨S256x64x1, .i32⟩ : BufTy).Contents (Elt F) → (⟨S256x64x64, .f32⟩ : BufTy).Contents (Elt F)),
    reshape main_v59 main_v60 (rfl : (.f32 : EltTy) = .f32) shapeCasts_S256x64x64_S256x8x8x64,
    unary main_v60 main_v61 ((transpose S256x64x8x8 [0, 3, 2, 1] · transposes_S256x8x8x64_S256x64x8x8_0_3_2_1) : (⟨S256x8x8x64, .f32⟩ : BufTy).Contents (Elt F) → (⟨S256x64x8x8, .f32⟩ : BufTy).Contents (Elt F)),
    TRef.unary (TRef.of (T := ⟨S64x32x4x4, .f32⟩) main_arg5) (TRef.of (T := ⟨S64x32x4x4, .f32⟩) main_v62) (Host.reverse [2, 3]),
    unary main_v62 main_v63 ((transpose S32x64x4x4 [1, 0, 2, 3] · transposes_S64x32x4x4_S32x64x4x4_1_0_2_3) : (⟨S64x32x4x4, .f32⟩ : BufTy).Contents (Elt F) → (⟨S32x64x4x4, .f32⟩ : BufTy).Contents (Elt F)),
    nullary main_cst_4 (constant S_ .f32 0x00000000#32),
    binary main_v61 main_cst_4 main_v64 ((fun x v => pad S256x64x19x19 ![0, 0, 2, 2] ![0, 0, 2, 2] ![0, 0, 1, 1] x v pads_S256x64x8x8_S256x64x19x19_000_000_221_221 h_S_) : (⟨S256x64x8x8, .f32⟩ : BufTy).Contents (Elt F) → (⟨S_, .f32⟩ : BufTy).Contents (Elt F) → (⟨S256x64x19x19, .f32⟩ : BufTy).Contents (Elt F)),
    unary main_v64 main_v65 ((extractStridedSlice S256x64x16x19 ![0, 0, 0, 0] · slices_S256x64x19x19_S256x64x16x19_0_0_0_0) : (⟨S256x64x19x19, .f32⟩ : BufTy).Contents (Elt F) → (⟨S256x64x16x19, .f32⟩ : BufTy).Contents (Elt F)),
    unary main_v64 main_v66 ((extractStridedSlice S256x64x16x19 ![0, 0, 1, 0] · slices_S256x64x19x19_S256x64x16x19_0_0_1_0) : (⟨S256x64x19x19, .f32⟩ : BufTy).Contents (Elt F) → (⟨S256x64x16x19, .f32⟩ : BufTy).Contents (Elt F)),
    unary main_v64 main_v67 ((extractStridedSlice S256x64x16x19 ![0, 0, 2, 0] · slices_S256x64x19x19_S256x64x16x19_0_0_2_0) : (⟨S256x64x19x19, .f32⟩ : BufTy).Contents (Elt F) → (⟨S256x64x16x19, .f32⟩ : BufTy).Contents (Elt F)),
    unary main_v64 main_v68 ((extractStridedSlice S256x64x16x19 ![0, 0, 3, 0] · slices_S256x64x19x19_S256x64x16x19_0_0_3_0) : (⟨S256x64x19x19, .f32⟩ : BufTy).Contents (Elt F) → (⟨S256x64x16x19, .f32⟩ : BufTy).Contents (Elt F)),
    unary main_v65 main_v69 (broadcastInDim S256x64x1x16x19 ![0, 1, 3, 4] bcast_S256x64x16x19_S256x64x1x16x19_0_1_3_4 : (⟨S256x64x16x19, .f32⟩ : BufTy).Contents (Elt F) → (⟨S256x64x1x16x19, .f32⟩ : BufTy).Contents (Elt F)),
    unary main_v66 main_v70 (broadcastInDim S256x64x1x16x19 ![0, 1, 3, 4] bcast_S256x64x16x19_S256x64x1x16x19_0_1_3_4 : (⟨S256x64x16x19, .f32⟩ : BufTy).Contents (Elt F) → (⟨S256x64x1x16x19, .f32⟩ : BufTy).Contents (Elt F)),
    unary main_v67 main_v71 (broadcastInDim S256x64x1x16x19 ![0, 1, 3, 4] bcast_S256x64x16x19_S256x64x1x16x19_0_1_3_4 : (⟨S256x64x16x19, .f32⟩ : BufTy).Contents (Elt F) → (⟨S256x64x1x16x19, .f32⟩ : BufTy).Contents (Elt F)),
    unary main_v68 main_v72 (broadcastInDim S256x64x1x16x19 ![0, 1, 3, 4] bcast_S256x64x16x19_S256x64x1x16x19_0_1_3_4 : (⟨S256x64x16x19, .f32⟩ : BufTy).Contents (Elt F) → (⟨S256x64x1x16x19, .f32⟩ : BufTy).Contents (Elt F)),
    nary ![main_v69, main_v70, main_v71, main_v72] main_v73 (fun u => fn_main_v73 (F := F) (u 0) (u 1) (u 2) (u 3)),
    unary main_v73 main_v74 ((extractStridedSlice S256x64x4x16x16 ![0, 0, 0, 0, 0] · slices_S256x64x4x16x19_S256x64x4x16x16_0_0_0_0_0) : (⟨S256x64x4x16x19, .f32⟩ : BufTy).Contents (Elt F) → (⟨S256x64x4x16x16, .f32⟩ : BufTy).Contents (Elt F)),
    unary main_v73 main_v75 ((extractStridedSlice S256x64x4x16x16 ![0, 0, 0, 0, 1] · slices_S256x64x4x16x19_S256x64x4x16x16_0_0_0_0_1) : (⟨S256x64x4x16x19, .f32⟩ : BufTy).Contents (Elt F) → (⟨S256x64x4x16x16, .f32⟩ : BufTy).Contents (Elt F)),
    unary main_v73 main_v76 ((extractStridedSlice S256x64x4x16x16 ![0, 0, 0, 0, 2] · slices_S256x64x4x16x19_S256x64x4x16x16_0_0_0_0_2) : (⟨S256x64x4x16x19, .f32⟩ : BufTy).Contents (Elt F) → (⟨S256x64x4x16x16, .f32⟩ : BufTy).Contents (Elt F)),
    unary main_v73 main_v77 ((extractStridedSlice S256x64x4x16x16 ![0, 0, 0, 0, 3] · slices_S256x64x4x16x19_S256x64x4x16x16_0_0_0_0_3) : (⟨S256x64x4x16x19, .f32⟩ : BufTy).Contents (Elt F) → (⟨S256x64x4x16x16, .f32⟩ : BufTy).Contents (Elt F)),
    unary main_v74 main_v78 (broadcastInDim S256x64x4x16x1x16 ![0, 1, 2, 3, 5] bcast_S256x64x4x16x16_S256x64x4x16x1x16_0_1_2_3_5 : (⟨S256x64x4x16x16, .f32⟩ : BufTy).Contents (Elt F) → (⟨S256x64x4x16x1x16, .f32⟩ : BufTy).Contents (Elt F)),
    unary main_v75 main_v79 (broadcastInDim S256x64x4x16x1x16 ![0, 1, 2, 3, 5] bcast_S256x64x4x16x16_S256x64x4x16x1x16_0_1_2_3_5 : (⟨S256x64x4x16x16, .f32⟩ : BufTy).Contents (Elt F) → (⟨S256x64x4x16x1x16, .f32⟩ : BufTy).Contents (Elt F)),
    unary main_v76 main_v80 (broadcastInDim S256x64x4x16x1x16 ![0, 1, 2, 3, 5] bcast_S256x64x4x16x16_S256x64x4x16x1x16_0_1_2_3_5 : (⟨S256x64x4x16x16, .f32⟩ : BufTy).Contents (Elt F) → (⟨S256x64x4x16x1x16, .f32⟩ : BufTy).Contents (Elt F)),
    unary main_v77 main_v81 (broadcastInDim S256x64x4x16x1x16 ![0, 1, 2, 3, 5] bcast_S256x64x4x16x16_S256x64x4x16x1x16_0_1_2_3_5 : (⟨S256x64x4x16x16, .f32⟩ : BufTy).Contents (Elt F) → (⟨S256x64x4x16x1x16, .f32⟩ : BufTy).Contents (Elt F)),
    nary ![main_v78, main_v79, main_v80, main_v81] main_v82 (fun u => fn_main_v82 (F := F) (u 0) (u 1) (u 2) (u 3)),
    binary main_v63 main_v82 main_v83 ((fun l r => Host.dotGeneral dot_S32x64x4x4_S256x64x4x16x4x16_S32x256x16x16_132_142_0_035_n_n none l r) : (⟨S32x64x4x4, .f32⟩ : BufTy).Contents (Elt F) → (⟨S256x64x4x16x4x16, .f32⟩ : BufTy).Contents (Elt F) → (⟨S32x256x16x16, .f32⟩ : BufTy).Contents (Elt F)),
    unary main_v83 main_v84 ((transpose S256x32x16x16 [1, 0, 2, 3] · transposes_S32x256x16x16_S256x32x16x16_1_0_2_3) : (⟨S32x256x16x16, .f32⟩ : BufTy).Contents (Elt F) → (⟨S256x32x16x16, .f32⟩ : BufTy).Contents (Elt F)),
    unary main_arg6 main_v85 (broadcastInDim S1x32x1x1 ![1] bcast_S32_S1x32x1x1_1 : (⟨S32, .f32⟩ : BufTy).Contents (Elt F) → (⟨S1x32x1x1, .f32⟩ : BufTy).Contents (Elt F)),
    unary main_v85 main_v86 (broadcastInDim S256x32x16x16 ![0, 1, 2, 3] bcast_S1x32x1x1_S256x32x16x16_0_1_2_3 : (⟨S1x32x1x1, .f32⟩ : BufTy).Contents (Elt F) → (⟨S256x32x16x16, .f32⟩ : BufTy).Contents (Elt F)),
    binary main_v84 main_v86 main_v87 (addf : (⟨S256x32x16x16, .f32⟩ : BufTy).Contents (Elt F) → (⟨S256x32x16x16, .f32⟩ : BufTy).Contents (Elt F) → (⟨S256x32x16x16, .f32⟩ : BufTy).Contents (Elt F)),
    nullary main_cst_5 (constant S_ .f32 0x00000000#32),
    unary main_cst_5 main_v88 (broadcastInDim S256x32x16x16 ![] bcast_S_S256x32x16x16 : (⟨S_, .f32⟩ : BufTy).Contents (Elt F) → (⟨S256x32x16x16, .f32⟩ : BufTy).Contents (Elt F)),
    binary main_v87 main_v88 main_v89 (maximumf : (⟨S256x32x16x16, .f32⟩ : BufTy).Contents (Elt F) → (⟨S256x32x16x16, .f32⟩ : BufTy).Contents (Elt F) → (⟨S256x32x16x16, .f32⟩ : BufTy).Contents (Elt F)),
    TRef.unary (TRef.of (T := ⟨S32x3x4x4, .f32⟩) main_arg7) (TRef.of (T := ⟨S32x3x4x4, .f32⟩) main_v90) (Host.reverse [2, 3]),
    unary main_v90 main_v91 ((transpose S3x32x4x4 [1, 0, 2, 3] · transposes_S32x3x4x4_S3x32x4x4_1_0_2_3) : (⟨S32x3x4x4, .f32⟩ : BufTy).Contents (Elt F) → (⟨S3x32x4x4, .f32⟩ : BufTy).Contents (Elt F)),
    nullary main_cst_6 (constant S_ .f32 0x00000000#32),
    binary main_v89 main_cst_6 main_v92 ((fun x v => pad S256x32x35x35 ![0, 0, 2, 2] ![0, 0, 2, 2] ![0, 0, 1, 1] x v pads_S256x32x16x16_S256x32x35x35_000_000_221_221 h_S_) : (⟨S256x32x16x16, .f32⟩ : BufTy).Contents (Elt F) → (⟨S_, .f32⟩ : BufTy).Contents (Elt F) → (⟨S256x32x35x35, .f32⟩ : BufTy).Contents (Elt F)),
    unary main_v92 main_v93 ((extractStridedSlice S256x32x32x35 ![0, 0, 0, 0] · slices_S256x32x35x35_S256x32x32x35_0_0_0_0) : (⟨S256x32x35x35, .f32⟩ : BufTy).Contents (Elt F) → (⟨S256x32x32x35, .f32⟩ : BufTy).Contents (Elt F)),
    unary main_v92 main_v94 ((extractStridedSlice S256x32x32x35 ![0, 0, 1, 0] · slices_S256x32x35x35_S256x32x32x35_0_0_1_0) : (⟨S256x32x35x35, .f32⟩ : BufTy).Contents (Elt F) → (⟨S256x32x32x35, .f32⟩ : BufTy).Contents (Elt F)),
    unary main_v92 main_v95 ((extractStridedSlice S256x32x32x35 ![0, 0, 2, 0] · slices_S256x32x35x35_S256x32x32x35_0_0_2_0) : (⟨S256x32x35x35, .f32⟩ : BufTy).Contents (Elt F) → (⟨S256x32x32x35, .f32⟩ : BufTy).Contents (Elt F)),
    unary main_v92 main_v96 ((extractStridedSlice S256x32x32x35 ![0, 0, 3, 0] · slices_S256x32x35x35_S256x32x32x35_0_0_3_0) : (⟨S256x32x35x35, .f32⟩ : BufTy).Contents (Elt F) → (⟨S256x32x32x35, .f32⟩ : BufTy).Contents (Elt F)),
    unary main_v93 main_v97 (broadcastInDim S256x32x1x32x35 ![0, 1, 3, 4] bcast_S256x32x32x35_S256x32x1x32x35_0_1_3_4 : (⟨S256x32x32x35, .f32⟩ : BufTy).Contents (Elt F) → (⟨S256x32x1x32x35, .f32⟩ : BufTy).Contents (Elt F)),
    unary main_v94 main_v98 (broadcastInDim S256x32x1x32x35 ![0, 1, 3, 4] bcast_S256x32x32x35_S256x32x1x32x35_0_1_3_4 : (⟨S256x32x32x35, .f32⟩ : BufTy).Contents (Elt F) → (⟨S256x32x1x32x35, .f32⟩ : BufTy).Contents (Elt F)),
    unary main_v95 main_v99 (broadcastInDim S256x32x1x32x35 ![0, 1, 3, 4] bcast_S256x32x32x35_S256x32x1x32x35_0_1_3_4 : (⟨S256x32x32x35, .f32⟩ : BufTy).Contents (Elt F) → (⟨S256x32x1x32x35, .f32⟩ : BufTy).Contents (Elt F)),
    unary main_v96 main_v100 (broadcastInDim S256x32x1x32x35 ![0, 1, 3, 4] bcast_S256x32x32x35_S256x32x1x32x35_0_1_3_4 : (⟨S256x32x32x35, .f32⟩ : BufTy).Contents (Elt F) → (⟨S256x32x1x32x35, .f32⟩ : BufTy).Contents (Elt F)),
    nary ![main_v97, main_v98, main_v99, main_v100] main_v101 (fun u => fn_main_v101 (F := F) (u 0) (u 1) (u 2) (u 3)),
    unary main_v101 main_v102 ((extractStridedSlice S256x32x4x32x32 ![0, 0, 0, 0, 0] · slices_S256x32x4x32x35_S256x32x4x32x32_0_0_0_0_0) : (⟨S256x32x4x32x35, .f32⟩ : BufTy).Contents (Elt F) → (⟨S256x32x4x32x32, .f32⟩ : BufTy).Contents (Elt F)),
    unary main_v101 main_v103 ((extractStridedSlice S256x32x4x32x32 ![0, 0, 0, 0, 1] · slices_S256x32x4x32x35_S256x32x4x32x32_0_0_0_0_1) : (⟨S256x32x4x32x35, .f32⟩ : BufTy).Contents (Elt F) → (⟨S256x32x4x32x32, .f32⟩ : BufTy).Contents (Elt F)),
    unary main_v101 main_v104 ((extractStridedSlice S256x32x4x32x32 ![0, 0, 0, 0, 2] · slices_S256x32x4x32x35_S256x32x4x32x32_0_0_0_0_2) : (⟨S256x32x4x32x35, .f32⟩ : BufTy).Contents (Elt F) → (⟨S256x32x4x32x32, .f32⟩ : BufTy).Contents (Elt F)),
    unary main_v101 main_v105 ((extractStridedSlice S256x32x4x32x32 ![0, 0, 0, 0, 3] · slices_S256x32x4x32x35_S256x32x4x32x32_0_0_0_0_3) : (⟨S256x32x4x32x35, .f32⟩ : BufTy).Contents (Elt F) → (⟨S256x32x4x32x32, .f32⟩ : BufTy).Contents (Elt F)),
    unary main_v102 main_v106 (broadcastInDim S256x32x4x32x1x32 ![0, 1, 2, 3, 5] bcast_S256x32x4x32x32_S256x32x4x32x1x32_0_1_2_3_5 : (⟨S256x32x4x32x32, .f32⟩ : BufTy).Contents (Elt F) → (⟨S256x32x4x32x1x32, .f32⟩ : BufTy).Contents (Elt F)),
    unary main_v103 main_v107 (broadcastInDim S256x32x4x32x1x32 ![0, 1, 2, 3, 5] bcast_S256x32x4x32x32_S256x32x4x32x1x32_0_1_2_3_5 : (⟨S256x32x4x32x32, .f32⟩ : BufTy).Contents (Elt F) → (⟨S256x32x4x32x1x32, .f32⟩ : BufTy).Contents (Elt F)),
    unary main_v104 main_v108 (broadcastInDim S256x32x4x32x1x32 ![0, 1, 2, 3, 5] bcast_S256x32x4x32x32_S256x32x4x32x1x32_0_1_2_3_5 : (⟨S256x32x4x32x32, .f32⟩ : BufTy).Contents (Elt F) → (⟨S256x32x4x32x1x32, .f32⟩ : BufTy).Contents (Elt F)),
    unary main_v105 main_v109 (broadcastInDim S256x32x4x32x1x32 ![0, 1, 2, 3, 5] bcast_S256x32x4x32x32_S256x32x4x32x1x32_0_1_2_3_5 : (⟨S256x32x4x32x32, .f32⟩ : BufTy).Contents (Elt F) → (⟨S256x32x4x32x1x32, .f32⟩ : BufTy).Contents (Elt F)),
    nary ![main_v106, main_v107, main_v108, main_v109] main_v110 (fun u => fn_main_v110 (F := F) (u 0) (u 1) (u 2) (u 3)) ]

/-- @main's operations 127 … 159 of 159 (window `main_part2`). -/
abbrev ops_part2 : List (HloOp τ sig (Elt F)) :=
  [ binary main_v91 main_v110 main_v111 ((fun l r => Host.dotGeneral dot_S3x32x4x4_S256x32x4x32x4x32_S3x256x32x32_132_142_0_035_n_n none l r) : (⟨S3x32x4x4, .f32⟩ : BufTy).Contents (Elt F) → (⟨S256x32x4x32x4x32, .f32⟩ : BufTy).Contents (Elt F) → (⟨S3x256x32x32, .f32⟩ : BufTy).Contents (Elt F)),
    unary main_v111 main_v112 ((transpose S256x3x32x32 [1, 0, 2, 3] · transposes_S3x256x32x32_S256x3x32x32_1_0_2_3) : (⟨S3x256x32x32, .f32⟩ : BufTy).Contents (Elt F) → (⟨S256x3x32x32, .f32⟩ : BufTy).Contents (Elt F)),
    unary main_arg8 main_v113 (broadcastInDim S1x3x1x1 ![1] bcast_S3_S1x3x1x1_1 : (⟨S3, .f32⟩ : BufTy).Contents (Elt F) → (⟨S1x3x1x1, .f32⟩ : BufTy).Contents (Elt F)),
    unary main_v113 main_v114 (broadcastInDim S256x3x32x32 ![0, 1, 2, 3] bcast_S1x3x1x1_S256x3x32x32_0_1_2_3 : (⟨S1x3x1x1, .f32⟩ : BufTy).Contents (Elt F) → (⟨S256x3x32x32, .f32⟩ : BufTy).Contents (Elt F)),
    binary main_v112 main_v114 main_v115 (addf : (⟨S256x3x32x32, .f32⟩ : BufTy).Contents (Elt F) → (⟨S256x3x32x32, .f32⟩ : BufTy).Contents (Elt F) → (⟨S256x3x32x32, .f32⟩ : BufTy).Contents (Elt F)),
    binary main_arg0 main_v115 main_v116 (subf : (⟨S256x3x32x32, .f32⟩ : BufTy).Contents (Elt F) → (⟨S256x3x32x32, .f32⟩ : BufTy).Contents (Elt F) → (⟨S256x3x32x32, .f32⟩ : BufTy).Contents (Elt F)),
    binary main_v116 main_v116 main_v117 (mulf : (⟨S256x3x32x32, .f32⟩ : BufTy).Contents (Elt F) → (⟨S256x3x32x32, .f32⟩ : BufTy).Contents (Elt F) → (⟨S256x3x32x32, .f32⟩ : BufTy).Contents (Elt F)),
    nullary main_cst_7 (constant S_ .f32 0x3F000000#32),
    unary main_cst_7 main_v118 (broadcastInDim S256x3x32x32 ![] bcast_S_S256x3x32x32 : (⟨S_, .f32⟩ : BufTy).Contents (Elt F) → (⟨S256x3x32x32, .f32⟩ : BufTy).Contents (Elt F)),
    binary main_v118 main_v117 main_v119 (mulf : (⟨S256x3x32x32, .f32⟩ : BufTy).Contents (Elt F) → (⟨S256x3x32x32, .f32⟩ : BufTy).Contents (Elt F) → (⟨S256x3x32x32, .f32⟩ : BufTy).Contents (Elt F)),
    reshape main_v119 main_v120 (rfl : (.f32 : EltTy) = .f32) shapeCasts_S256x3x32x32_S256x3072,
    nullary main_cst_8 (constant S_ .f32 0x00000000#32),
    binary main_v120 main_cst_8 main_v121 ((fun x v => Host.reduceAdd x v reducesTo_S256x3072_S256_d1 h_S_) : (⟨S256x3072, .f32⟩ : BufTy).Contents (Elt F) → (⟨S_, .f32⟩ : BufTy).Contents (Elt F) → (⟨S256, .f32⟩ : BufTy).Contents (Elt F)),
    nullary main_cst_9 (constant S_ .f32 0x00000000#32),
    binary main_v121 main_cst_9 main_v122 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_10 (constant S_ .f32 0x43800000#32),
    binary main_v122 main_cst_10 main_v123 (Host.divf : (⟨S_, .f32⟩ : BufTy).Contents (Elt F) → (⟨S_, .f32⟩ : BufTy).Contents (Elt F) → (⟨S_, .f32⟩ : BufTy).Contents (Elt F)),
    binary main_v59 main_v43 main_v124 (subf : (⟨S256x64x64, .f32⟩ : BufTy).Contents (Elt F) → (⟨S256x64x64, .f32⟩ : BufTy).Contents (Elt F) → (⟨S256x64x64, .f32⟩ : BufTy).Contents (Elt F)),
    binary main_v124 main_v124 main_v125 (mulf : (⟨S256x64x64, .f32⟩ : BufTy).Contents (Elt F) → (⟨S256x64x64, .f32⟩ : BufTy).Contents (Elt F) → (⟨S256x64x64, .f32⟩ : BufTy).Contents (Elt F)),
    nullary main_cst_11 (constant S_ .f32 0x00000000#32),
    binary main_v125 main_cst_11 main_v126 ((fun x v => Host.reduceAdd x v reducesTo_S256x64x64_S256x64_d2 h_S_) : (⟨S256x64x64, .f32⟩ : BufTy).Contents (Elt F) → (⟨S_, .f32⟩ : BufTy).Contents (Elt F) → (⟨S256x64, .f32⟩ : BufTy).Contents (Elt F)),
    unary main_v126 main_v127 (Host.sqrt : (⟨S256x64, .f32⟩ : BufTy).Contents (Elt F) → (⟨S256x64, .f32⟩ : BufTy).Contents (Elt F)),
    nullary main_cst_12 (constant S_ .f32 0x00000000#32),
    binary main_v127 main_cst_12 main_v128 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    nullary main_cst_13 (constant S_ .f32 0x00000000#32),
    binary main_v128 main_cst_13 main_v129 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_14 (constant S_ .f32 0x43800000#32),
    binary main_v129 main_cst_14 main_v130 (Host.divf : (⟨S_, .f32⟩ : BufTy).Contents (Elt F) → (⟨S_, .f32⟩ : BufTy).Contents (Elt F) → (⟨S_, .f32⟩ : BufTy).Contents (Elt F)),
    binary main_v123 main_v130 main_v131 (addf : (⟨S_, .f32⟩ : BufTy).Contents (Elt F) → (⟨S_, .f32⟩ : BufTy).Contents (Elt F) → (⟨S_, .f32⟩ : BufTy).Contents (Elt F)),
    nullary main_cst_15 (constant S_ .f32 0x3DCCCCCD#32),
    binary main_cst_15 main_v130 main_v132 (mulf : (⟨S_, .f32⟩ : BufTy).Contents (Elt F) → (⟨S_, .f32⟩ : BufTy).Contents (Elt F) → (⟨S_, .f32⟩ : BufTy).Contents (Elt F)),
    binary main_v131 main_v132 main_v133 (addf : (⟨S_, .f32⟩ : BufTy).Contents (Elt F) → (⟨S_, .f32⟩ : BufTy).Contents (Elt F) → (⟨S_, .f32⟩ : BufTy).Contents (Elt F)),
    reshape main_v133 main_v134 (rfl : (.f32 : EltTy) = .f32) shapeCasts_S_S1x1 ]

/-- @main's 159 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., binary_bufs_sub .., unary_bufs_sub .., reshape_bufs_sub .., unary_bufs_sub .., unary_bufs_sub .., unary_bufs_sub .., unary_bufs_sub .., binary_bufs_sub .., binary_bufs_sub .., nullary_bufs_sub .., binary_bufs_sub .., unary_bufs_sub .., nullary_bufs_sub .., nullary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., quaternary_bufs_sub .., quaternary_bufs_sub .., nullary_bufs_sub .., unary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl⟩
set_option maxRecDepth 8192 in
theorem ops_part1_sub : (ops_part1 : List (HloOp τ sig (Elt F))).Forall fun op => op.bufs ⊆ tcRefs τ sig :=
  ⟨nullary_bufs_sub .., unary_bufs_sub .., binary_bufs_sub .., ternary_bufs_sub .., unary_bufs_sub .., binary_bufs_sub .., reshape_bufs_sub .., unary_bufs_sub .., unary_bufs_sub .., unary_bufs_sub .., nullary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., unary_bufs_sub .., unary_bufs_sub .., nullary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨binary_bufs_sub .., unary_bufs_sub .., unary_bufs_sub .., unary_bufs_sub .., binary_bufs_sub .., binary_bufs_sub .., binary_bufs_sub .., nullary_bufs_sub .., unary_bufs_sub .., binary_bufs_sub .., reshape_bufs_sub .., nullary_bufs_sub .., binary_bufs_sub .., nullary_bufs_sub .., binary_bufs_sub .., nullary_bufs_sub .., binary_bufs_sub .., binary_bufs_sub .., binary_bufs_sub .., nullary_bufs_sub .., binary_bufs_sub .., unary_bufs_sub .., nullary_bufs_sub .., binary_bufs_sub .., nullary_bufs_sub .., binary_bufs_sub .., nullary_bufs_sub .., binary_bufs_sub .., binary_bufs_sub .., nullary_bufs_sub .., binary_bufs_sub .., binary_bufs_sub .., reshape_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h, List.forall_iff_forall_mem.mp ops_part2_sub op h]
theorem ops_fresh : ∀ op ∈ (ops : List (HloOp τ sig (Elt F))), op.fresh = ∅ := fun op h => by
    simp only [ops, ops_part0, List.mem_append, or_assoc] at h
    rcases h with h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h, List.forall_iff_forall_mem.mp ops_part2_fresh op h]

set_option maxRecDepth 8192 in
/-- `main_v0`'s composed term of the arguments (named: it is used 3 times). -/
def res_main_v0 (V0 : Valuation τ sig (Elt F)) : (Proc.devRef .tc main_v0 : DevRef τ sig).ty.Contents (Elt F) :=
  pad S256x3x34x34 ![0, 0, 1, 1] ![0, 0, 1, 1] ![0, 0, 0, 0] (V0 (Proc.devRef .tc main_arg0)) (sitofp .f32 (constantI S_ 32 0#32)) pads_S256x3x32x32_S256x3x34x34_000_000_110_110 h_S_

set_option maxRecDepth 8192 in
/-- `main_v7`'s composed term of the arguments (named: it is used 3 times). -/
def res_main_v7 (V0 : Valuation τ sig (Elt F)) : (Proc.devRef .tc main_v7 : DevRef τ sig).ty.Contents (Elt F) :=
  (concatenate S256x3x3x16x34 2 [⟨S256x3x1x16x34, ((broadcastInDim S256x3x1x16x34 ![0, 1, 3, 4] bcast_S256x3x16x34_S256x3x1x16x34_0_1_3_4 (Host.slice S256x3x16x34 ![0, 0, 0, 0] ![1, 1, 2, 1] (res_main_v0 V0) slicesBy_S256x3x34x34_S256x3x16x34_0s1_0s1_0s2_0s1)) : (⟨S256x3x1x16x34, .f32⟩ : BufTy).Contents (Elt F))⟩, ⟨S256x3x1x16x34, ((broadcastInDim S256x3x1x16x34 ![0, 1, 3, 4] bcast_S256x3x16x34_S256x3x1x16x34_0_1_3_4 (Host.slice S256x3x16x34 ![0, 0, 1, 0] ![1, 1, 2, 1] (res_main_v0 V0) slicesBy_S256x3x34x34_S256x3x16x34_0s1_0s1_1s2_0s1)) : (⟨S256x3x1x16x34, .f32⟩ : BufTy).Contents (Elt F))⟩, ⟨S256x3x1x16x34, ((broadcastInDim S256x3x1x16x34 ![0, 1, 3, 4] bcast_S256x3x16x34_S256x3x1x16x34_0_1_3_4 (Host.slice S256x3x16x34 ![0, 0, 2, 0] ![1, 1, 2, 1] (res_main_v0 V0) slicesBy_S256x3x34x34_S256x3x16x34_0s1_0s1_2s2_0s1)) : (⟨S256x3x1x16x34, .f32⟩ : BufTy).Contents (Elt F))⟩] concatenates_S256x3x1x16x34_S256x3x1x16x34_S256x3x1x16x34_S256x3x3x16x34_d2 : (⟨S256x3x3x16x34, .f32⟩ : BufTy).Contents (Elt F))

set_option maxRecDepth 8192 in
/-- `main_v22`'s composed term of the arguments (named: it is used 3 times). -/
def res_main_v22 (V0 : Valuation τ sig (Elt F)) : (Proc.devRef .tc main_v22 : DevRef τ sig).ty.Contents (Elt F) :=
  pad S256x32x18x18 ![0, 0, 1, 1] ![0, 0, 1, 1] ![0, 0, 0, 0] (maximumf (addf (transpose S256x32x16x16 [1, 0, 2, 3] (Host.dotGeneral dot_S32x3x3x3_S256x3x3x16x3x16_S32x256x16x16_132_142_0_035_n_n none (V0 (Proc.devRef .tc main_arg1)) ((concatenate S256x3x3x16x3x16 4 [⟨S256x3x3x16x1x16, ((broadcastInDim S256x3x3x16x1x16 ![0, 1, 2, 3, 5] bcast_S256x3x3x16x16_S256x3x3x16x1x16_0_1_2_3_5 (Host.slice S256x3x3x16x16 ![0, 0, 0, 0, 0] ![1, 1, 1, 1, 2] (res_main_v7 V0) slicesBy_S256x3x3x16x34_S256x3x3x16x16_0s1_0s1_0s1_0s1_0s2)) : (⟨S256x3x3x16x1x16, .f32⟩ : BufTy).Contents (Elt F))⟩, ⟨S256x3x3x16x1x16, ((broadcastInDim S256x3x3x16x1x16 ![0, 1, 2, 3, 5] bcast_S256x3x3x16x16_S256x3x3x16x1x16_0_1_2_3_5 (Host.slice S256x3x3x16x16 ![0, 0, 0, 0, 1] ![1, 1, 1, 1, 2] (res_main_v7 V0) slicesBy_S256x3x3x16x34_S256x3x3x16x16_0s1_0s1_0s1_0s1_1s2)) : (⟨S256x3x3x16x1x16, .f32⟩ : BufTy).Contents (Elt F))⟩, ⟨S256x3x3x16x1x16, ((broadcastInDim S256x3x3x16x1x16 ![0, 1, 2, 3, 5] bcast_S256x3x3x16x16_S256x3x3x16x1x16_0_1_2_3_5 (Host.slice S256x3x3x16x16 ![0, 0, 0, 0, 2] ![1, 1, 1, 1, 2] (res_main_v7 V0) slicesBy_S256x3x3x16x34_S256x3x3x16x16_0s1_0s1_0s1_0s1_2s2)) : (⟨S256x3x3x16x1x16, .f32⟩ : BufTy).Contents (Elt F))⟩] concatenates_S256x3x3x16x1x16_S256x3x3x16x1x16_S256x3x3x16x1x16_S256x3x3x16x3x16_d4 : (⟨S256x3x3x16x3x16, .f32⟩ : BufTy).Contents (Elt F)))) transposes_S32x256x16x16_S256x32x16x16_1_0_2_3) (broadcastInDim S256x32x16x16 ![0, 1, 2, 3] bcast_S1x32x1x1_S256x32x16x16_0_1_2_3 (broadcastInDim S1x32x1x1 ![1] bcast_S32_S1x32x1x1_1 (V0 (Proc.devRef .tc main_arg2))))) (broadcastInDim S256x32x16x16 ![] bcast_S_S256x32x16x16 (constant S_ .f32 0x00000000#32))) (sitofp .f32 (constantI S_ 32 0#32)) pads_S256x32x16x16_S256x32x18x18_000_000_110_110 h_S_

set_option maxRecDepth 8192 in
/-- `main_v29`'s composed term of the arguments (named: it is used 3 times). -/
def res_main_v29 (V0 : Valuation τ sig (Elt F)) : (Proc.devRef .tc main_v29 : DevRef τ sig).ty.Contents (Elt F) :=
  (concatenate S256x32x3x8x18 2 [⟨S256x32x1x8x18, ((broadcastInDim S256x32x1x8x18 ![0, 1, 3, 4] bcast_S256x32x8x18_S256x32x1x8x18_0_1_3_4 (Host.slice S256x32x8x18 ![0, 0, 0, 0] ![1, 1, 2, 1] (res_main_v22 V0) slicesBy_S256x32x18x18_S256x32x8x18_0s1_0s1_0s2_0s1)) : (⟨S256x32x1x8x18, .f32⟩ : BufTy).Contents (Elt F))⟩, ⟨S256x32x1x8x18, ((broadcastInDim S256x32x1x8x18 ![0, 1, 3, 4] bcast_S256x32x8x18_S256x32x1x8x18_0_1_3_4 (Host.slice S256x32x8x18 ![0, 0, 1, 0] ![1, 1, 2, 1] (res_main_v22 V0) slicesBy_S256x32x18x18_S256x32x8x18_0s1_0s1_1s2_0s1)) : (⟨S256x32x1x8x18, .f32⟩ : BufTy).Contents (Elt F))⟩, ⟨S256x32x1x8x18, ((broadcastInDim S256x32x1x8x18 ![0, 1, 3, 4] bcast_S256x32x8x18_S256x32x1x8x18_0_1_3_4 (Host.slice S256x32x8x18 ![0, 0, 2, 0] ![1, 1, 2, 1] (res_main_v22 V0) slicesBy_S256x32x18x18_S256x32x8x18_0s1_0s1_2s2_0s1)) : (⟨S256x32x1x8x18, .f32⟩ : BufTy).Contents (Elt F))⟩] concatenates_S256x32x1x8x18_S256x32x1x8x18_S256x32x1x8x18_S256x32x3x8x18_d2 : (⟨S256x32x3x8x18, .f32⟩ : BufTy).Contents (Elt F))

set_option maxRecDepth 8192 in
/-- `main_v43`'s composed term of the arguments (named: it is used 2 times). -/
def res_main_v43 (V0 : Valuation τ sig (Elt F)) : (Proc.devRef .tc main_v43 : DevRef τ sig).ty.Contents (Elt F) :=
  shapeCast _ (transpose S256x8x8x64 [0, 3, 2, 1] (addf (transpose S256x64x8x8 [1, 0, 2, 3] (Host.dotGeneral dot_S64x32x3x3_S256x32x3x8x3x8_S64x256x8x8_132_142_0_035_n_n none (V0 (Proc.devRef .tc main_arg3)) ((concatenate S256x32x3x8x3x8 4 [⟨S256x32x3x8x1x8, ((broadcastInDim S256x32x3x8x1x8 ![0, 1, 2, 3, 5] bcast_S256x32x3x8x8_S256x32x3x8x1x8_0_1_2_3_5 (Host.slice S256x32x3x8x8 ![0, 0, 0, 0, 0] ![1, 1, 1, 1, 2] (res_main_v29 V0) slicesBy_S256x32x3x8x18_S256x32x3x8x8_0s1_0s1_0s1_0s1_0s2)) : (⟨S256x32x3x8x1x8, .f32⟩ : BufTy).Contents (Elt F))⟩, ⟨S256x32x3x8x1x8, ((broadcastInDim S256x32x3x8x1x8 ![0, 1, 2, 3, 5] bcast_S256x32x3x8x8_S256x32x3x8x1x8_0_1_2_3_5 (Host.slice S256x32x3x8x8 ![0, 0, 0, 0, 1] ![1, 1, 1, 1, 2] (res_main_v29 V0) slicesBy_S256x32x3x8x18_S256x32x3x8x8_0s1_0s1_0s1_0s1_1s2)) : (⟨S256x32x3x8x1x8, .f32⟩ : BufTy).Contents (Elt F))⟩, ⟨S256x32x3x8x1x8, ((broadcastInDim S256x32x3x8x1x8 ![0, 1, 2, 3, 5] bcast_S256x32x3x8x8_S256x32x3x8x1x8_0_1_2_3_5 (Host.slice S256x32x3x8x8 ![0, 0, 0, 0, 2] ![1, 1, 1, 1, 2] (res_main_v29 V0) slicesBy_S256x32x3x8x18_S256x32x3x8x8_0s1_0s1_0s1_0s1_2s2)) : (⟨S256x32x3x8x1x8, .f32⟩ : BufTy).Contents (Elt F))⟩] concatenates_S256x32x3x8x1x8_S256x32x3x8x1x8_S256x32x3x8x1x8_S256x32x3x8x3x8_d4 : (⟨S256x32x3x8x3x8, .f32⟩ : BufTy).Contents (Elt F)))) transposes_S64x256x8x8_S256x64x8x8_1_0_2_3) (broadcastInDim S256x64x8x8 ![0, 1, 2, 3] bcast_S1x64x1x1_S256x64x8x8_0_1_2_3 (broadcastInDim S1x64x1x1 ![1] bcast_S64_S1x64x1x1_1 (V0 (Proc.devRef .tc main_arg4))))) transposes_S256x64x8x8_S256x8x8x64_0_3_2_1) shapeCasts_S256x8x8x64_S256x64x64

set_option maxRecDepth 8192 in
/-- `main_v48`'s composed term of the arguments (named: it is used 2 times). -/
def res_main_v48 (V0 : Valuation τ sig (Elt F)) : (Proc.devRef .tc main_v48 : DevRef τ sig).ty.Contents (Elt F) :=
  subf (broadcastInDim S256x64x64x64 ![0, 1, 2, 3] bcast_S256x64x1x64_S256x64x64x64_0_1_2_3 (broadcastInDim S256x64x1x64 ![0, 1, 3] bcast_S256x64x64_S256x64x1x64_0_1_3 (res_main_v43 V0))) (broadcastInDim S256x64x64x64 ![0, 1, 2, 3] bcast_S1x1x64x64_S256x64x64x64_0_1_2_3 (broadcastInDim S1x1x64x64 ![2, 3] bcast_S64x64_S1x1x64x64_2_3 (V0 (Proc.devRef .tc main_arg9))))

set_option maxRecDepth 8192 in
/-- `main_v51`'s composed term of the arguments (named: it is used 2 times). -/
def res_main_v51 (V0 : Valuation τ sig (Elt F)) : (Proc.devRef .tc main_v51 : DevRef τ sig).ty.Contents (Elt F) :=
  Host.sqrt (Host.reduceAdd (mulf (res_main_v48 V0) (res_main_v48 V0)) (constant S_ .f32 0x00000000#32) reducesTo_S256x64x64x64_S256x64x64_d3 h_S_)

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S256x64x64 32 2

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0x7F800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v52`'s composed term of the arguments (named: it is used 3 times). -/
def res_main_v52 (V0 : Valuation τ sig (Elt F)) : (Proc.devRef .tc main_v52 : DevRef τ sig).ty.Contents (Elt F) :=
  (fun j => (Host.argReduce reducer_argmin_f32_i32 (res_main_v51 V0) (res_main_call2_v0 V0) (res_main_call2_cst V0) (res_main_call2_c V0) reducesTo_S256x64x64_S256x64_d2 h_S_ j).2)

set_option maxRecDepth 8192 in
/-- `main_v59`'s composed term of the arguments (named: it is used 2 times). -/
def res_main_v59 (V0 : Valuation τ sig (Elt F)) : (Proc.devRef .tc main_v59 : DevRef τ sig).ty.Contents (Elt F) :=
  Host.gather gather_S64x64_S256x64x1_S256x64x64_2_0_n_n_0_2_164 (V0 (Proc.devRef .tc main_arg9)) (broadcastInDim S256x64x1 ![0, 1] bcast_S256x64_S256x64x1_0_1 (select (cmpi .slt (res_main_v52 V0) (broadcastInDim S256x64 ![] bcast_S_S256x64 (constantI S_ 32 0#32))) (addi (res_main_v52 V0) (broadcastInDim S256x64 ![] bcast_S_S256x64 (constantI S_ 32 64#32))) (res_main_v52 V0)))

set_option maxRecDepth 8192 in
/-- `main_v64`'s composed term of the arguments (named: it is used 4 times). -/
def res_main_v64 (V0 : Valuation τ sig (Elt F)) : (Proc.devRef .tc main_v64 : DevRef τ sig).ty.Contents (Elt F) :=
  pad S256x64x19x19 ![0, 0, 2, 2] ![0, 0, 2, 2] ![0, 0, 1, 1] (transpose S256x64x8x8 [0, 3, 2, 1] (shapeCast _ (res_main_v59 V0) shapeCasts_S256x64x64_S256x8x8x64) transposes_S256x8x8x64_S256x64x8x8_0_3_2_1) (constant S_ .f32 0x00000000#32) pads_S256x64x8x8_S256x64x19x19_000_000_221_221 h_S_

set_option maxRecDepth 8192 in
/-- `main_v73`'s composed term of the arguments (named: it is used 4 times). -/
def res_main_v73 (V0 : Valuation τ sig (Elt F)) : (Proc.devRef .tc main_v73 : DevRef τ sig).ty.Contents (Elt F) :=
  (concatenate S256x64x4x16x19 2 [⟨S256x64x1x16x19, ((broadcastInDim S256x64x1x16x19 ![0, 1, 3, 4] bcast_S256x64x16x19_S256x64x1x16x19_0_1_3_4 (extractStridedSlice S256x64x16x19 ![0, 0, 0, 0] (res_main_v64 V0) slices_S256x64x19x19_S256x64x16x19_0_0_0_0)) : (⟨S256x64x1x16x19, .f32⟩ : BufTy).Contents (Elt F))⟩, ⟨S256x64x1x16x19, ((broadcastInDim S256x64x1x16x19 ![0, 1, 3, 4] bcast_S256x64x16x19_S256x64x1x16x19_0_1_3_4 (extractStridedSlice S256x64x16x19 ![0, 0, 1, 0] (res_main_v64 V0) slices_S256x64x19x19_S256x64x16x19_0_0_1_0)) : (⟨S256x64x1x16x19, .f32⟩ : BufTy).Contents (Elt F))⟩, ⟨S256x64x1x16x19, ((broadcastInDim S256x64x1x16x19 ![0, 1, 3, 4] bcast_S256x64x16x19_S256x64x1x16x19_0_1_3_4 (extractStridedSlice S256x64x16x19 ![0, 0, 2, 0] (res_main_v64 V0) slices_S256x64x19x19_S256x64x16x19_0_0_2_0)) : (⟨S256x64x1x16x19, .f32⟩ : BufTy).Contents (Elt F))⟩, ⟨S256x64x1x16x19, ((broadcastInDim S256x64x1x16x19 ![0, 1, 3, 4] bcast_S256x64x16x19_S256x64x1x16x19_0_1_3_4 (extractStridedSlice S256x64x16x19 ![0, 0, 3, 0] (res_main_v64 V0) slices_S256x64x19x19_S256x64x16x19_0_0_3_0)) : (⟨S256x64x1x16x19, .f32⟩ : BufTy).Contents (Elt F))⟩] concatenates_S256x64x1x16x19_S256x64x1x16x19_S256x64x1x16x19_S256x64x1x16x19_S256x64x4x16x19_d2 : (⟨S256x64x4x16x19, .f32⟩ : BufTy).Contents (Elt F))

set_option maxRecDepth 8192 in
/-- `main_v92`'s composed term of the arguments (named: it is used 4 times). -/
def res_main_v92 (V0 : Valuation τ sig (Elt F)) : (Proc.devRef .tc main_v92 : DevRef τ sig).ty.Contents (Elt F) :=
  pad S256x32x35x35 ![0, 0, 2, 2] ![0, 0, 2, 2] ![0, 0, 1, 1] (maximumf (addf (transpose S256x32x16x16 [1, 0, 2, 3] (Host.dotGeneral dot_S32x64x4x4_S256x64x4x16x4x16_S32x256x16x16_132_142_0_035_n_n none (transpose S32x64x4x4 [1, 0, 2, 3] (Host.reverse [2, 3] (V0 (Proc.devRef .tc main_arg5))) transposes_S64x32x4x4_S32x64x4x4_1_0_2_3) ((concatenate S256x64x4x16x4x16 4 [⟨S256x64x4x16x1x16, ((broadcastInDim S256x64x4x16x1x16 ![0, 1, 2, 3, 5] bcast_S256x64x4x16x16_S256x64x4x16x1x16_0_1_2_3_5 (extractStridedSlice S256x64x4x16x16 ![0, 0, 0, 0, 0] (res_main_v73 V0) slices_S256x64x4x16x19_S256x64x4x16x16_0_0_0_0_0)) : (⟨S256x64x4x16x1x16, .f32⟩ : BufTy).Contents (Elt F))⟩, ⟨S256x64x4x16x1x16, ((broadcastInDim S256x64x4x16x1x16 ![0, 1, 2, 3, 5] bcast_S256x64x4x16x16_S256x64x4x16x1x16_0_1_2_3_5 (extractStridedSlice S256x64x4x16x16 ![0, 0, 0, 0, 1] (res_main_v73 V0) slices_S256x64x4x16x19_S256x64x4x16x16_0_0_0_0_1)) : (⟨S256x64x4x16x1x16, .f32⟩ : BufTy).Contents (Elt F))⟩, ⟨S256x64x4x16x1x16, ((broadcastInDim S256x64x4x16x1x16 ![0, 1, 2, 3, 5] bcast_S256x64x4x16x16_S256x64x4x16x1x16_0_1_2_3_5 (extractStridedSlice S256x64x4x16x16 ![0, 0, 0, 0, 2] (res_main_v73 V0) slices_S256x64x4x16x19_S256x64x4x16x16_0_0_0_0_2)) : (⟨S256x64x4x16x1x16, .f32⟩ : BufTy).Contents (Elt F))⟩, ⟨S256x64x4x16x1x16, ((broadcastInDim S256x64x4x16x1x16 ![0, 1, 2, 3, 5] bcast_S256x64x4x16x16_S256x64x4x16x1x16_0_1_2_3_5 (extractStridedSlice S256x64x4x16x16 ![0, 0, 0, 0, 3] (res_main_v73 V0) slices_S256x64x4x16x19_S256x64x4x16x16_0_0_0_0_3)) : (⟨S256x64x4x16x1x16, .f32⟩ : BufTy).Contents (Elt F))⟩] concatenates_S256x64x4x16x1x16_S256x64x4x16x1x16_S256x64x4x16x1x16_S256x64x4x16x1x16_S256x64x4x16x4x16_d4 : (⟨S256x64x4x16x4x16, .f32⟩ : BufTy).Contents (Elt F)))) transposes_S32x256x16x16_S256x32x16x16_1_0_2_3) (broadcastInDim S256x32x16x16 ![0, 1, 2, 3] bcast_S1x32x1x1_S256x32x16x16_0_1_2_3 (broadcastInDim S1x32x1x1 ![1] bcast_S32_S1x32x1x1_1 (V0 (Proc.devRef .tc main_arg6))))) (broadcastInDim S256x32x16x16 ![] bcast_S_S256x32x16x16 (constant S_ .f32 0x00000000#32))) (constant S_ .f32 0x00000000#32) pads_S256x32x16x16_S256x32x35x35_000_000_221_221 h_S_

set_option maxRecDepth 8192 in
/-- `main_v101`'s composed term of the arguments (named: it is used 4 times). -/
def res_main_v101 (V0 : Valuation τ sig (Elt F)) : (Proc.devRef .tc main_v101 : DevRef τ sig).ty.Contents (Elt F) :=
  (concatenate S256x32x4x32x35 2 [⟨S256x32x1x32x35, ((broadcastInDim S256x32x1x32x35 ![0, 1, 3, 4] bcast_S256x32x32x35_S256x32x1x32x35_0_1_3_4 (extractStridedSlice S256x32x32x35 ![0, 0, 0, 0] (res_main_v92 V0) slices_S256x32x35x35_S256x32x32x35_0_0_0_0)) : (⟨S256x32x1x32x35, .f32⟩ : BufTy).Contents (Elt F))⟩, ⟨S256x32x1x32x35, ((broadcastInDim S256x32x1x32x35 ![0, 1, 3, 4] bcast_S256x32x32x35_S256x32x1x32x35_0_1_3_4 (extractStridedSlice S256x32x32x35 ![0, 0, 1, 0] (res_main_v92 V0) slices_S256x32x35x35_S256x32x32x35_0_0_1_0)) : (⟨S256x32x1x32x35, .f32⟩ : BufTy).Contents (Elt F))⟩, ⟨S256x32x1x32x35, ((broadcastInDim S256x32x1x32x35 ![0, 1, 3, 4] bcast_S256x32x32x35_S256x32x1x32x35_0_1_3_4 (extractStridedSlice S256x32x32x35 ![0, 0, 2, 0] (res_main_v92 V0) slices_S256x32x35x35_S256x32x32x35_0_0_2_0)) : (⟨S256x32x1x32x35, .f32⟩ : BufTy).Contents (Elt F))⟩, ⟨S256x32x1x32x35, ((broadcastInDim S256x32x1x32x35 ![0, 1, 3, 4] bcast_S256x32x32x35_S256x32x1x32x35_0_1_3_4 (extractStridedSlice S256x32x32x35 ![0, 0, 3, 0] (res_main_v92 V0) slices_S256x32x35x35_S256x32x32x35_0_0_3_0)) : (⟨S256x32x1x32x35, .f32⟩ : BufTy).Contents (Elt F))⟩] concatenates_S256x32x1x32x35_S256x32x1x32x35_S256x32x1x32x35_S256x32x1x32x35_S256x32x4x32x35_d2 : (⟨S256x32x4x32x35, .f32⟩ : BufTy).Contents (Elt F))

set_option maxRecDepth 8192 in
/-- `main_v116`'s composed term of the arguments (named: it is used 2 times). -/
def res_main_v116 (V0 : Valuation τ sig (Elt F)) : (Proc.devRef .tc main_v116 : DevRef τ sig).ty.Contents (Elt F) :=
  subf (V0 (Proc.devRef .tc main_arg0)) (addf (transpose S256x3x32x32 [1, 0, 2, 3] (Host.dotGeneral dot_S3x32x4x4_S256x32x4x32x4x32_S3x256x32x32_132_142_0_035_n_n none (transpose S3x32x4x4 [1, 0, 2, 3] (Host.reverse [2, 3] (V0 (Proc.devRef .tc main_arg7))) transposes_S32x3x4x4_S3x32x4x4_1_0_2_3) ((concatenate S256x32x4x32x4x32 4 [⟨S256x32x4x32x1x32, ((broadcastInDim S256x32x4x32x1x32 ![0, 1, 2, 3, 5] bcast_S256x32x4x32x32_S256x32x4x32x1x32_0_1_2_3_5 (extractStridedSlice S256x32x4x32x32 ![0, 0, 0, 0, 0] (res_main_v101 V0) slices_S256x32x4x32x35_S256x32x4x32x32_0_0_0_0_0)) : (⟨S256x32x4x32x1x32, .f32⟩ : BufTy).Contents (Elt F))⟩, ⟨S256x32x4x32x1x32, ((broadcastInDim S256x32x4x32x1x32 ![0, 1, 2, 3, 5] bcast_S256x32x4x32x32_S256x32x4x32x1x32_0_1_2_3_5 (extractStridedSlice S256x32x4x32x32 ![0, 0, 0, 0, 1] (res_main_v101 V0) slices_S256x32x4x32x35_S256x32x4x32x32_0_0_0_0_1)) : (⟨S256x32x4x32x1x32, .f32⟩ : BufTy).Contents (Elt F))⟩, ⟨S256x32x4x32x1x32, ((broadcastInDim S256x32x4x32x1x32 ![0, 1, 2, 3, 5] bcast_S256x32x4x32x32_S256x32x4x32x1x32_0_1_2_3_5 (extractStridedSlice S256x32x4x32x32 ![0, 0, 0, 0, 2] (res_main_v101 V0) slices_S256x32x4x32x35_S256x32x4x32x32_0_0_0_0_2)) : (⟨S256x32x4x32x1x32, .f32⟩ : BufTy).Contents (Elt F))⟩, ⟨S256x32x4x32x1x32, ((broadcastInDim S256x32x4x32x1x32 ![0, 1, 2, 3, 5] bcast_S256x32x4x32x32_S256x32x4x32x1x32_0_1_2_3_5 (extractStridedSlice S256x32x4x32x32 ![0, 0, 0, 0, 3] (res_main_v101 V0) slices_S256x32x4x32x35_S256x32x4x32x32_0_0_0_0_3)) : (⟨S256x32x4x32x1x32, .f32⟩ : BufTy).Contents (Elt F))⟩] concatenates_S256x32x4x32x1x32_S256x32x4x32x1x32_S256x32x4x32x1x32_S256x32x4x32x1x32_S256x32x4x32x4x32_d4 : (⟨S256x32x4x32x4x32, .f32⟩ : BufTy).Contents (Elt F)))) transposes_S3x256x32x32_S256x3x32x32_1_0_2_3) (broadcastInDim S256x3x32x32 ![0, 1, 2, 3] bcast_S1x3x1x1_S256x3x32x32_0_1_2_3 (broadcastInDim S1x3x1x1 ![1] bcast_S3_S1x3x1x1_1 (V0 (Proc.devRef .tc main_arg8)))))

set_option maxRecDepth 8192 in
/-- `main_v124`'s composed term of the arguments (named: it is used 2 times). -/
def res_main_v124 (V0 : Valuation τ sig (Elt F)) : (Proc.devRef .tc main_v124 : DevRef τ sig).ty.Contents (Elt F) :=
  subf (res_main_v59 V0) (res_main_v43 V0)

set_option maxRecDepth 8192 in
/-- `main_v130`'s composed term of the arguments (named: it is used 2 times). -/
def res_main_v130 (V0 : Valuation τ sig (Elt F)) : (Proc.devRef .tc main_v130 : DevRef τ sig).ty.Contents (Elt F) :=
  Host.divf (Host.reduceAdd (Host.reduceAdd (Host.sqrt (Host.reduceAdd (mulf (res_main_v124 V0) (res_main_v124 V0)) (constant S_ .f32 0x00000000#32) reducesTo_S256x64x64_S256x64_d2 h_S_)) (constant S_ .f32 0x00000000#32) reducesTo_S256x64_S256_d1 h_S_) (constant S_ .f32 0x00000000#32) reducesTo_S256_S_d0 h_S_) (constant S_ .f32 0x43800000#32)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_c, main_call0_v0, main_v0, main_v1, main_v2, main_v3, main_v4, main_v5, main_v6, main_v7, main_v8, main_v9, main_v10, main_v11, main_v12, main_v13, main_v14, main_v15, main_v16, main_v17, main_v18, main_v19, main_cst, main_v20, main_v21, main_c_0, main_call1_v0, main_v22, main_v23, main_v24]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
theorem val0_1_main_arg8 (V0 : Valuation τ sig (Elt F)) : val0_1 V0 (no_index (Proc.devRef .tc main_arg8)) = V0 (Proc.devRef .tc main_arg8) :=
  (val0_1_keep V0 main_arg8 (by decide)).trans (val0_main_arg8 V0)
theorem val0_1_main_arg9 (V0 : Valuation τ sig (Elt F)) : val0_1 V0 (no_index (Proc.devRef .tc main_arg9)) = V0 (Proc.devRef .tc main_arg9) :=
  (val0_1_keep V0 main_arg9 (by decide)).trans (val0_main_arg9 V0)
set_option maxRecDepth 8192 in
set_option maxHeartbeats 2000000 in
theorem val0_1_main_v22 (V0 : Valuation τ sig (Elt F)) : val0_1 V0 (no_index (Proc.devRef .tc main_v22)) = res_main_v22 V0 := by
  unfold val0_1
  simp only [ops_part0_0, TRef.binary, TRef.unary, TRef.toBuf, TRef.ofBuf, cast_eq]
  after_results_simp
  try dsimp only [Matrix.cons_val]
  try after_results_simp
  try dsimp only [Matrix.cons_val]
  try after_results_simp
  simp only [val0_main_arg2, val0_main_arg0, val0_main_arg1] <;> rfl
set_option maxRecDepth 8192 in
set_option maxHeartbeats 2000000 in
theorem val0_1_main_v23 (V0 : Valuation τ sig (Elt F)) : val0_1 V0 (no_index (Proc.devRef .tc main_v23)) = Host.slice S256x32x8x18 ![0, 0, 0, 0] ![1, 1, 2, 1] (res_main_v22 V0) slicesBy_S256x32x18x18_S256x32x8x18_0s1_0s1_0s2_0s1 := by
  unfold val0_1
  simp only [ops_part0_0, TRef.binary, TRef.unary, TRef.toBuf, TRef.ofBuf, cast_eq]
  after_results_simp
  try dsimp only [Matrix.cons_val]
  try after_results_simp
  try dsimp only [Matrix.cons_val]
  try after_results_simp
  simp only [val0_main_arg2, val0_main_arg0, val0_main_arg1] <;> rfl
set_option maxRecDepth 8192 in
set_option maxHeartbeats 2000000 in
theorem val0_1_main_v24 (V0 : Valuation τ sig (Elt F)) : val0_1 V0 (no_index (Proc.devRef .tc main_v24)) = Host.slice S256x32x8x18 ![0, 0, 1, 0] ![1, 1, 2, 1] (res_main_v22 V0) slicesBy_S256x32x18x18_S256x32x8x18_0s1_0s1_1s2_0s1 := by
  unfold val0_1
  simp only [ops_part0_0, TRef.binary, TRef.unary, TRef.toBuf, TRef.ofBuf, cast_eq]
  after_results_simp
  try dsimp only [Matrix.cons_val]
  try after_results_simp
  try dsimp only [Matrix.cons_val]
  try after_results_simp
  simp only [val0_main_arg2, val0_main_arg0, val0_main_arg1] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_cst_1, main_v50, main_v51, main_call2_v0, main_call2_cst]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_arg8 (V0 : Valuation τ sig (Elt F)) : val0_2 V0 (no_index (Proc.devRef .tc main_arg8)) = V0 (Proc.devRef .tc main_arg8) :=
  (val0_2_keep V0 main_arg8 (by decide)).trans (val0_1_main_arg8 V0)
theorem val0_2_main_arg9 (V0 : Valuation τ sig (Elt F)) : val0_2 V0 (no_index (Proc.devRef .tc main_arg9)) = V0 (Proc.devRef .tc main_arg9) :=
  (val0_2_keep V0 main_arg9 (by decide)).trans (val0_1_main_arg9 V0)
set_option maxRecDepth 8192 in
set_option maxHeartbeats 2000000 in
theorem val0_2_main_v43 (V0 : Valuation τ sig (Elt F)) : val0_2 V0 (no_index (Proc.devRef .tc main_v43)) = res_main_v43 V0 := by
  unfold val0_2
  simp only [ops_part0_1, TRef.nullary, TRef.toBuf, TRef.ofBuf, cast_eq]
  after_results_simp
  try dsimp only [Matrix.cons_val]
  try after_results_simp
  try dsimp only [Matrix.cons_val]
  try after_results_simp
  simp only [val0_1_main_arg4, val0_1_main_v22, val0_1_main_v24, val0_1_main_v23, val0_1_main_arg3] <;> rfl
set_option maxRecDepth 8192 in
set_option maxHeartbeats 2000000 in
theorem val0_2_main_v51 (V0 : Valuation τ sig (Elt F)) : val0_2 V0 (no_index (Proc.devRef .tc main_v51)) = res_main_v51 V0 := by
  unfold val0_2
  simp only [ops_part0_1, TRef.nullary, TRef.toBuf, TRef.ofBuf, cast_eq]
  after_results_simp
  try dsimp only [Matrix.cons_val]
  try after_results_simp
  try dsimp only [Matrix.cons_val]
  try after_results_simp
  simp only [val0_1_main_arg9, val0_1_main_arg4, val0_1_main_v22, val0_1_main_v24, val0_1_main_v23, val0_1_main_arg3] <;> rfl
set_option maxRecDepth 8192 in
set_option maxHeartbeats 2000000 in
theorem val0_2_main_call2_v0 (V0 : Valuation τ sig (Elt F)) : val0_2 V0 (no_index (Proc.devRef .tc main_call2_v0)) = res_main_call2_v0 V0 := by
  unfold val0_2
  simp only [ops_part0_1, TRef.nullary, TRef.toBuf, TRef.ofBuf, cast_eq]
  after_results_simp
  try dsimp only [Matrix.cons_val]
  try after_results_simp
  try dsimp only [Matrix.cons_val]
  try after_results_simp
  all_goals rfl
set_option maxRecDepth 8192 in
set_option maxHeartbeats 2000000 in
theorem val0_2_main_call2_cst (V0 : Valuation τ sig (Elt F)) : val0_2 V0 (no_index (Proc.devRef .tc main_call2_cst)) = res_main_call2_cst V0 := by
  unfold val0_2
  simp only [ops_part0_1, TRef.nullary, TRef.toBuf, TRef.ofBuf, cast_eq]
  after_results_simp
  try dsimp only [Matrix.cons_val]
  try after_results_simp
  try dsimp only [Matrix.cons_val]
  try after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_call2_c, main_call2_v1_0, main_v52, main_c_2, main_v53, main_v54]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_arg6 (V0 : Valuation τ sig (Elt F)) : val1 V0 (no_index (Proc.devRef .tc main_arg6)) = V0 (Proc.devRef .tc main_arg6) :=
  (val1_keep V0 main_arg6 (by decide)).trans (val0_2_main_arg6 V0)
theorem val1_main_arg7 (V0 : Valuation τ sig (Elt F)) : val1 V0 (no_index (Proc.devRef .tc main_arg7)) = V0 (Proc.devRef .tc main_arg7) :=
  (val1_keep V0 main_arg7 (by decide)).trans (val0_2_main_arg7 V0)
theorem val1_main_arg8 (V0 : Valuation τ sig (Elt F)) : val1 V0 (no_index (Proc.devRef .tc main_arg8)) = V0 (Proc.devRef .tc main_arg8) :=
  (val1_keep V0 main_arg8 (by decide)).trans (val0_2_main_arg8 V0)
theorem val1_main_arg9 (V0 : Valuation τ sig (Elt F)) : val1 V0 (no_index (Proc.devRef .tc main_arg9)) = V0 (Proc.devRef .tc main_arg9) :=
  (val1_keep V0 main_arg9 (by decide)).trans (val0_2_main_arg9 V0)
theorem val1_main_v43 (V0 : Valuation τ sig (Elt F)) : val1 V0 (no_index (Proc.devRef .tc main_v43)) = res_main_v43 V0 :=
  (val1_keep V0 main_v43 (by decide)).trans (val0_2_main_v43 V0)
set_option maxRecDepth 8192 in
theorem val1_main_v52 (V0 : Valuation τ sig (Elt F)) : val1 V0 (no_index (Proc.devRef .tc main_v52)) = res_main_v52 V0 := by
  unfold val1
  simp only [ops_part0_2, TRef.nullary, TRef.quaternary, TRef.toBuf, TRef.ofBuf, cast_eq]
  after_results_simp
  simp only [val0_2_main_call2_cst, val0_2_main_call2_v0, val0_2_main_v51] <;> rfl
set_option maxRecDepth 8192 in
theorem val1_main_v54 (V0 : Valuation τ sig (Elt F)) : val1 V0 (no_index (Proc.devRef .tc main_v54)) = cmpi .slt (res_main_v52 V0) (broadcastInDim S256x64 ![] bcast_S_S256x64 (constantI S_ 32 0#32)) := by
  unfold val1
  simp only [ops_part0_2, TRef.nullary, TRef.quaternary, TRef.toBuf, TRef.ofBuf, cast_eq]
  after_results_simp
  simp only [val0_2_main_call2_cst, val0_2_main_call2_v0, val0_2_main_v51] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_c_3, main_v55, main_v56, main_v57, main_v58, main_v59, main_v60, main_v61, main_v62, main_v63, main_cst_4, main_v64, main_v65, main_v66, main_v67, main_v68, main_v69, main_v70, main_v71, main_v72, main_v73, main_v74, main_v75, main_v76, main_v77, main_v78, main_v79, main_v80, main_v81, main_v82, main_v83, main_v84, main_v85, main_v86, main_v87, main_cst_5, main_v88, main_v89, main_v90, main_v91, main_cst_6, main_v92, main_v93, main_v94, main_v95, main_v96, main_v97, main_v98, main_v99, main_v100, main_v101, main_v102, main_v103, main_v104, main_v105, main_v106, main_v107, main_v108, main_v109, main_v110]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_v43 (V0 : Valuation τ sig (Elt F)) : val2 V0 (no_index (Proc.devRef .tc main_v43)) = res_main_v43 V0 :=
  (val2_keep V0 main_v43 (by decide)).trans (val1_main_v43 V0)
set_option maxRecDepth 8192 in
set_option maxHeartbeats 2000000 in
theorem val2_main_v59 (V0 : Valuation τ sig (Elt F)) : val2 V0 (no_index (Proc.devRef .tc main_v59)) = res_main_v59 V0 := by
  unfold val2
  simp only [ops_part1, TRef.unary, TRef.toBuf, TRef.ofBuf, cast_eq]
  after_results_simp
  try dsimp only [Matrix.cons_val]
  try after_results_simp
  try dsimp only [Matrix.cons_val]
  try after_results_simp
  try dsimp only [Matrix.cons_val]
  try after_results_simp
  try dsimp only [Matrix.cons_val]
  try after_results_simp
  simp only [val1_main_v52, val1_main_v54, val1_main_arg9] <;> rfl
set_option maxRecDepth 8192 in
set_option maxHeartbeats 2000000 in
theorem val2_main_v91 (V0 : Valuation τ sig (Elt F)) : val2 V0 (no_index (Proc.devRef .tc main_v91)) = transpose S3x32x4x4 [1, 0, 2, 3] (Host.reverse [2, 3] (V0 (Proc.devRef .tc main_arg7))) transposes_S32x3x4x4_S3x32x4x4_1_0_2_3 := by
  unfold val2
  simp only [ops_part1, TRef.unary, TRef.toBuf, TRef.ofBuf, cast_eq]
  after_results_simp
  try dsimp only [Matrix.cons_val]
  try after_results_simp
  try dsimp only [Matrix.cons_val]
  try after_results_simp
  try dsimp only [Matrix.cons_val]
  try after_results_simp
  try dsimp only [Matrix.cons_val]
  try after_results_simp
  simp only [val1_main_arg7] <;> rfl
set_option maxRecDepth 8192 in
set_option maxHeartbeats 2000000 in
theorem val2_main_v110 (V0 : Valuation τ sig (Elt F)) : val2 V0 (no_index (Proc.devRef .tc main_v110)) = (concatenate S256x32x4x32x4x32 4 [⟨S256x32x4x32x1x32, ((broadcastInDim S256x32x4x32x1x32 ![0, 1, 2, 3, 5] bcast_S256x32x4x32x32_S256x32x4x32x1x32_0_1_2_3_5 (extractStridedSlice S256x32x4x32x32 ![0, 0, 0, 0, 0] (res_main_v101 V0) slices_S256x32x4x32x35_S256x32x4x32x32_0_0_0_0_0)) : (⟨S256x32x4x32x1x32, .f32⟩ : BufTy).Contents (Elt F))⟩, ⟨S256x32x4x32x1x32, ((broadcastInDim S256x32x4x32x1x32 ![0, 1, 2, 3, 5] bcast_S256x32x4x32x32_S256x32x4x32x1x32_0_1_2_3_5 (extractStridedSlice S256x32x4x32x32 ![0, 0, 0, 0, 1] (res_main_v101 V0) slices_S256x32x4x32x35_S256x32x4x32x32_0_0_0_0_1)) : (⟨S256x32x4x32x1x32, .f32⟩ : BufTy).Contents (Elt F))⟩, ⟨S256x32x4x32x1x32, ((broadcastInDim S256x32x4x32x1x32 ![0, 1, 2, 3, 5] bcast_S256x32x4x32x32_S256x32x4x32x1x32_0_1_2_3_5 (extractStridedSlice S256x32x4x32x32 ![0, 0, 0, 0, 2] (res_main_v101 V0) slices_S256x32x4x32x35_S256x32x4x32x32_0_0_0_0_2)) : (⟨S256x32x4x32x1x32, .f32⟩ : BufTy).Contents (Elt F))⟩, ⟨S256x32x4x32x1x32, ((broadcastInDim S256x32x4x32x1x32 ![0, 1, 2, 3, 5] bcast_S256x32x4x32x32_S256x32x4x32x1x32_0_1_2_3_5 (extractStridedSlice S256x32x4x32x32 ![0, 0, 0, 0, 3] (res_main_v101 V0) slices_S256x32x4x32x35_S256x32x4x32x32_0_0_0_0_3)) : (⟨S256x32x4x32x1x32, .f32⟩ : BufTy).Contents (Elt F))⟩] concatenates_S256x32x4x32x1x32_S256x32x4x32x1x32_S256x32x4x32x1x32_S256x32x4x32x1x32_S256x32x4x32x4x32_d4 : (⟨S256x32x4x32x4x32, .f32⟩ : BufTy).Contents (Elt F)) := by
  unfold val2
  simp only [ops_part1, TRef.unary, TRef.toBuf, TRef.ofBuf, cast_eq]
  after_results_simp
  try dsimp only [Matrix.cons_val]
  try after_results_simp
  try dsimp only [Matrix.cons_val]
  try after_results_simp
  try dsimp only [Matrix.cons_val]
  try after_results_simp
  try dsimp only [Matrix.cons_val]
  try after_results_simp
  simp only [val1_main_arg6, val1_main_v52, val1_main_v54, val1_main_arg9, val1_main_arg5] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v111, main_v112, main_v113, main_v114, main_v115, main_v116, main_v117, main_cst_7, main_v118, main_v119, main_v120, main_cst_8, main_v121, main_cst_9, main_v122, main_cst_10, main_v123, main_v124, main_v125, main_cst_11, main_v126, main_v127, main_cst_12, main_v128, main_cst_13, main_v129, main_cst_14, main_v130, main_v131, main_cst_15, main_v132, main_v133, main_v134]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
set_option maxRecDepth 8192 in
set_option maxHeartbeats 2000000 in
theorem val3_main_v134 (V0 : Valuation τ sig (Elt F)) : val3 V0 (no_index (Proc.devRef .tc main_v134)) = shapeCast _ (addf (addf (Host.divf (Host.reduceAdd (Host.reduceAdd (shapeCast _ (mulf (broadcastInDim S256x3x32x32 ![] bcast_S_S256x3x32x32 (constant S_ .f32 0x3F000000#32)) (mulf (res_main_v116 V0) (res_main_v116 V0))) shapeCasts_S256x3x32x32_S256x3072) (constant S_ .f32 0x00000000#32) reducesTo_S256x3072_S256_d1 h_S_) (constant S_ .f32 0x00000000#32) reducesTo_S256_S_d0 h_S_) (constant S_ .f32 0x43800000#32)) (res_main_v130 V0)) (mulf (constant S_ .f32 0x3DCCCCCD#32) (res_main_v130 V0))) shapeCasts_S_S1x1 := by
  unfold val3
  simp only [ops_part2]
  after_results_simp
  simp only [val2_main_v43, val2_main_v59, val2_main_arg8, val2_main_v110, val2_main_v91, val2_main_arg0] <;> rfl

theorem after_ops (V0 : Valuation τ sig (Elt F)) : after ops V0 = val3 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v134) = shapeCast _ (addf (addf (Host.divf (Host.reduceAdd (Host.reduceAdd (shapeCast _ (mulf (broadcastInDim S256x3x32x32 ![] bcast_S_S256x3x32x32 (constant S_ .f32 0x3F000000#32)) (mulf (res_main_v116 (launchContents m c)) (res_main_v116 (launchContents m c)))) shapeCasts_S256x3x32x32_S256x3072) (constant S_ .f32 0x00000000#32) reducesTo_S256x3072_S256_d1 h_S_) (constant S_ .f32 0x00000000#32) reducesTo_S256_S_d0 h_S_) (constant S_ .f32 0x43800000#32)) (res_main_v130 (launchContents m c))) (mulf (constant S_ .f32 0x3DCCCCCD#32) (res_main_v130 (launchContents m c)))) shapeCasts_S_S1x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v134).trans ((congrFun (after_ops (launchContents m c)) (Proc.devRef .tc main_v134)).trans (val3_main_v134 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c))),
      (h c main_arg4).trans ((congrFun (after_ops (launchContents m c)) (Proc.devRef .tc main_arg4)).trans (val3_main_arg4 (launchContents m c))),
      (h c main_arg5).trans ((congrFun (after_ops (launchContents m c)) (Proc.devRef .tc main_arg5)).trans (val3_main_arg5 (launchContents m c))),
      (h c main_arg6).trans ((congrFun (after_ops (launchContents m c)) (Proc.devRef .tc main_arg6)).trans (val3_main_arg6 (launchContents m c))),
      (h c main_arg7).trans ((congrFun (after_ops (launchContents m c)) (Proc.devRef .tc main_arg7)).trans (val3_main_arg7 (launchContents m c))),
      (h c main_arg8).trans ((congrFun (after_ops (launchContents m c)) (Proc.devRef .tc main_arg8)).trans (val3_main_arg8 (launchContents m c))),
      (h c main_arg9).trans ((congrFun (after_ops (launchContents m c)) (Proc.devRef .tc main_arg9)).trans (val3_main_arg9 (launchContents m c)))⟩)
    (run_seq scopedRefs_eq scopedSems_eq defs main (fun _ => ops) main_eq (fun _ => ops_sub) m ρ fun _ => ops_fresh)

end Cert.ReferenceIdeal.Value

end
-- ==== Proof.REnc.lean ====
/-
  The reference's encoder: its arrays, entry by entry, are the images' encodings.
-/
module

public import proofs.«01_k».proof.Proof.RConv
public import proofs.«01_k».proof.Proof.RefRun

@[expose] public section

noncomputable section

namespace Cert.Vq

open Idealize.ShloMosaic
open Idealize.ShloMosaic.ValueIdx Idealize.ShloMosaic.TcCoe Idealize.ShloMosaic.StableHlo
open Cert.ReferenceIdeal Cert.ReferenceIdeal.Gen Cert.ReferenceIdeal.Value

variable (V0 : Valuation τ sig (Elt Ideal))

/-- The network that the reference's arguments hold. -/
def netR : Net := netOf (V0 (Proc.devRef .tc main_arg1)) (V0 (Proc.devRef .tc main_arg2)) (V0 (Proc.devRef .tc main_arg3)) (V0 (Proc.devRef .tc main_arg4))
  (V0 (Proc.devRef .tc main_arg5)) (V0 (Proc.devRef .tc main_arg6)) (V0 (Proc.devRef .tc main_arg7)) (V0 (Proc.devRef .tc main_arg8)) (V0 (Proc.devRef .tc main_arg9))

/-- The images that they hold. -/
def imgR (b : Fin 256) : Img := imgOf (V0 (Proc.devRef .tc main_arg0)) b

theorem int_zero (i : S_.Idx) : (sitofp (F := Ideal) .f32 (constantI S_ 32 0#32) i : EReal) = 0 := by
  show (((0#32 : BitVec 32).toInt : ℝ) : EReal) = 0
  simp

theorem lit_zero : (Ideal.ofBits .f32 0x00000000#32 : EReal) = 0 := by simp [Ideal.ofBits, Ideal.ieee]

theorem const_zero (i : S_.Idx) : (constant (F := Ideal) S_ .f32 0x00000000#32 i : EReal) = 0 := lit_zero

/-- The bordered images. -/
theorem v0_apply (b : Fin 256) (c : Fin 3) (y x : Fin 34) : (res_main_v0 V0 (ix4 b c y x) : EReal) = pad (imgR V0 b) c y.val x.val :=
  border_apply4 (B := 256) (C := 3) (H := 32) (P := 34) pads_S256x3x32x32_S256x3x34x34_000_000_110_110 (V0 (Proc.devRef .tc main_arg0)) _ int_zero h_S_ b c y x

/-- The rectified first layer. -/
def hidR : A32 S256x32x16x16 :=
  maximumf (layer (O := 32) (C := 3) (B := 256) (K := 3) (H := 16) dot_S32x3x3x3_S256x3x3x16x3x16_S32x256x16x16_132_142_0_035_n_n_wf
    transposes_S32x256x16x16_S256x32x16x16_1_0_2_3 bcast_S32_S1x32x1x1_1 bcast_S1x32x1x1_S256x32x16x16_0_1_2_3 (V0 (Proc.devRef .tc main_arg1)) (V0 (Proc.devRef .tc main_arg2))
    (colsS (P := 34) 3 (fun k => by revert k; decide) bcast_S256x3x3x16x16_S256x3x3x16x1x16_0_1_2_3_5
      concatenates_S256x3x3x16x1x16_S256x3x3x16x1x16_S256x3x3x16x1x16_S256x3x3x16x3x16_d4
      (rowsS (P := 34) (fun k => by revert k; decide) bcast_S256x3x16x34_S256x3x1x16x34_0_1_3_4
        concatenates_S256x3x1x16x34_S256x3x1x16x34_S256x3x1x16x34_S256x3x3x16x34_d2 (res_main_v0 V0))))
    (broadcastInDim S256x32x16x16 ![] bcast_S_S256x32x16x16 (constant S_ .f32 0x00000000#32))

theorem v22_eq : res_main_v22 V0 = Idealize.ShloMosaic.pad S256x32x18x18 ![0, 0, 1, 1] ![0, 0, 1, 1] ![0, 0, 0, 0] (hidR V0)
    (sitofp (F := Ideal) .f32 (constantI S_ 32 0#32)) pads_S256x32x16x16_S256x32x18x18_000_000_110_110 h_S_ := rfl

theorem hidR_apply (b : Fin 256) (o : Fin 32) (y x : Fin 16) : (hidR V0 (ix4 b o y x) : EReal) = (netR V0).hid (imgR V0 b) o y x := by
  unfold hidR
  rw [maximumf_apply]
  refine congr (congrArg (fun u v : EReal => max u v) ?_) (const_zero _)
  refine layer_conv (P := 32) _ _ _ _ _ _ _ (imgR V0) (fun b c ky y kx x => ?_) b o y x
  refine colsS_apply 3 _ _ _ _ (fun b c ky y X => pad (imgR V0 b) c (2 * y.val + ky.val) X) (fun b c ky y r => ?_) b c ky y kx x
  exact rowsS_apply _ _ _ _ (fun b c Y r => pad (imgR V0 b) c Y r.val) (fun b c r x => v0_apply V0 b c r x) b c ky y r

/-- The bordered first layer. -/
theorem v22_apply (b : Fin 256) (c : Fin 32) (y x : Fin 18) : (res_main_v22 V0 (ix4 b c y x) : EReal) = pad ((netR V0).hid (imgR V0 b)) c y.val x.val := by
  rw [v22_eq]
  refine (border_apply4 (B := 256) (C := 32) (H := 16) (P := 18) pads_S256x32x16x16_S256x32x18x18_000_000_110_110 (hidR V0) _ int_zero h_S_ b c y x).trans ?_
  exact congrArg (fun f => pad f c y.val x.val) (funext fun c => funext fun y => funext fun x => hidR_apply V0 b c y x)

/-- The second layer. -/
def encR : A32 S256x64x8x8 :=
  layer (O := 64) (C := 32) (B := 256) (K := 3) (H := 8) dot_S64x32x3x3_S256x32x3x8x3x8_S64x256x8x8_132_142_0_035_n_n_wf
    transposes_S64x256x8x8_S256x64x8x8_1_0_2_3 bcast_S64_S1x64x1x1_1 bcast_S1x64x1x1_S256x64x8x8_0_1_2_3 (V0 (Proc.devRef .tc main_arg3)) (V0 (Proc.devRef .tc main_arg4))
    (colsS (P := 18) 3 (fun k => by revert k; decide) bcast_S256x32x3x8x8_S256x32x3x8x1x8_0_1_2_3_5
      concatenates_S256x32x3x8x1x8_S256x32x3x8x1x8_S256x32x3x8x1x8_S256x32x3x8x3x8_d4
      (rowsS (P := 18) (fun k => by revert k; decide) bcast_S256x32x8x18_S256x32x1x8x18_0_1_3_4
        concatenates_S256x32x1x8x18_S256x32x1x8x18_S256x32x1x8x18_S256x32x3x8x18_d2 (res_main_v22 V0)))

theorem encR_apply (b : Fin 256) (o : Fin 64) (y x : Fin 8) : (encR V0 (ix4 b o y x) : EReal) = (netR V0).enc (imgR V0 b) o y x := by
  unfold encR
  refine layer_conv (P := 16) _ _ _ _ _ _ _ (fun b => (netR V0).hid (imgR V0 b)) (fun b c ky y kx x => ?_) b o y x
  refine colsS_apply 3 _ _ _ _ (fun b c ky y X => pad ((netR V0).hid (imgR V0 b)) c (2 * y.val + ky.val) X) (fun b c ky y r => ?_) b c ky y kx x
  exact rowsS_apply _ _ _ _ (fun b c Y r => pad ((netR V0).hid (imgR V0 b)) c Y r.val) (fun b c r x => v22_apply V0 b c r x) b c ky y r

theorem v43_eq : res_main_v43 V0 = shapeCast S256x64x64 (transpose S256x8x8x64 [0, 3, 2, 1] (encR V0) transposes_S256x64x8x8_S256x8x8x64_0_3_2_1)
    shapeCasts_S256x8x8x64_S256x64x64 := rfl

/-- A position's place in the flattened encoding: columns first. -/
def place (y x : Fin 8) : Fin 64 := ⟨8 * x.val + y.val, by omega⟩

/-- The encoding, flattened. -/
theorem v43_apply (b : Fin 256) (y x : Fin 8) (d : Fin 64) : (res_main_v43 V0 (ix3 b (place y x) d) : EReal) = (netR V0).enc (imgR V0 b) d y x := by
  rw [v43_eq]
  refine (shapeCast_apply (s := S256x8x8x64) (t := S256x64x64) _ _ _ (ix4 b x y d) ?_).trans ?_
  · rw [Shape.rowMajor_val_four, Shape.rowMajor_val_three]
    show _ = (b.val * 64 + (8 * x.val + y.val)) * 64 + d.val
    show ((b.val * 8 + x.val) * 8 + y.val) * 64 + d.val = _
    ring
  · refine (transpose_apply (s := S256x64x8x8) (t := S256x8x8x64) _ _ _ _ (ix4 b d y x) fun a => ?_).trans (encR_apply V0 b d y x)
    match a with
    | 0 => rfl
    | 1 => rfl
    | 2 => rfl
    | 3 => rfl

end Cert.Vq

end
-- ==== Proof.RTok.lean ====
/-
  The reference's quantiser: the distances, the nearest code's number, and the code.
-/
module

public import proofs.«01_k».proof.Proof.REnc
public import Idealize.ShloMosaic.Lib.Pointwise.Reduce

@[expose] public section

noncomputable section

namespace Cert.Vq

open Idealize.ShloMosaic hiding ix0 ix1 ix2 ix3 ix4 ix5
open Idealize.ShloMosaic.ValueIdx Idealize.ShloMosaic.TcCoe Idealize.ShloMosaic.StableHlo
open Cert.ReferenceIdeal Cert.ReferenceIdeal.Gen Cert.ReferenceIdeal.Value

/-! ## The first least of a list of numbered values -/

/-- A value with its number comes before another: less, or equal with a smaller or equal number. -/
def Before (a b : EReal × BitVec 32) : Prop := a.1 < b.1 ∨ (a.1 = b.1 ∧ a.2.toInt ≤ b.2.toInt)

theorem Before.refl (a : EReal × BitVec 32) : Before a a := Or.inr ⟨rfl, le_refl _⟩

theorem Before.trans {a b c : EReal × BitVec 32} (h : Before a b) (h' : Before b c) : Before a c := by
  rcases h with h | ⟨h, h2⟩ <;> rcases h' with h' | ⟨h', h2'⟩
  · exact Or.inl (h.trans h')
  · exact Or.inl (h'.symm ▸ h)
  · exact Or.inl (h.symm ▸ h')
  · exact Or.inr ⟨h.trans h', h2.trans h2'⟩

/-- The reducer keeps one of its two arguments, one that comes before both. -/
theorem reducer_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨a1, a2⟩ := a
  obtain ⟨b1, b2⟩ := b
  have key : reducer_argmin_f32_i32 (F := Ideal) (a1, a2) (b1, b2)
      = if a1 < b1 ∨ (a1 = b1 ∧ a2.toInt < b2.toInt) then (a1, a2) else (b1, b2) := by
    rcases lt_trichotomy a1 b1 with h | h | h
    · simp [reducer_argmin_f32_i32, Ideal.cmpf_def, Ideal.cmp, h, h.ne, Scalar.select, IntOp.ori, IntOp.andi, IntOp.cmpi]
    · subst h
      by_cases h2 : a2.toInt < b2.toInt <;>
        simp [reducer_argmin_f32_i32, Ideal.cmpf_def, Ideal.cmp, h2, Scalar.select, IntOp.ori, IntOp.andi, IntOp.cmpi, BitVec.slt]
    · simp [reducer_argmin_f32_i32, Ideal.cmpf_def, Ideal.cmp, h, h.ne', not_lt.2 h.le, Scalar.select, IntOp.ori, IntOp.andi, IntOp.cmpi]
  rw [key]
  split
  · rename_i h
    refine ⟨Or.inl rfl, Before.refl _, ?_⟩
    rcases h with h | ⟨h, h2⟩
    · exact Or.inl h
    · exact Or.inr ⟨h, h2.le⟩
  · rename_i h
    refine ⟨Or.inr rfl, ?_, Before.refl _⟩
    rw [not_or, not_lt] at h
    rcases lt_or_eq_of_le h.1 with h1 | h1
    · exact Or.inl h1
    · exact Or.inr ⟨h1, not_lt.1 fun h2 => h.2 ⟨h1.symm, h2⟩⟩

/-- So a fold of it keeps its start or an element of the list, one that comes before them all. -/
theorem fold_spec (L : List (EReal × BitVec 32)) : ∀ r0 : EReal × BitVec 32,
    (L.foldl (reducer_argmin_f32_i32 (F := Ideal)) r0 = r0 ∨ L.foldl (reducer_argmin_f32_i32 (F := Ideal)) r0 ∈ L)
      ∧ Before (L.foldl (reducer_argmin_f32_i32 (F := Ideal)) r0) r0 ∧ ∀ p ∈ L, Before (L.foldl (reducer_argmin_f32_i32 (F := Ideal)) r0) p := by
  induction L with
  | nil => exact fun r0 => ⟨Or.inl rfl, Before.refl _, fun p hp => absurd hp (List.not_mem_nil)⟩
  | cons q L ih =>
    intro r0
    obtain ⟨h1, h2, h3⟩ := ih (reducer_argmin_f32_i32 (F := Ideal) r0 q)
    obtain ⟨s1, s2, s3⟩ := reducer_spec r0 q
    rw [List.foldl_cons]
    refine ⟨?_, h2.trans s2, fun p hp => ?_⟩
    · rcases h1 with h1 | h1
      · rw [h1]
        rcases s1 with s1 | s1
        · exact Or.inl s1
        · exact Or.inr (by rw [s1]; exact List.mem_cons_self)
      · exact Or.inr (List.mem_cons_of_mem _ h1)
    · rcases List.mem_cons.1 hp with rfl | hp
      · exact h2.trans s3
      · exact h3 p hp

theorem toInt_ofNat (k : Fin 64) : (BitVec.ofNat 32 k.val).toInt = k.val := by
  have := k.isLt
  rw [BitVec.toInt_eq_toNat_of_lt (by rw [BitVec.toNat_ofNat]; omega), BitVec.toNat_ofNat]
  omega

/-- Folded from infinity over the values numbered by their places, it ends with the number of the first least. -/
theorem fold_firstMin (f : Fin 64 → EReal) (L : List (EReal × BitVec 32)) (hL : ∀ p, p ∈ L ↔ ∃ k : Fin 64, p = (f k, BitVec.ofNat 32 k.val)) :
    (L.foldl (reducer_argmin_f32_i32 (F := Ideal)) (⊤, 0#32)).2 = BitVec.ofNat 32 (firstMin f).val := by
  obtain ⟨h1, h2, h3⟩ := fold_spec L (⊤, 0#32)
  obtain ⟨k, hk⟩ : ∃ k : Fin 64, L.foldl (reducer_argmin_f32_i32 (F := Ideal)) (⊤, 0#32) = (f k, BitVec.ofNat 32 k.val) := by
    rcases h1 with h1 | h1
    · refine ⟨0, ?_⟩
      have h4 := h3 _ ((hL _).2 ⟨0, rfl⟩)
      rw [h1] at h4 ⊢
      rcases h4 with h4 | ⟨h4, _⟩
      · exact absurd h4 (not_lt.2 le_top)
      · exact Prod.ext h4 rfl
    · exact (hL _).1 h1
  have h3' : ∀ j : Fin 64, Before (f k, BitVec.ofNat 32 k.val) (f j, BitVec.ofNat 32 j.val) := fun j => hk ▸ h3 _ ((hL _).2 ⟨j, rfl⟩)
  rw [hk]
  refine congrArg (fun j : Fin 64 => BitVec.ofNat 32 j.val) (firstMin_eq f k (fun j => ?_) fun j hj => ?_).symm
  · rcases h3' j with h | ⟨h, _⟩
    · exact h.le
    · exact h.le
  · rcases h3' j with h | ⟨_, h⟩
    · exact h
    · simp only [toInt_ofNat] at h
      exact absurd (show k.val ≤ j.val by exact_mod_cast h) (not_le.2 hj)

variable (V0 : Valuation τ sig (Elt Ideal))

/-! ## The distances -/

theorem v48_apply (b : Fin 256) (y x : Fin 8) (k d : Fin 64) :
    (res_main_v48 V0 (ix4 b (place y x) k d) : EReal) = (netR V0).enc (imgR V0 b) d y x - (netR V0).code k d := by
  unfold res_main_v48
  rw [subf_apply]
  refine congr (congrArg (fun u v : EReal => u - v) ?_) ?_
  · refine (broadcastInDim_apply (s := S256x64x1x64) (t := S256x64x64x64) _ _ _ _ (ix4 b (place y x) 0 d) fun a => ?_).trans ?_
    · match a with
      | 0 => rfl
      | 1 => rfl
      | 2 => rfl
      | 3 => rfl
    · refine (broadcastInDim_apply (s := S256x64x64) (t := S256x64x1x64) _ _ _ _ (ix3 b (place y x) d) fun a => ?_).trans (v43_apply V0 b y x d)
      match a with
      | 0 => rfl
      | 1 => rfl
      | 2 => rfl
  · refine (broadcastInDim_apply (s := S1x1x64x64) (t := S256x64x64x64) _ _ _ _ (ix4 0 0 k d) fun a => ?_).trans ?_
    · match a with
      | 0 => rfl
      | 1 => rfl
      | 2 => rfl
      | 3 => rfl
    · refine (broadcastInDim_apply (s := S64x64) (t := S1x1x64x64) _ _ _ _ (ix2 k d) fun a => ?_).trans rfl
      match a with
      | 0 => rfl
      | 1 => rfl

theorem v51_apply (b : Fin 256) (y x : Fin 8) (k : Fin 64) :
    (res_main_v51 V0 (ix3 b (place y x) k) : EReal) = (netR V0).dist (imgR V0 b) y x k := by
  unfold res_main_v51
  refine congrArg Ideal.sqrt (?_ : (Host.reduceAdd (F := Ideal) (φ := .f32) (mulf (res_main_v48 V0) (res_main_v48 V0))
    (constant S_ .f32 0x00000000#32) reducesTo_S256x64x64x64_S256x64x64_d3 h_S_ (ix3 b (place y x) k) : EReal)
      = (netR V0).dist2 (imgR V0 b) y x k)
  rw [Host.reduceAdd_apply, Ideal.hostReduceAdd_def]
  refine (Ideal.hostReduceAdd_r4_a3 _ _ _ _).trans ?_
  rw [const_zero, zero_add]
  refine Finset.sum_congr rfl fun d _ => ?_
  exact congrArg (fun z : EReal => z * z) (v48_apply V0 b y x k d)

/-! ## The nearest code's number -/

theorem inf_word : (Ideal.ofBits .f32 0x7F800000#32 : EReal) = ⊤ := by
  simp [Ideal.ofBits, Ideal.ieee]

theorem v52_apply (b : Fin 256) (y x : Fin 8) : res_main_v52 V0 (ix2 b (place y x)) = BitVec.ofNat 32 ((netR V0).tok (imgR V0 b) y x).val := by
  unfold res_main_v52
  rw [Ideal.argReduce_eq_reduce2, Host.reduce2_eq_foldl_fiber]
  show ((Host.argReduceFiber _ _ _ _).foldl _ (Ideal.ofBits .f32 0x7F800000#32, 0#32)).2 = _
  rw [inf_word]
  refine fold_firstMin ((netR V0).dist (imgR V0 b) y x) _ fun p => ?_
  unfold Host.argReduceFiber
  simp only [List.mem_map, List.mem_filter, List.mem_finRange, true_and, decide_eq_true_eq]
  constructor
  · rintro ⟨n, hn, rfl⟩
    obtain ⟨k, hk⟩ := (Shape.ReducesTo.fiber_r3_a2 reducesTo_S256x64x64_S256x64_d2 _ _).1 hn
    refine ⟨k, ?_⟩
    rw [← hk]
    exact Prod.ext (v51_apply V0 b y x k) rfl
  · rintro ⟨k, rfl⟩
    have e := Equiv.symm_apply_apply S256x64x64.rowMajor (ix3 b (place y x) k)
    refine ⟨S256x64x64.rowMajor (ix3 b (place y x) k), ?_, ?_⟩
    · refine (congrArg (fun i : S256x64x64.Idx => reducesTo_S256x64x64_S256x64_d2.drop i) e).trans ?_
      exact (Shape.ReducesTo.fiber_r3_a2 reducesTo_S256x64x64_S256x64_d2 _ _).2 ⟨k, rfl⟩
    · refine (congrArg (fun i : S256x64x64.Idx => ((res_main_v51 V0 i : EReal), BitVec.ofNat 32 (i 2).val)) e).trans ?_
      exact Prod.ext (v51_apply V0 b y x k) rfl

/-! ## The code -/

/-- The gather reads the table's row that the start index numbers. -/
theorem take_apply (T : A32 S64x64) (idx : IVec S256x64x1 32) (b : Fin 256) (t k : Fin 64) (r : Fin 64) (hr : idx (ix3 b t 0) = BitVec.ofNat 32 r.val) :
    Host.gather gather_S64x64_S256x64x1_S256x64x64_2_0_n_n_0_2_164 T idx (ix3 b t k) = T (ix2 r k) := by
  unfold Host.gather
  refine congrArg T (funext fun a => Fin.ext ?_)
  show (gather_S64x64_S256x64x1_S256x64x64_2_0_n_n_0_2_164).start (ix3 b t k) idx a
    + (gather_S64x64_S256x64x1_S256x64x64_2_0_n_n_0_2_164).batchCoord (ix3 b t k) a
    + (gather_S64x64_S256x64x1_S256x64x64_2_0_n_n_0_2_164).offCoord (ix3 b t k) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ (gather_S64x64_S256x64x1_S256x64x64_2_0_n_n_0_2_164).startIndexMap from List.mem_singleton.mpr rfl)]
    have hsi : (gather_S64x64_S256x64x1_S256x64x64_2_0_n_n_0_2_164).siIdx (ix3 b t k)
        ⟨List.idxOf (0 : Fin 2) (gather_S64x64_S256x64x1_S256x64x64_2_0_n_n_0_2_164).startIndexMap, List.idxOf_lt_length_iff.2 (List.mem_singleton.mpr rfl)⟩
        = ix3 b t 0 := by
      funext z
      match z with
      | 0 => rfl
      | 1 => rfl
      | 2 => rfl
    rw [hsi, hr, toInt_ofNat]
    show min ((r.val : ℤ)).toNat 63 + 0 + 0 = r.val
    have := r.isLt
    omega
  | 1 =>
    rw [show (gather_S64x64_S256x64x1_S256x64x64_2_0_n_n_0_2_164).start (ix3 b t k) idx 1 = 0 from rfl]
    show 0 + 0 + k.val = k.val
    omega

/-- A number that is not negative is its own index. -/
theorem wrap_apply (b : Fin 256) (t : Fin 64) (T : IVec S256x64 32) (r : Fin 64) (h : T (ix2 b t) = BitVec.ofNat 32 r.val) :
    broadcastInDim S256x64x1 ![0, 1] bcast_S256x64_S256x64x1_0_1 (select (cmpi .slt T (broadcastInDim S256x64 ![] bcast_S_S256x64 (constantI S_ 32 0#32)))
      (addi T (broadcastInDim S256x64 ![] bcast_S_S256x64 (constantI S_ 32 64#32))) T) (ix3 b t 0) = BitVec.ofNat 32 r.val := by
  refine (broadcastInDim_apply (s := S256x64) (t := S256x64x1) _ _ _ _ (ix2 b t) fun a => ?_).trans ?_
  · match a with
    | 0 => rfl
    | 1 => rfl
  · show Scalar.select (IntOp.cmpi .slt (T (ix2 b t)) 0#32) _ (T (ix2 b t)) = _
    rw [h]
    have hs : IntOp.cmpi .slt (BitVec.ofNat 32 r.val) 0#32 = 0#1 := by
      clear h
      revert r
      decide
    rw [hs]
    rfl

/-- The quantised encoding, flattened. -/
theorem v59_apply (b : Fin 256) (y x : Fin 8) (d : Fin 64) :
    (res_main_v59 V0 (ix3 b (place y x) d) : EReal) = (netR V0).quant (imgR V0 b) d y x := by
  unfold res_main_v59
  exact take_apply _ _ b (place y x) d _ (wrap_apply b (place y x) _ _ (v52_apply V0 b y x))

end Cert.Vq

end
-- ==== Proof.RDec.lean ====
/-
  The reference's decoder: its arrays, entry by entry, are the images' decodings.
-/
module

public import proofs.«01_k».proof.Proof.RTok

@[expose] public section

noncomputable section

namespace Cert.Vq

open Idealize.ShloMosaic hiding ix0 ix1 ix2 ix3 ix4 ix5
open Idealize.ShloMosaic.ValueIdx Idealize.ShloMosaic.TcCoe Idealize.ShloMosaic.StableHlo
open Cert.ReferenceIdeal Cert.ReferenceIdeal.Gen Cert.ReferenceIdeal.Value

variable (V0 : Valuation τ sig (Elt Ideal))

/-- The quantised encoding, as images. -/
def quantR : A32 S256x64x8x8 :=
  transpose S256x64x8x8 [0, 3, 2, 1] (shapeCast S256x8x8x64 (res_main_v59 V0) shapeCasts_S256x64x64_S256x8x8x64) transposes_S256x8x8x64_S256x64x8x8_0_3_2_1

theorem quantR_apply (b : Fin 256) (d : Fin 64) (y x : Fin 8) : (quantR V0 (ix4 b d y x) : EReal) = (netR V0).quant (imgR V0 b) d y x := by
  unfold quantR
  refine (transpose_apply (s := S256x8x8x64) (t := S256x64x8x8) _ _ _ _ (ix4 b x y d) fun a => ?_).trans ?_
  · match a with
    | 0 => rfl
    | 1 => rfl
    | 2 => rfl
    | 3 => rfl
  · refine (shapeCast_apply (s := S256x64x64) (t := S256x8x8x64) _ _ _ (ix3 b (place y x) d) ?_).trans (v59_apply V0 b y x d)
    rw [Shape.rowMajor_val_four, Shape.rowMajor_val_three]
    show (b.val * 64 + (8 * x.val + y.val)) * 64 + d.val = ((b.val * 8 + x.val) * 8 + y.val) * 64 + d.val
    ring

theorem v64_eq : res_main_v64 V0 = Idealize.ShloMosaic.pad S256x64x19x19 ![0, 0, 2, 2] ![0, 0, 2, 2] ![0, 0, 1, 1] (quantR V0)
    (constant (F := Ideal) S_ .f32 0x00000000#32) pads_S256x64x8x8_S256x64x19x19_000_000_221_221 h_S_ := rfl

/-- The quantised encoding, spread. -/
theorem v64_apply (b : Fin 256) (c : Fin 64) (y x : Fin 19) : (res_main_v64 V0 (ix4 b c y x) : EReal) = dil ((netR V0).quant (imgR V0 b)) c y.val x.val := by
  rw [v64_eq]
  refine (spread_apply (B := 256) (C := 64) (H := 8) (P := 19) pads_S256x64x8x8_S256x64x19x19_000_000_221_221 (quantR V0) _ const_zero h_S_ b c y x).trans ?_
  exact congrArg (fun f => dil f c y.val x.val) (funext fun c => funext fun y => funext fun x => quantR_apply V0 b c y x)

theorem v73_eq : res_main_v73 V0 = rowsT (P := 19) (fun k => by revert k; decide) bcast_S256x64x16x19_S256x64x1x16x19_0_1_3_4
    concatenates_S256x64x1x16x19_S256x64x1x16x19_S256x64x1x16x19_S256x64x1x16x19_S256x64x4x16x19_d2 (res_main_v64 V0) := rfl

/-- The rectified first layer of the decoder. -/
def dec1R : A32 S256x32x16x16 :=
  maximumf (layer (O := 32) (C := 64) (B := 256) (K := 4) (H := 16) dot_S32x64x4x4_S256x64x4x16x4x16_S32x256x16x16_132_142_0_035_n_n_wf
    transposes_S32x256x16x16_S256x32x16x16_1_0_2_3 bcast_S32_S1x32x1x1_1 bcast_S1x32x1x1_S256x32x16x16_0_1_2_3
    (transpose S32x64x4x4 [1, 0, 2, 3] (Host.reverse [2, 3] (V0 (Proc.devRef .tc main_arg5))) transposes_S64x32x4x4_S32x64x4x4_1_0_2_3) (V0 (Proc.devRef .tc main_arg6))
    (colsT (P := 19) 4 (fun k => by revert k; decide) bcast_S256x64x4x16x16_S256x64x4x16x1x16_0_1_2_3_5
      concatenates_S256x64x4x16x1x16_S256x64x4x16x1x16_S256x64x4x16x1x16_S256x64x4x16x1x16_S256x64x4x16x4x16_d4 (res_main_v73 V0)))
    (broadcastInDim S256x32x16x16 ![] bcast_S_S256x32x16x16 (constant S_ .f32 0x00000000#32))

theorem dec1R_apply (b : Fin 256) (o : Fin 32) (y x : Fin 16) : (dec1R V0 (ix4 b o y x) : EReal) = (netR V0).dec1 (imgR V0 b) o y x := by
  unfold dec1R
  rw [maximumf_apply]
  refine congr (congrArg (fun u v : EReal => max u v) ?_) (const_zero _)
  refine layer_convT (P := 8) _ _ _ _ _ _ _ _ (fun b => (netR V0).quant (imgR V0 b)) (fun b c ky y kx x => ?_) b o y x
  refine colsT_apply 4 _ _ _ _ (fun b c ky y X => dil ((netR V0).quant (imgR V0 b)) c (y.val + ky.val) X) (fun b c ky y r => ?_) b c ky y kx x
  rw [v73_eq]
  exact rowsT_apply _ _ _ _ (fun b c Y r => dil ((netR V0).quant (imgR V0 b)) c Y r.val) (fun b c r x => v64_apply V0 b c r x) b c ky y r

theorem v92_eq : res_main_v92 V0 = Idealize.ShloMosaic.pad S256x32x35x35 ![0, 0, 2, 2] ![0, 0, 2, 2] ![0, 0, 1, 1] (dec1R V0)
    (constant (F := Ideal) S_ .f32 0x00000000#32) pads_S256x32x16x16_S256x32x35x35_000_000_221_221 h_S_ := rfl

/-- The decoder's first layer, spread. -/
theorem v92_apply (b : Fin 256) (c : Fin 32) (y x : Fin 35) : (res_main_v92 V0 (ix4 b c y x) : EReal) = dil ((netR V0).dec1 (imgR V0 b)) c y.val x.val := by
  rw [v92_eq]
  refine (spread_apply (B := 256) (C := 32) (H := 16) (P := 35) pads_S256x32x16x16_S256x32x35x35_000_000_221_221 (dec1R V0) _ const_zero h_S_ b c y x).trans ?_
  exact congrArg (fun f => dil f c y.val x.val) (funext fun c => funext fun y => funext fun x => dec1R_apply V0 b c y x)

theorem v101_eq : res_main_v101 V0 = rowsT (P := 35) (fun k => by revert k; decide) bcast_S256x32x32x35_S256x32x1x32x35_0_1_3_4
    concatenates_S256x32x1x32x35_S256x32x1x32x35_S256x32x1x32x35_S256x32x1x32x35_S256x32x4x32x35_d2 (res_main_v92 V0) := rfl

/-- The decoder's second layer. -/
def dec2R : A32 S256x3x32x32 :=
  layer (O := 3) (C := 32) (B := 256) (K := 4) (H := 32) dot_S3x32x4x4_S256x32x4x32x4x32_S3x256x32x32_132_142_0_035_n_n_wf
    transposes_S3x256x32x32_S256x3x32x32_1_0_2_3 bcast_S3_S1x3x1x1_1 bcast_S1x3x1x1_S256x3x32x32_0_1_2_3
    (transpose S3x32x4x4 [1, 0, 2, 3] (Host.reverse [2, 3] (V0 (Proc.devRef .tc main_arg7))) transposes_S32x3x4x4_S3x32x4x4_1_0_2_3) (V0 (Proc.devRef .tc main_arg8))
    (colsT (P := 35) 4 (fun k => by revert k; decide) bcast_S256x32x4x32x32_S256x32x4x32x1x32_0_1_2_3_5
      concatenates_S256x32x4x32x1x32_S256x32x4x32x1x32_S256x32x4x32x1x32_S256x32x4x32x1x32_S256x32x4x32x4x32_d4 (res_main_v101 V0))

theorem dec2R_apply (b : Fin 256) (o : Fin 3) (y x : Fin 32) : (dec2R V0 (ix4 b o y x) : EReal) = (netR V0).dec2 (imgR V0 b) o y x := by
  unfold dec2R
  refine layer_convT (P := 16) _ _ _ _ _ _ _ _ (fun b => (netR V0).dec1 (imgR V0 b)) (fun b c ky y kx x => ?_) b o y x
  refine colsT_apply 4 _ _ _ _ (fun b c ky y X => dil ((netR V0).dec1 (imgR V0 b)) c (y.val + ky.val) X) (fun b c ky y r => ?_) b c ky y kx x
  rw [v101_eq]
  exact rowsT_apply _ _ _ _ (fun b c Y r => dil ((netR V0).dec1 (imgR V0 b)) c Y r.val) (fun b c r x => v92_apply V0 b c r x) b c ky y r

theorem v116_eq : res_main_v116 V0 = subf (V0 (Proc.devRef .tc main_arg0)) (dec2R V0) := rfl

/-- The reconstruction's error at a pixel. -/
theorem v116_apply (b : Fin 256) (o : Fin 3) (y x : Fin 32) :
    (res_main_v116 V0 (ix4 b o y x) : EReal) = imgR V0 b o y x - (netR V0).dec2 (imgR V0 b) o y x := by
  rw [v116_eq]
  exact congrArg (fun z : EReal => imgR V0 b o y x - z) (dec2R_apply V0 b o y x)

end Cert.Vq

end
-- ==== Proof.RLoss.lean ====
/-
  The reference's result: the sums of the images' reconstruction and quantisation errors, weighed.
-/
module

public import proofs.«01_k».proof.Proof.RDec
public import proofs.«01_k».proof.Proof.Finite

@[expose] public section

noncomputable section

namespace Cert.Vq

open Idealize.ShloMosaic hiding ix0 ix1 ix2 ix3 ix4 ix5
open Idealize.ShloMosaic.ValueIdx Idealize.ShloMosaic.TcCoe Idealize.ShloMosaic.StableHlo
open Cert.ReferenceIdeal Cert.ReferenceIdeal.Gen Cert.ReferenceIdeal.Value

/-! ## Numbers -/

theorem half_word : (Ideal.ofBits .f32 0x3F000000#32 : EReal) = ((1 / 2 : ℝ) : EReal) := by
  simp [Ideal.ofBits, Ideal.ieee, -EReal.coe_mul]; norm_num

theorem count_word : (Ideal.ofBits .f32 0x43800000#32 : EReal) = ((256 : ℝ) : EReal) := by
  simp [Ideal.ofBits, Ideal.ieee, -EReal.coe_mul]; norm_num

theorem beta_word : (Ideal.ofBits .f32 0x3DCCCCCD#32 : EReal) = ((13421773 / 134217728 : ℝ) : EReal) := by
  simp [Ideal.ofBits, Ideal.ieee, -EReal.coe_mul]; norm_num

/-- Division by 256 is multiplication by its inverse. -/
theorem div_count (x : EReal) : Ideal.div x ((256 : ℝ) : EReal) = x * ((1 / 256 : ℝ) : EReal) := by
  unfold Ideal.div
  rw [if_neg (by exact_mod_cast (by norm_num : (256 : ℝ) ≠ 0)), ← EReal.coe_inv, one_div]

theorem real_mul_add (r : ℝ) (h : 0 ≤ r) (x y : EReal) : (r : EReal) * (x + y) = r * x + r * y :=
  EReal.left_distrib_of_nonneg_of_ne_top (by exact_mod_cast h) (EReal.coe_ne_top r) x y

theorem add_mul_real (r : ℝ) (h : 0 ≤ r) (x y : EReal) : (x + y) * (r : EReal) = x * r + y * r :=
  EReal.right_distrib_of_nonneg_of_ne_top (by exact_mod_cast h) (EReal.coe_ne_top r) x y

/-- A nonnegative real factor leaves a sum. -/
theorem real_mul_sum (r : ℝ) (h : 0 ≤ r) {ι : Type} (s : Finset ι) (f : ι → EReal) : ∑ i ∈ s, (r : EReal) * f i = r * ∑ i ∈ s, f i := by
  classical
  induction s using Finset.induction_on with
  | empty => simp
  | insert a s ha ih => rw [Finset.sum_insert ha, Finset.sum_insert ha, ih, real_mul_add r h]

/-! ## Sums over flattened places -/

/-- A sum over the flattened positions is the sum over rows and columns. -/
theorem sum_place (f : Fin 64 → EReal) : ∑ t, f t = ∑ y, ∑ x, f (place y x) := by
  rw [← Fintype.sum_prod_type' (f := fun y x => f (place y x))]
  symm
  refine Fintype.sum_equiv ⟨fun p : Fin 8 × Fin 8 => place p.1 p.2, fun t => (⟨t.val % 8, by omega⟩, ⟨t.val / 8, by omega⟩), fun p => ?_, fun t => ?_⟩ _ _ fun _ => rfl
  · have h1 := p.1.isLt
    have h2 := p.2.isLt
    refine Prod.ext (Fin.ext ?_) (Fin.ext ?_)
    · show (8 * p.2.val + p.1.val) % 8 = p.1.val
      omega
    · show (8 * p.2.val + p.1.val) / 8 = p.2.val
      omega
  · refine Fin.ext ?_
    show 8 * (t.val / 8) + t.val % 8 = t.val
    omega

/-- A pixel's place in the flattened image. -/
def pix (o : Fin 3) (y x : Fin 32) : Fin 3072 := ⟨(o.val * 32 + y.val) * 32 + x.val, by omega⟩

/-- A sum over the flattened image is the sum over channels, rows and columns. -/
theorem sum_pix (f : Fin 3072 → EReal) : ∑ t, f t = ∑ o, ∑ y, ∑ x, f (pix o y x) := by
  simp_rw [← Fintype.sum_prod_type' (f := fun y x => f (pix _ y x))]
  rw [← Fintype.sum_prod_type' (f := fun (o : Fin 3) (q : Fin 32 × Fin 32) => f (pix o q.1 q.2))]
  symm
  refine Fintype.sum_equiv ⟨fun p : Fin 3 × Fin 32 × Fin 32 => pix p.1 p.2.1 p.2.2,
    fun t => (⟨t.val / 1024, by omega⟩, ⟨t.val / 32 % 32, by omega⟩, ⟨t.val % 32, by omega⟩), fun p => ?_, fun t => ?_⟩ _ _ fun _ => rfl
  · have h1 := p.1.isLt
    have h2 := p.2.1.isLt
    have h3 := p.2.2.isLt
    refine Prod.ext (Fin.ext ?_) (Prod.ext (Fin.ext ?_) (Fin.ext ?_))
    · show ((p.1.val * 32 + p.2.1.val) * 32 + p.2.2.val) / 1024 = p.1.val
      omega
    · show ((p.1.val * 32 + p.2.1.val) * 32 + p.2.2.val) / 32 % 32 = p.2.1.val
      omega
    · show ((p.1.val * 32 + p.2.1.val) * 32 + p.2.2.val) % 32 = p.2.2.val
      omega
  · refine Fin.ext ?_
    show (t.val / 1024 * 32 + t.val / 32 % 32) * 32 + t.val % 32 = t.val
    omega

/-! ## The quantisation error -/

/-- Of finite values, a difference's square does not depend on its direction. -/
theorem sq_comm {x y : EReal} (hx : Fin' x) (hy : Fin' y) : (x - y) * (x - y) = (y - x) * (y - x) := by
  obtain ⟨a, rfl⟩ := hx
  obtain ⟨b, rfl⟩ := hy
  rw [← EReal.coe_sub, ← EReal.coe_sub, ← EReal.coe_mul, ← EReal.coe_mul]
  congr 1
  ring

/-- The distance of a finite encoding from a finite code is finite. -/
theorem fin_dist {N : Net} (hN : N.Finite) {I : Img} (hI : ∀ c y x, Fin' (I c y x)) (y x : Fin 8) (k : Fin 64) : Fin' (N.dist I y x k) := by
  choose e he using fun d => fin_enc hN hI d y x
  choose g hg using hN.code
  refine ⟨Real.sqrt (∑ d, (e d - g k d) * (e d - g k d)), ?_⟩
  unfold Net.dist Net.dist2
  simp only [he, hg]
  rw [← sqrt_coe (sq_nonneg' e g k)]
  exact congrArg Ideal.sqrt (sqd_coe e g k)

theorem fin_vq {N : Net} (hN : N.Finite) {I : Img} (hI : ∀ c y x, Fin' (I c y x)) : Fin' (N.vq I) :=
  fin_sum _ _ fun y => fin_sum _ _ fun x => fin_dist hN hI y x _

variable (V0 : Valuation τ sig (Elt Ideal))

theorem v124_apply (b : Fin 256) (y x : Fin 8) (d : Fin 64) :
    (res_main_v124 V0 (ix3 b (place y x) d) : EReal) = (netR V0).quant (imgR V0 b) d y x - (netR V0).enc (imgR V0 b) d y x := by
  unfold res_main_v124
  rw [subf_apply]
  exact congr (congrArg (fun u v : EReal => u - v) (v59_apply V0 b y x d)) (v43_apply V0 b y x d)

/-- Each position's quantisation error. -/
def errR : A32 S256x64 :=
  Host.sqrt (Host.reduceAdd (mulf (res_main_v124 V0) (res_main_v124 V0)) (constant S_ .f32 0x00000000#32) reducesTo_S256x64x64_S256x64_d2 h_S_)

theorem errR_apply (hN : (netR V0).Finite) (hI : ∀ b ch y x, Fin' (imgR V0 b ch y x)) (b : Fin 256) (y x : Fin 8) :
    (errR V0 (ix2 b (place y x)) : EReal) = (netR V0).dist (imgR V0 b) y x ((netR V0).tok (imgR V0 b) y x) := by
  unfold errR
  refine congrArg Ideal.sqrt (?_ : (Host.reduceAdd (F := Ideal) (φ := .f32) (mulf (res_main_v124 V0) (res_main_v124 V0))
    (constant S_ .f32 0x00000000#32) reducesTo_S256x64x64_S256x64_d2 h_S_ (ix2 b (place y x)) : EReal)
      = (netR V0).dist2 (imgR V0 b) y x ((netR V0).tok (imgR V0 b) y x))
  rw [Host.reduceAdd_apply, Ideal.hostReduceAdd_def]
  refine (Ideal.hostReduceAdd_r3_a2 _ _ _ _).trans ?_
  rw [const_zero, zero_add]
  refine Finset.sum_congr rfl fun d _ => ?_
  exact (congrArg (fun z : EReal => z * z) (v124_apply V0 b y x d)).trans (sq_comm (hN.code _ _) (fin_enc hN (hI b) d y x))

/-- The images' quantisation errors, summed. -/
def allVq : EReal := ∑ b, (netR V0).vq (imgR V0 b)

/-- The images' reconstruction errors, summed. -/
def allRecon : EReal := ∑ b, (netR V0).recon (imgR V0 b)

/-- The sum of an array's rows' sums. -/
theorem sum2_apply {n : ℕ} (X : A32 ⟨2, ![256, n]⟩) (h1 : (⟨2, ![256, n]⟩ : Shape).ReducesTo [1] S256) (i : S_.Idx) :
    (Host.reduceAdd (F := Ideal) (φ := .f32) (Host.reduceAdd (F := Ideal) (φ := .f32) X (constant S_ .f32 0x00000000#32) h1 h_S_) (constant S_ .f32 0x00000000#32)
      reducesTo_S256_S_d0 h_S_ i : EReal) = ∑ b : Fin 256, ∑ t : Fin n, (X (ix2 b t) : EReal) := by
  rw [Host.reduceAdd_apply, Ideal.hostReduceAdd_def]
  refine (Ideal.hostReduceAdd_r1_a0 _ _ _ _).trans ?_
  rw [const_zero, zero_add]
  refine Finset.sum_congr rfl fun b _ => ?_
  rw [Host.reduceAdd_apply, Ideal.hostReduceAdd_def]
  refine (Ideal.hostReduceAdd_r2_a1 _ _ _ _).trans ?_
  rw [const_zero, zero_add]
  rfl

theorem v130_eq : res_main_v130 V0 = Host.divf (Host.reduceAdd (Host.reduceAdd (errR V0) (constant S_ .f32 0x00000000#32) reducesTo_S256x64_S256_d1 h_S_)
    (constant S_ .f32 0x00000000#32) reducesTo_S256_S_d0 h_S_) (constant S_ .f32 0x43800000#32) := rfl

/-- The mean quantisation error. -/
theorem v130_apply (hN : (netR V0).Finite) (hI : ∀ b ch y x, Fin' (imgR V0 b ch y x)) (i : S_.Idx) :
    (res_main_v130 V0 i : EReal) = allVq V0 * ((1 / 256 : ℝ) : EReal) := by
  rw [v130_eq]
  refine (congr (congrArg Ideal.div ((sum2_apply (errR V0) reducesTo_S256x64_S256_d1 i).trans ?_)) count_word).trans (div_count _)
  refine Finset.sum_congr rfl fun b _ => ?_
  rw [sum_place]
  exact Finset.sum_congr rfl fun y _ => Finset.sum_congr rfl fun x _ => errR_apply V0 hN hI b y x

/-! ## The reconstruction error -/

/-- Half of each pixel's squared error, flattened. -/
def halfR : A32 S256x3072 :=
  shapeCast _ (mulf (broadcastInDim S256x3x32x32 ![] bcast_S_S256x3x32x32 (constant S_ .f32 0x3F000000#32)) (mulf (res_main_v116 V0) (res_main_v116 V0)))
    shapeCasts_S256x3x32x32_S256x3072

theorem halfR_apply (b : Fin 256) (o : Fin 3) (y x : Fin 32) : (halfR V0 (ix2 b (pix o y x)) : EReal)
    = ((1 / 2 : ℝ) : EReal) * ((imgR V0 b o y x - (netR V0).dec2 (imgR V0 b) o y x) * (imgR V0 b o y x - (netR V0).dec2 (imgR V0 b) o y x)) := by
  unfold halfR
  refine (shapeCast_apply (s := S256x3x32x32) (t := S256x3072) _ _ _ (ix4 b o y x) ?_).trans ?_
  · rw [Shape.rowMajor_val_four, Shape.rowMajor_val_two]
    show ((b.val * 3 + o.val) * 32 + y.val) * 32 + x.val = b.val * 3072 + ((o.val * 32 + y.val) * 32 + x.val)
    ring
  · rw [mulf_apply]
    refine congr (congrArg (fun u v : EReal => u * v) half_word) ?_
    exact congrArg (fun z : EReal => z * z) (v116_apply V0 b o y x)

/-- The reference's result. -/
def lossR : A32 S1x1 :=
  shapeCast S1x1 (addf (addf (Host.divf (Host.reduceAdd (Host.reduceAdd (halfR V0) (constant S_ .f32 0x00000000#32) reducesTo_S256x3072_S256_d1 h_S_)
    (constant S_ .f32 0x00000000#32) reducesTo_S256_S_d0 h_S_) (constant S_ .f32 0x43800000#32)) (res_main_v130 V0))
    (mulf (constant S_ .f32 0x3DCCCCCD#32) (res_main_v130 V0))) shapeCasts_S_S1x1

/-- The mean of half the reconstruction errors. -/
theorem mean_apply (i : S_.Idx) :
    (Host.divf (F := Ideal) (φ := .f32) (Host.reduceAdd (Host.reduceAdd (halfR V0) (constant S_ .f32 0x00000000#32) reducesTo_S256x3072_S256_d1 h_S_)
      (constant S_ .f32 0x00000000#32) reducesTo_S256_S_d0 h_S_) (constant S_ .f32 0x43800000#32) i : EReal)
      = ((1 / 2 : ℝ) : EReal) * allRecon V0 * ((1 / 256 : ℝ) : EReal) := by
  refine (congr (congrArg Ideal.div ((sum2_apply (halfR V0) reducesTo_S256x3072_S256_d1 i).trans ?_)) count_word).trans (div_count _)
  have hh : (0 : ℝ) ≤ 1 / 2 := by norm_num
  unfold allRecon
  rw [← real_mul_sum _ hh]
  refine Finset.sum_congr rfl fun b _ => ?_
  rw [sum_pix]
  unfold Net.recon
  rw [← real_mul_sum _ hh]
  refine Finset.sum_congr rfl fun o _ => ?_
  rw [← real_mul_sum _ hh]
  refine Finset.sum_congr rfl fun y _ => ?_
  rw [← real_mul_sum _ hh]
  exact Finset.sum_congr rfl fun x _ => halfR_apply V0 b o y x

/-- The result's one entry: the mean reconstruction error, the mean quantisation error, and a share of the latter again. -/
theorem lossR_apply (hN : (netR V0).Finite) (hI : ∀ b ch y x, Fin' (imgR V0 b ch y x)) :
    (lossR V0 (ix2 0 0) : EReal) = ((1 / 2 : ℝ) : EReal) * allRecon V0 * ((1 / 256 : ℝ) : EReal) + allVq V0 * ((1 / 256 : ℝ) : EReal)
      + ((13421773 / 134217728 : ℝ) : EReal) * (allVq V0 * ((1 / 256 : ℝ) : EReal)) := by
  unfold lossR
  refine (shapeCast_apply (s := S_) (t := S1x1) _ _ _ ix0 rfl).trans ?_
  rw [addf_apply, addf_apply, mulf_apply]
  refine congr (congrArg (fun u v : EReal => u + v) (congr (congrArg (fun u v : EReal => u + v) (mean_apply V0 ix0)) (v130_apply V0 hN hI ix0))) ?_
  exact congr (congrArg (fun u v : EReal => u * v) beta_word) (v130_apply V0 hN hI ix0)

end Cert.Vq

end
-- ==== Proof.Equation.lean ====
/-
  The equation: the two blocks' shares add up to the reference's result.
-/
module

public import proofs.«01_k».proof.Proof.KArr
public import proofs.«01_k».proof.Proof.RLoss

@[expose] public section

noncomputable section

namespace Cert.Vq

open Idealize.ShloMosaic

/-- A sum over the images is the sum over the first block's and the second block's. -/
theorem sum_blocks (f : Fin 256 → EReal) : ∑ b, f b = (∑ n : Fin 128, f ⟨128 * 0 + n.val, by omega⟩) + ∑ n : Fin 128, f ⟨128 * 1 + n.val, by omega⟩ := by
  refine (Fin.sum_univ_add (a := 128) (b := 128) f).trans (congr (congrArg (fun u v : EReal => u + v) ?_) ?_)
  · exact Finset.sum_congr rfl fun n _ => congrArg f (Fin.ext (by show n.val = _; dsimp only; omega))
  · exact Finset.sum_congr rfl fun n _ => congrArg f (Fin.ext rfl)

/-- A block's share, its two parts apart. -/
theorem share_eq (N : Net) (im : Fin 128 → Img) : share N im = ((1 / 2 : ℝ) : EReal) * (∑ n, N.recon (im n)) * ((1 / 256 : ℝ) : EReal)
    + ((147639501 / 134217728 : ℝ) : EReal) * (∑ n, N.vq (im n)) * ((1 / 256 : ℝ) : EReal) :=
  add_mul_real _ (by norm_num) _ _

/-- Twice counted, once whole and once by its share, a finite value is multiplied by one and the share. -/
theorem weigh (x y : ℝ) : ((147639501 / 134217728 : ℝ) : EReal) * (x : EReal) * ((1 / 256 : ℝ) : EReal) + ((147639501 / 134217728 : ℝ) : EReal) * (y : EReal) * ((1 / 256 : ℝ) : EReal)
    = ((x : EReal) + y) * ((1 / 256 : ℝ) : EReal) + ((13421773 / 134217728 : ℝ) : EReal) * (((x : EReal) + y) * ((1 / 256 : ℝ) : EReal)) := by
  simp only [← EReal.coe_mul, ← EReal.coe_add]
  congr 1
  ring

/-- The blocks' shares add up to the whole. -/
theorem shares_eq (N : Net) (im : Fin 256 → Img) (hN : N.Finite) (hI : ∀ b ch y x, Fin' (im b ch y x)) :
    0 + share N (fun n => im ⟨128 * 0 + n.val, by omega⟩) + share N (fun n => im ⟨128 * 1 + n.val, by omega⟩)
      = ((1 / 2 : ℝ) : EReal) * (∑ b, N.recon (im b)) * ((1 / 256 : ℝ) : EReal) + (∑ b, N.vq (im b)) * ((1 / 256 : ℝ) : EReal)
        + ((13421773 / 134217728 : ℝ) : EReal) * ((∑ b, N.vq (im b)) * ((1 / 256 : ℝ) : EReal)) := by
  rw [zero_add, share_eq, share_eq, sum_blocks fun b => N.recon (im b), sum_blocks fun b => N.vq (im b)]
  obtain ⟨x, hx⟩ : Fin' (∑ n : Fin 128, N.vq (im ⟨128 * 0 + n.val, by omega⟩)) := fin_sum _ _ fun n => fin_vq hN (hI _)
  obtain ⟨y, hy⟩ : Fin' (∑ n : Fin 128, N.vq (im ⟨128 * 1 + n.val, by omega⟩)) := fin_sum _ _ fun n => fin_vq hN (hI _)
  rw [hx, hy, real_mul_add _ (by norm_num), add_mul_real _ (by norm_num), add_add_add_comm, weigh, ← add_assoc]

/-- Equal arrays hold one network. -/
theorem netOf_congr {w1 w1' b1 b1' w2 w2' b2 b2' d1 d1' e1 e1' d2 d2' e2 e2' code code'}
    (h1 : w1 = w1') (h2 : b1 = b1') (h3 : w2 = w2') (h4 : b2 = b2') (h5 : d1 = d1') (h6 : e1 = e1') (h7 : d2 = d2') (h8 : e2 = e2') (h9 : code = code') :
    netOf w1 b1 w2 b2 d1 e1 d2 e2 code = netOf w1' b1' w2' b2' d1' e1' d2' e2' code' := by
  subst h1 h2 h3 h4 h5 h6 h7 h8 h9
  rfl

/-- An array of one entry is that entry. -/
theorem ext_one {a b : A32 ⟨2, ![1, 1]⟩} (h : (a (ValueIdx.ix2 0 0) : EReal) = b (ValueIdx.ix2 0 0)) : a = b := by
  funext i
  have hi : i = ValueIdx.ix2 0 0 := by
    funext a
    match a with
    | 0 => exact Subsingleton.elim (α := Fin 1) _ _
    | 1 => exact Subsingleton.elim (α := Fin 1) _ _
  rw [hi]
  exact h

/-- From equal finite arguments the reference's result and the kernel's are one. -/
theorem results_eq (V0 : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD)
    (hn : netR V0 = netK m c) (hi : imgR V0 = imgOf (m ((c.tc : Thread Cert.KernelIdeal.nD Cert.KernelIdeal.τ).loc Cert.KernelIdeal.main_arg0))) (hN : (netK m c).Finite)
    (hI : ∀ b ch y x, Fin' (imgOf (m ((c.tc : Thread Cert.KernelIdeal.nD Cert.KernelIdeal.τ).loc Cert.KernelIdeal.main_arg0)) b ch y x)) : lossR V0 = loss1 m c := by
  refine ext_one ?_
  refine (lossR_apply V0 (hn ▸ hN) (hi ▸ hI)).trans (Eq.trans ?_ (final_apply m c hN hI).symm)
  unfold allRecon allVq
  rw [hn, hi]
  exact (shares_eq (netK m c) (imgOf (m ((c.tc : Thread Cert.KernelIdeal.nD Cert.KernelIdeal.τ).loc Cert.KernelIdeal.main_arg0))) hN hI).symm

end Cert.Vq

end
-- ==== Proof.Reading.lean ====
/-
  What the precondition says: the entries of the arrays it names are real numbers.
-/
module

public import proofs.«01_k».proof.Defs
public import proofs.«01_k».proof.Proof.Finite
public import proofs.«01_k».proof.Proof.Inputs

@[expose] public section

noncomputable section

namespace Cert.Vq

open Idealize.ShloMosaic

/-- Below infinity in absolute value there are the real numbers only. -/
theorem fin_of_abs {x : EReal} (h : max x (-x) < ⊤) : Fin' x := by
  induction x with
  | bot => simp at h
  | top => simp at h
  | coe r => exact ⟨r, rfl⟩

/-- The test at an entry: its bit is one exactly when the entry is real. -/
theorem fin_of_bit {x : EReal} (h : (FloatOps.cmpf (F := Ideal) (φ := .f32) .olt (FloatOps.hostAbsf (F := Ideal) (φ := .f32) x) (Ideal.ofBits .f32 0x7F800000#32 : EReal)) = 1#1) : Fin' x := by
  have ht : (Ideal.ofBits .f32 0x7F800000#32 : EReal) = ⊤ := by simp [Ideal.ofBits, Ideal.ieee]
  rw [ht] at h
  refine fin_of_abs ?_
  by_contra hc
  have hb : BitVec.ofBool (decide (max x (-x) < (⊤ : EReal))) = 1#1 := h
  rw [decide_eq_false hc] at hb
  exact absurd hb (by decide)

end Cert.Vq

namespace Cert.KernelIdeal

open Idealize.ShloMosaic Cert.Vq

/-- Under the precondition the images, the encoder and the codebook are finite. -/
theorem reading [hPre : Cert.Pre_finite.Facts] (m : (ℓ : Loc nD τ sig) → Buf (Elt Ideal) ℓ) (h : Pre_KernelIdeal_finite m) (c : Dev nD) :
    (∀ b ch y x, Fin' (imgOf (m ((c.tc : Thread nD τ).loc main_arg0)) b ch y x))
      ∧ (netOf (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))).Finite := by
  obtain ⟨h0, h1, h2, h3, h4, h9⟩ := h c
  exact ⟨fun b ch y x => fin_of_bit (congrFun h0 _), fun _ _ _ _ => fin_of_bit (congrFun h1 _), fun _ => fin_of_bit (congrFun h2 _),
    fun _ _ _ _ => fin_of_bit (congrFun h3 _), fun _ => fin_of_bit (congrFun h4 _), fun _ _ => fin_of_bit (congrFun h9 _)⟩

end Cert.KernelIdeal

end
-- ==== Proof.lean ====
/- The assembly of the certificate. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.Pre_finite
public import proofs.«01_k».proof.Proof.Equation
public import proofs.«01_k».proof.Proof.Reading
public import Idealize.ShloMosaic.Lib.Quiescent

@[expose] public section

noncomputable section

namespace Cert.Proof

open Idealize.ShloMosaic Idealize.ShloMosaic.StableHlo Idealize.ShloMosaic.TcCoe Idealize.SL.Sem

/-- The kernel and the reference, from equal finite arguments, end with equal results. -/
theorem value : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hargs
  refine ⟨fun c => Cert.Vq.loss1 m c, ?_, ?_⟩
  · exact (θ_run _ _ _).mono (fun _ h c => ⟨(h c).1.trans (Cert.Vq.final_eq m c), (h c).2⟩) (Cert.KernelIdeal.Value.run_blocks m g)
  · refine (θ_run _ _ _).mono (fun _ h c => ⟨(h c).1.trans ?_, (h c).2⟩) (Cert.ReferenceIdeal.Value.run m' g')
    obtain ⟨hI, hN⟩ := Cert.KernelIdeal.reading (hPre := Cert.Pre_finite.Gen.facts) m hpre c
    obtain ⟨e0, e1, e2, e3, e4, e5, e6, e7, e8, e9⟩ := hargs c
    exact Cert.Vq.results_eq (launchContents m' c) m c (Cert.Vq.netOf_congr e1 e2 e3 e4 e5 e6 e7 e8 e9) (congrArg Cert.Vq.imgOf e0) hN hI

theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun _ h => ⟨fun c => (h c).2, sem_eq_zero_of_no_sems rfl _⟩) (Cert.ReferenceIdeal.Value.run m ρ),
  fun m ρ _ => (θ_run _ _ _).mono (fun _ h => ⟨fun c => (h c).2, sem_eq_zero_of_no_sems rfl _⟩) (Cert.ReferenceIdeal.Value.run m ρ),
  IdealRules.named_const.statement Cert.KernelIdeal.κ "c11" .f32 0x3F8CCCCD#32 ((147639501 / 134217728 : ℝ) : EReal) rfl,
  value⟩

end Cert.Proof

end
